-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)) (v6 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg3) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg3) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x256x1536 : Shape := ⟨3, ![24, 256, 1536]⟩
abbrev S24x256x48 : Shape := ⟨3, ![24, 256, 48]⟩
abbrev S4096x1536 : Shape := ⟨2, ![4096, 1536]⟩
abbrev S4096 : Shape := ⟨1, ![4096]⟩
abbrev S1536 : Shape := ⟨1, ![1536]⟩
abbrev S24x256x4096 : Shape := ⟨3, ![24, 256, 4096]⟩
abbrev S6144x1536 : Shape := ⟨2, ![6144, 1536]⟩
abbrev S6144x48 : Shape := ⟨2, ![6144, 48]⟩
abbrev S32x128 : Shape := ⟨2, ![32, 128]⟩
abbrev S1x1536 : Shape := ⟨2, ![1, 1536]⟩
abbrev S6144x4096 : Shape := ⟨2, ![6144, 4096]⟩
abbrev S4x1536 : Shape := ⟨2, ![4, 1536]⟩
abbrev S1536x1536 : Shape := ⟨2, ![1536, 1536]⟩
abbrev S1536x48 : Shape := ⟨2, ![1536, 48]⟩
abbrev S128x1536 : Shape := ⟨2, ![128, 1536]⟩
abbrev S1536x512 : Shape := ⟨2, ![1536, 512]⟩
abbrev S10x128x1536 : Shape := ⟨3, ![10, 128, 1536]⟩
abbrev S2x512x1536 : Shape := ⟨3, ![2, 512, 1536]⟩
abbrev S2x512x128 : Shape := ⟨3, ![2, 512, 128]⟩
abbrev S4x8x1536 : Shape := ⟨3, ![4, 8, 1536]⟩
abbrev S8x1536 : Shape := ⟨2, ![8, 1536]⟩
abbrev S128x128 : Shape := ⟨2, ![128, 128]⟩
abbrev S128x48 : Shape := ⟨2, ![128, 48]⟩
abbrev S128x80 : Shape := ⟨2, ![128, 80]⟩
abbrev S128x128x1 : Shape := ⟨3, ![128, 128, 1]⟩
abbrev S1x128 : Shape := ⟨2, ![1, 128]⟩
abbrev S1x128x128 : Shape := ⟨3, ![1, 128, 128]⟩
abbrev S256x1536 : Shape := ⟨2, ![256, 1536]⟩
abbrev S1x512x1536 : Shape := ⟨3, ![1, 512, 1536]⟩
abbrev S512x1536 : Shape := ⟨2, ![512, 1536]⟩
abbrev S512x256 : Shape := ⟨2, ![512, 256]⟩
abbrev S256x512 : Shape := ⟨2, ![256, 512]⟩
abbrev S1x512x128 : Shape := ⟨3, ![1, 512, 128]⟩
abbrev S512x128 : Shape := ⟨2, ![512, 128]⟩
abbrev S1x512x256 : Shape := ⟨3, ![1, 512, 256]⟩
abbrev S64x8x256 : Shape := ⟨3, ![64, 8, 256]⟩
abbrev S8x256 : Shape := ⟨2, ![8, 256]⟩
abbrev S1x8x256 : Shape := ⟨3, ![1, 8, 256]⟩
abbrev S16x8x128 : Shape := ⟨3, ![16, 8, 128]⟩
abbrev S8x128 : Shape := ⟨2, ![8, 128]⟩
abbrev S128 : Shape := ⟨1, ![128]⟩

abbrev nBuf : Space → Nat
  | .hbm => 20
  | .vmem => 29
  | .smem => 0
  | _ => 0

abbrev bufTy : (tb : Table) → Fin (tcTables nBuf tb) → BufTy
  | .hbm, ⟨0, _⟩ => ⟨S24x256x1536, .fp8e4m3⟩
  | .hbm, ⟨1, _⟩ => ⟨S24x256x48, .f32⟩
  | .hbm, ⟨2, _⟩ => ⟨S4096x1536, .f32⟩
  | .hbm, ⟨3, _⟩ => ⟨S4096, .f32⟩
  | .hbm, ⟨4, _⟩ => ⟨S4096x1536, .f32⟩
  | .hbm, ⟨5, _⟩ => ⟨S4096, .f32⟩
  | .hbm, ⟨6, _⟩ => ⟨S1536, .f32⟩
  | .hbm, ⟨7, _⟩ => ⟨S24x256x4096, .bf16⟩
  | .hbm, ⟨8, _⟩ => ⟨S6144x1536, .fp8e4m3⟩
  | .hbm, ⟨9, _⟩ => ⟨S6144x48, .f32⟩
  | .hbm, ⟨10, _⟩ => ⟨S32x128, .f32⟩
  | .hbm, ⟨11, _⟩ => ⟨S32x128, .f32⟩
  | .hbm, ⟨12, _⟩ => ⟨S1x1536, .f32⟩
  | .hbm, ⟨13, _⟩ => ⟨S6144x4096, .bf16⟩
  | .hbm, ⟨14, _⟩ => ⟨S4x1536, .f32⟩
  | .hbm, ⟨15, _⟩ => ⟨S4096x1536, .f32⟩
  | .hbm, ⟨16, _⟩ => ⟨S32x128, .f32⟩
  | .hbm, ⟨17, _⟩ => ⟨S1x1536, .f32⟩
  | .hbm, ⟨18, _⟩ => ⟨S32x128, .f32⟩
  | .hbm, ⟨19, _⟩ => ⟨S4096x1536, .i8⟩
  | .local _ .vmem, ⟨0, _⟩ => ⟨S1536x1536, .fp8e4m3⟩
  | .local _ .vmem, ⟨1, _⟩ => ⟨S1536x1536, .fp8e4m3⟩
  | .local _ .vmem, ⟨2, _⟩ => ⟨S1536x48, .f32⟩
  | .local _ .vmem, ⟨3, _⟩ => ⟨S1536x48, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S32x128, .f32⟩
  | .local _ .vmem, ⟨9, _⟩ => ⟨S32x128, .f32⟩
  | .local _ .vmem, ⟨10, _⟩ => ⟨S1x1536, .f32⟩
  | .local _ .vmem, ⟨11, _⟩ => ⟨S1536x512, .bf16⟩
  | .local _ .vmem, ⟨12, _⟩ => ⟨S1536x512, .bf16⟩
  | .local _ .vmem, ⟨13, _⟩ => ⟨S4x1536, .f32⟩
  | .local _ .vmem, ⟨14, _⟩ => ⟨S128x1536, .f32⟩
  | .local _ .vmem, ⟨15, _⟩ => ⟨S128x1536, .f32⟩
  | .local _ .vmem, ⟨16, _⟩ => ⟨S32x128, .f32⟩
  | .local _ .vmem, ⟨17, _⟩ => ⟨S1x1536, .f32⟩
  | .local _ .vmem, ⟨18, _⟩ => ⟨S32x128, .f32⟩
  | .local _ .vmem, ⟨19, _⟩ => ⟨S128x1536, .i8⟩
  | .local _ .vmem, ⟨20, _⟩ => ⟨S128x1536, .i8⟩
  | .local _ .vmem, ⟨21, _⟩ => ⟨S6144x1536, .bf16⟩
  | .local _ .vmem, ⟨22, _⟩ => ⟨S10x128x1536, .f32⟩
  | .local _ .vmem, ⟨23, _⟩ => ⟨S2x512x1536, .bf16⟩
  | .local _ .vmem, ⟨24, _⟩ => ⟨S2x512x128, .f32⟩
  | .local _ .vmem, ⟨25, _⟩ => ⟨S2x512x1536, .bf16⟩
  | .local _ .vmem, ⟨26, _⟩ => ⟨S2x512x1536, .f32⟩
  | .local _ .vmem, ⟨27, _⟩ => ⟨S4x8x1536, .f32⟩
  | .local _ .vmem, ⟨28, _⟩ => ⟨S8x1536, .f32⟩
  | _, _ => ⟨S24x256x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![41], ![false]⟩

def k0_cond1 (i : grid0.Coords) : BitVec 1 :=
  let arg0 : BitVec 32 := BitVec.ofNat 32 (i 0).val
  let c4_i32_1 : BitVec 32 := 4#32
  let v3 : BitVec 1 := Scalar.cmpi .slt arg0 c4_i32_1
  let v4 : BitVec 32 := Scalar.extui v3
  let c0_i32 : BitVec 32 := 0#32
  let v5 : BitVec 1 := Scalar.cmpi .ne v4 c0_i32
  v5

def k0_off1 (i : grid0.Coords) (c0_i32_26 : BitVec 32) : Fin 2 → Nat :=
  let arg0 : BitVec 32 := BitVec.ofNat 32 (i 0).val
  let c1536_i32 : BitVec 32 := 1536#32
  let v72 : BitVec 32 := Scalar.muli arg0 c1536_i32
  let v73 : BitVec 32 := Scalar.addi v72 c0_i32_26
  let v74 : Index := Scalar.indexCast v73
  let c0_27 : Index := 0#32
  ![v74.toNat, 0]
def k0_off2 (i : grid0.Coords) (c0_i32_33 : BitVec 32) : Fin 2 → Nat :=
  let arg0 : BitVec 32 := BitVec.ofNat 32 (i 0).val
  let c1536_i32_32 : BitVec 32 := 1536#32
  let v93 : BitVec 32 := Scalar.muli arg0 c1536_i32_32
  let v94 : BitVec 32 := Scalar.addi v93 c0_i32_33
  let v95 : Index := Scalar.indexCast v94
  let c128_34 : Index := 128#32
  ![v95.toNat, 128]
def k0_off3 (i : grid0.Coords) (c0_i32_39 : BitVec 32) : Fin 2 → Nat :=
  let arg0 : BitVec 32 := BitVec.ofNat 32 (i 0).val
  let c1536_i32_38 : BitVec 32 := 1536#32
  let v114 : BitVec 32 := Scalar.muli arg0 c1536_i32_38
  let v115 : BitVec 32 := Scalar.addi v114 c0_i32_39
  let v116 : Index := Scalar.indexCast v115
  let c256_40 : Index := 256#32
  ![v116.toNat, 256]
def k0_off4 (i : grid0.Coords) (c0_i32_45 : BitVec 32) : Fin 2 → Nat :=
  let arg0 : BitVec 32 := BitVec.ofNat 32 (i 0).val
  let c1536_i32_44 : BitVec 32 := 1536#32
  let v135 : BitVec 32 := Scalar.muli arg0 c1536_i32_44
  let v136 : BitVec 32 := Scalar.addi v135 c0_i32_45
  let v137 : Index := Scalar.indexCast v136
  let c384_46 : Index := 384#32
  ![v137.toNat, 384]
def k0_off5 (i : grid0.Coords) (c0_i32_51 : BitVec 32) : Fin 2 → Nat :=
  let arg0 : BitVec 32 := BitVec.ofNat 32 (i 0).val
  let c1536_i32_50 : BitVec 32 := 1536#32
  let v156 : BitVec 32 := Scalar.muli arg0 c1536_i32_50
  let v157 : BitVec 32 := Scalar.addi v156 c0_i32_51
  let v158 : Index := Scalar.indexCast v157
  let c512_52 : Index := 512#32
  ![v158.toNat, 512]
def k0_off6 (i : grid0.Coords) (c0_i32_57 : BitVec 32) : Fin 2 → Nat :=
  let arg0 : BitVec 32 := BitVec.ofNat 32 (i 0).val
  let c1536_i32_56 : BitVec 32 := 1536#32
  let v177 : BitVec 32 := Scalar.muli arg0 c1536_i32_56
  let v178 : BitVec 32 := Scalar.addi v177 c0_i32_57
  let v179 : Index := Scalar.indexCast v178
  let c640_58 : Index := 640#32
  ![v179.toNat, 640]
def k0_off7 (i : grid0.Coords) (c0_i32_63 : BitVec 32) : Fin 2 → Nat :=
  let arg0 : BitVec 32 := BitVec.ofNat 32 (i 0).val
  let c1536_i32_62 : BitVec 32 := 1536#32
  let v198 : BitVec 32 := Scalar.muli arg0 c1536_i32_62
  let v199 : BitVec 32 := Scalar.addi v198 c0_i32_63
  let v200 : Index := Scalar.indexCast v199
  let c768_64 : Index := 768#32
  ![v200.toNat, 768]
def k0_off8 (i : grid0.Coords) (c0_i32_69 : BitVec 32) : Fin 2 → Nat :=
  let arg0 : BitVec 32 := BitVec.ofNat 32 (i 0).val
  let c1536_i32_68 : BitVec 32 := 1536#32
  let v219 : BitVec 32 := Scalar.muli arg0 c1536_i32_68
  let v220 : BitVec 32 := Scalar.addi v219 c0_i32_69
  let v221 : Index := Scalar.indexCast v220
  let c896_70 : Index := 896#32
  ![v221.toNat, 896]
def k0_off9 (i : grid0.Coords) (c0_i32_76 : BitVec 32) : Fin 2 → Nat :=
  let arg0 : BitVec 32 := BitVec.ofNat 32 (i 0).val
  let c1536_i32_75 : BitVec 32 := 1536#32
  let v240 : BitVec 32 := Scalar.muli arg0 c1536_i32_75
  let v241 : BitVec 32 := Scalar.addi v240 c0_i32_76
  let v242 : Index := Scalar.indexCast v241
  let c1024_77 : Index := 1024#32
  ![v242.toNat, 1024]
def k0_off10 (i : grid0.Coords) (c0_i32_82 : BitVec 32) : Fin 2 → Nat :=
  let arg0 : BitVec 32 := BitVec.ofNat 32 (i 0).val
  let c1536_i32_81 : BitVec 32 := 1536#32
  let v261 : BitVec 32 := Scalar.muli arg0 c1536_i32_81
  let v262 : BitVec 32 := Scalar.addi v261 c0_i32_82
  let v263 : Index := Scalar.indexCast v262
  let c1152_83 : Index := 1152#32
  ![v263.toNat, 1152]
def k0_off11 (i : grid0.Coords) (c0_i32_88 : BitVec 32) : Fin 2 → Nat :=
  let arg0 : BitVec 32 := BitVec.ofNat 32 (i 0).val
  let c1536_i32_87 : BitVec 32 := 1536#32
  let v282 : BitVec 32 := Scalar.muli arg0 c1536_i32_87
  let v283 : BitVec 32 := Scalar.addi v282 c0_i32_88
  let v284 : Index := Scalar.indexCast v283
  let c1280_89 : Index := 1280#32
  ![v284.toNat, 1280]
def k0_off12 (i : grid0.Coords) (c0_i32_94 : BitVec 32) : Fin 2 → Nat :=
  let arg0 : BitVec 32 := BitVec.ofNat 32 (i 0).val
  let c1536_i32_93 : BitVec 32 := 1536#32
  let v303 : BitVec 32 := Scalar.muli arg0 c1536_i32_93
  let v304 : BitVec 32 := Scalar.addi v303 c0_i32_94
  let v305 : Index := Scalar.indexCast v304
  let c1408_95 : Index := 1408#32
  ![v305.toNat, 1408]
def k0_off13 (i : grid0.Coords) : Fin 2 → Nat :=
  let arg0 : BitVec 32 := BitVec.ofNat 32 (i 0).val
  let c31_i32_1175 : BitVec 32 := 31#32
  let v3125 : BitVec 32 := Scalar.minsi arg0 c31_i32_1175
  let v3126 : Index := Scalar.indexCast v3125
  let c0_1176 : Index := 0#32
  ![v3126.toNat, 0]
def k0_mult1 (i : grid0.Coords) : BitVec 32 :=
  let arg0 : BitVec 32 := BitVec.ofNat 32 (i 0).val
  let c31_i32_1175 : BitVec 32 := 31#32
  let v3125 : BitVec 32 := Scalar.minsi arg0 c31_i32_1175
  let c4_i32_1179 : BitVec 32 := 4#32
  let v3140 : BitVec 32 := Scalar.remsi v3125 c4_i32_1179
  let c128_i32_1180 : BitVec 32 := 128#32
  let v3141 : BitVec 32 := Scalar.muli v3140 c128_i32_1180
  v3141
def k0_off14 (i : grid0.Coords) : Fin 3 → Nat :=
  let arg0 : BitVec 32 := BitVec.ofNat 32 (i 0).val
  let c31_i32_1175 : BitVec 32 := 31#32
  let v3125 : BitVec 32 := Scalar.minsi arg0 c31_i32_1175
  let c4_i32_1178 : BitVec 32 := 4#32
  let v3138 : BitVec 32 := Scalar.divsi v3125 c4_i32_1178
  let c2_i32 : BitVec 32 := 2#32
  let v3139 : BitVec 32 := Scalar.remsi v3138 c2_i32
  let v3143 : Index := Scalar.indexCast v3139
  let c4_i32_1179 : BitVec 32 := 4#32
  let v3140 : BitVec 32 := Scalar.remsi v3125 c4_i32_1179
  let c128_i32_1180 : BitVec 32 := 128#32
  let v3141 : BitVec 32 := Scalar.muli v3140 c128_i32_1180
  let v3142 : BitVec 32 := v3141
  let v3144 : Index := Scalar.indexCast v3142
  let c0_1181 : Index := 0#32
  ![v3143.toNat, v3144.toNat, 0]
def k0_off15 (i : grid0.Coords) : Fin 3 → Nat :=
  let arg0 : BitVec 32 := BitVec.ofNat 32 (i 0).val
  let c31_i32_1175 : BitVec 32 := 31#32
  let v3125 : BitVec 32 := Scalar.minsi arg0 c31_i32_1175
  let c10_i32 : BitVec 32 := 10#32
  let v3148 : BitVec 32 := Scalar.remsi v3125 c10_i32
  let v3166 : Index := Scalar.indexCast v3148
  let c0_1188 : Index := 0#32
  let c0_1189 : Index := 0#32
  ![v3166.toNat, 0, 0]
def k0_off16 (i : grid0.Coords) : Fin 3 → Nat :=
  let arg0 : BitVec 32 := BitVec.ofNat 32 (i 0).val
  let c31_i32_1175 : BitVec 32 := 31#32
  let v3125 : BitVec 32 := Scalar.minsi arg0 c31_i32_1175
  let c4_i32_1178 : BitVec 32 := 4#32
  let v3138 : BitVec 32 := Scalar.divsi v3125 c4_i32_1178
  let c2_i32 : BitVec 32 := 2#32
  let v3139 : BitVec 32 := Scalar.remsi v3138 c2_i32
  let v3171 : Index := Scalar.indexCast v3139
  let c4_i32_1179 : BitVec 32 := 4#32
  let v3140 : BitVec 32 := Scalar.remsi v3125 c4_i32_1179
  let c128_i32_1180 : BitVec 32 := 128#32
  let v3141 : BitVec 32 := Scalar.muli v3140 c128_i32_1180
  let v3142 : BitVec 32 := v3141
  let v3172 : Index := Scalar.indexCast v3142
  let c0_1190 : Index := 0#32
  ![v3171.toNat, v3172.toNat, 0]
def k0_off17 (i : grid0.Coords) : Fin 3 → Nat :=
  let arg0 : BitVec 32 := BitVec.ofNat 32 (i 0).val
  let c31_i32_1175 : BitVec 32 := 31#32
  let v3125 : BitVec 32 := Scalar.minsi arg0 c31_i32_1175
  let c10_i32 : BitVec 32 := 10#32
  let v3148 : BitVec 32 := Scalar.remsi v3125 c10_i32
  let v3195 : Index := Scalar.indexCast v3148
  let c0_1201 : Index := 0#32
  let c128_1202 : Index := 128#32
  ![v3195.toNat, 0, 128]
def k0_off18 (i : grid0.Coords) : Fin 3 → Nat :=
  let arg0 : BitVec 32 := BitVec.ofNat 32 (i 0).val
  let c31_i32_1175 : BitVec 32 := 31#32
  let v3125 : BitVec 32 := Scalar.minsi arg0 c31_i32_1175
  let c4_i32_1178 : BitVec 32 := 4#32
  let v3138 : BitVec 32 := Scalar.divsi v3125 c4_i32_1178
  let c2_i32 : BitVec 32 := 2#32
  let v3139 : BitVec 32 := Scalar.remsi v3138 c2_i32
  let v3200 : Index := Scalar.indexCast v3139
  let c4_i32_1179 : BitVec 32 := 4#32
  let v3140 : BitVec 32 := Scalar.remsi v3125 c4_i32_1179
  let c128_i32_1180 : BitVec 32 := 128#32
  let v3141 : BitVec 32 := Scalar.muli v3140 c128_i32_1180
  let v3142 : BitVec 32 := v3141
  let v3201 : Index := Scalar.indexCast v3142
  let c128_1203 : Index := 128#32
  ![v3200.toNat, v3201.toNat, 128]
def k0_off19 (i : grid0.Coords) : Fin 3 → Nat :=
  let arg0 : BitVec 32 := BitVec.ofNat 32 (i 0).val
  let c31_i32_1175 : BitVec 32 := 31#32
  let v3125 : BitVec 32 := Scalar.minsi arg0 c31_i32_1175
  let c10_i32 : BitVec 32 := 10#32
  let v3148 : BitVec 32 := Scalar.remsi v3125 c10_i32
  let v3224 : Index := Scalar.indexCast v3148
  let c0_1214 : Index := 0#32
  let c256_1215 : Index := 256#32
  ![v3224.toNat, 0, 256]
def k0_off20 (i : grid0.Coords) : Fin 3 → Nat :=
  let arg0 : BitVec 32 := BitVec.ofNat 32 (i 0).val
  let c31_i32_1175 : BitVec 32 := 31#32
  let v3125 : BitVec 32 := Scalar.minsi arg0 c31_i32_1175
  let c4_i32_1178 : BitVec 32 := 4#32
  let v3138 : BitVec 32 := Scalar.divsi v3125 c4_i32_1178
  let c2_i32 : BitVec 32 := 2#32
  let v3139 : BitVec 32 := Scalar.remsi v3138 c2_i32
  let v3229 : Index := Scalar.indexCast v3139
  let c4_i32_1179 : BitVec 32 := 4#32
  let v3140 : BitVec 32 := Scalar.remsi v3125 c4_i32_1179
  let c128_i32_1180 : BitVec 32 := 128#32
  let v3141 : BitVec 32 := Scalar.muli v3140 c128_i32_1180
  let v3142 : BitVec 32 := v3141
  let v3230 : Index := Scalar.indexCast v3142
  let c256_1216 : Index := 256#32
  ![v3229.toNat, v3230.toNat, 256]
def k0_off21 (i : grid0.Coords) : Fin 3 → Nat :=
  let arg0 : BitVec 32 := BitVec.ofNat 32 (i 0).val
  let c31_i32_1175 : BitVec 32 := 31#32
  let v3125 : BitVec 32 := Scalar.minsi arg0 c31_i32_1175
  let c10_i32 : BitVec 32 := 10#32
  let v3148 : BitVec 32 := Scalar.remsi v3125 c10_i32
  let v3253 : Index := Scalar.indexCast v3148
  let c0_1227 : Index := 0#32
  let c384_1228 : Index := 384#32
  ![v3253.toNat, 0, 384]
def k0_off22 (i : grid0.Coords) : Fin 3 → Nat :=
  let arg0 : BitVec 32 := BitVec.ofNat 32 (i 0).val
  let c31_i32_1175 : BitVec 32 := 31#32
  let v3125 : BitVec 32 := Scalar.minsi arg0 c31_i32_1175
  let c4_i32_1178 : BitVec 32 := 4#32
  let v3138 : BitVec 32 := Scalar.divsi v3125 c4_i32_1178
  let c2_i32 : BitVec 32 := 2#32
  let v3139 : BitVec 32 := Scalar.remsi v3138 c2_i32
  let v3258 : Index := Scalar.indexCast v3139
  let c4_i32_1179 : BitVec 32 := 4#32
  let v3140 : BitVec 32 := Scalar.remsi v3125 c4_i32_1179
  let c128_i32_1180 : BitVec 32 := 128#32
  let v3141 : BitVec 32 := Scalar.muli v3140 c128_i32_1180
  let v3142 : BitVec 32 := v3141
  let v3259 : Index := Scalar.indexCast v3142
  let c384_1229 : Index := 384#32
  ![v3258.toNat, v3259.toNat, 384]
def k0_off23 (i : grid0.Coords) : Fin 3 → Nat :=
  let arg0 : BitVec 32 := BitVec.ofNat 32 (i 0).val
  let c31_i32_1175 : BitVec 32 := 31#32
  let v3125 : BitVec 32 := Scalar.minsi arg0 c31_i32_1175
  let c10_i32 : BitVec 32 := 10#32
  let v3148 : BitVec 32 := Scalar.remsi v3125 c10_i32
  let v3282 : Index := Scalar.indexCast v3148
  let c0_1240 : Index := 0#32
  let c512_1241 : Index := 512#32
  ![v3282.toNat, 0, 512]
def k0_off24 (i : grid0.Coords) : Fin 3 → Nat :=
  let arg0 : BitVec 32 := BitVec.ofNat 32 (i 0).val
  let c31_i32_1175 : BitVec 32 := 31#32
  let v3125 : BitVec 32 := Scalar.minsi arg0 c31_i32_1175
  let c4_i32_1178 : BitVec 32 := 4#32
  let v3138 : BitVec 32 := Scalar.divsi v3125 c4_i32_1178
  let c2_i32 : BitVec 32 := 2#32
  let v3139 : BitVec 32 := Scalar.remsi v3138 c2_i32
  let v3287 : Index := Scalar.indexCast v3139
  let c4_i32_1179 : BitVec 32 := 4#32
  let v3140 : BitVec 32 := Scalar.remsi v3125 c4_i32_1179
  let c128_i32_1180 : BitVec 32 := 128#32
  let v3141 : BitVec 32 := Scalar.muli v3140 c128_i32_1180
  let v3142 : BitVec 32 := v3141
  let v3288 : Index := Scalar.indexCast v3142
  let c512_1242 : Index := 512#32
  ![v3287.toNat, v3288.toNat, 512]
def k0_off25 (i : grid0.Coords) : Fin 3 → Nat :=
  let arg0 : BitVec 32 := BitVec.ofNat 32 (i 0).val
  let c31_i32_1175 : BitVec 32 := 31#32
  let v3125 : BitVec 32 := Scalar.minsi arg0 c31_i32_1175
  let c10_i32 : BitVec 32 := 10#32
  let v3148 : BitVec 32 := Scalar.remsi v3125 c10_i32
  let v3311 : Index := Scalar.indexCast v3148
  let c0_1253 : Index := 0#32
  let c640_1254 : Index := 640#32
  ![v3311.toNat, 0, 640]
def k0_off26 (i : grid0.Coords) : Fin 3 → Nat :=
  let arg0 : BitVec 32 := BitVec.ofNat 32 (i 0).val
  let c31_i32_1175 : BitVec 32 := 31#32
  let v3125 : BitVec 32 := Scalar.minsi arg0 c31_i32_1175
  let c4_i32_1178 : BitVec 32 := 4#32
  let v3138 : BitVec 32 := Scalar.divsi v3125 c4_i32_1178
  let c2_i32 : BitVec 32 := 2#32
  let v3139 : BitVec 32 := Scalar.remsi v3138 c2_i32
  let v3316 : Index := Scalar.indexCast v3139
  let c4_i32_1179 : BitVec 32 := 4#32
  let v3140 : BitVec 32 := Scalar.remsi v3125 c4_i32_1179
  let c128_i32_1180 : BitVec 32 := 128#32
  let v3141 : BitVec 32 := Scalar.muli v3140 c128_i32_1180
  let v3142 : BitVec 32 := v3141
  let v3317 : Index := Scalar.indexCast v3142
  let c640_1255 : Index := 640#32
  ![v3316.toNat, v3317.toNat, 640]
def k0_off27 (i : grid0.Coords) : Fin 3 → Nat :=
  let arg0 : BitVec 32 := BitVec.ofNat 32 (i 0).val
  let c31_i32_1175 : BitVec 32 := 31#32
  let v3125 : BitVec 32 := Scalar.minsi arg0 c31_i32_1175
  let c10_i32 : BitVec 32 := 10#32
  let v3148 : BitVec 32 := Scalar.remsi v3125 c10_i32
  let v3340 : Index := Scalar.indexCast v3148
  let c0_1266 : Index := 0#32
  let c768_1267 : Index := 768#32
  ![v3340.toNat, 0, 768]
def k0_off28 (i : grid0.Coords) : Fin 3 → Nat :=
  let arg0 : BitVec 32 := BitVec.ofNat 32 (i 0).val
  let c31_i32_1175 : BitVec 32 := 31#32
  let v3125 : BitVec 32 := Scalar.minsi arg0 c31_i32_1175
  let c4_i32_1178 : BitVec 32 := 4#32
  let v3138 : BitVec 32 := Scalar.divsi v3125 c4_i32_1178
  let c2_i32 : BitVec 32 := 2#32
  let v3139 : BitVec 32 := Scalar.remsi v3138 c2_i32
  let v3345 : Index := Scalar.indexCast v3139
  let c4_i32_1179 : BitVec 32 := 4#32
  let v3140 : BitVec 32 := Scalar.remsi v3125 c4_i32_1179
  let c128_i32_1180 : BitVec 32 := 128#32
  let v3141 : BitVec 32 := Scalar.muli v3140 c128_i32_1180
  let v3142 : BitVec 32 := v3141
  let v3346 : Index := Scalar.indexCast v3142
  let c768_1268 : Index := 768#32
  ![v3345.toNat, v3346.toNat, 768]
def k0_off29 (i : grid0.Coords) : Fin 3 → Nat :=
  let arg0 : BitVec 32 := BitVec.ofNat 32 (i 0).val
  let c31_i32_1175 : BitVec 32 := 31#32
  let v3125 : BitVec 32 := Scalar.minsi arg0 c31_i32_1175
  let c10_i32 : BitVec 32 := 10#32
  let v3148 : BitVec 32 := Scalar.remsi v3125 c10_i32
  let v3369 : Index := Scalar.indexCast v3148
  let c0_1279 : Index := 0#32
  let c896_1280 : Index := 896#32
  ![v3369.toNat, 0, 896]
def k0_off30 (i : grid0.Coords) : Fin 3 → Nat :=
  let arg0 : BitVec 32 := BitVec.ofNat 32 (i 0).val
  let c31_i32_1175 : BitVec 32 := 31#32
  let v3125 : BitVec 32 := Scalar.minsi arg0 c31_i32_1175
  let c4_i32_1178 : BitVec 32 := 4#32
  let v3138 : BitVec 32 := Scalar.divsi v3125 c4_i32_1178
  let c2_i32 : BitVec 32 := 2#32
  let v3139 : BitVec 32 := Scalar.remsi v3138 c2_i32
  let v3374 : Index := Scalar.indexCast v3139
  let c4_i32_1179 : BitVec 32 := 4#32
  let v3140 : BitVec 32 := Scalar.remsi v3125 c4_i32_1179
  let c128_i32_1180 : BitVec 32 := 128#32
  let v3141 : BitVec 32 := Scalar.muli v3140 c128_i32_1180
  let v3142 : BitVec 32 := v3141
  let v3375 : Index := Scalar.indexCast v3142
  let c896_1281 : Index := 896#32
  ![v3374.toNat, v3375.toNat, 896]
def k0_off31 (i : grid0.Coords) : Fin 3 → Nat :=
  let arg0 : BitVec 32 := BitVec.ofNat 32 (i 0).val
  let c31_i32_1175 : BitVec 32 := 31#32
  let v3125 : BitVec 32 := Scalar.minsi arg0 c31_i32_1175
  let c10_i32 : BitVec 32 := 10#32
  let v3148 : BitVec 32 := Scalar.remsi v3125 c10_i32
  let v3398 : Index := Scalar.indexCast v3148
  let c0_1292 : Index := 0#32
  let c1024_1293 : Index := 1024#32
  ![v3398.toNat, 0, 1024]
def k0_off32 (i : grid0.Coords) : Fin 3 → Nat :=
  let arg0 : BitVec 32 := BitVec.ofNat 32 (i 0).val
  let c31_i32_1175 : BitVec 32 := 31#32
  let v3125 : BitVec 32 := Scalar.minsi arg0 c31_i32_1175
  let c4_i32_1178 : BitVec 32 := 4#32
  let v3138 : BitVec 32 := Scalar.divsi v3125 c4_i32_1178
  let c2_i32 : BitVec 32 := 2#32
  let v3139 : BitVec 32 := Scalar.remsi v3138 c2_i32
  let v3403 : Index := Scalar.indexCast v3139
  let c4_i32_1179 : BitVec 32 := 4#32
  let v3140 : BitVec 32 := Scalar.remsi v3125 c4_i32_1179
  let c128_i32_1180 : BitVec 32 := 128#32
  let v3141 : BitVec 32 := Scalar.muli v3140 c128_i32_1180
  let v3142 : BitVec 32 := v3141
  let v3404 : Index := Scalar.indexCast v3142
  let c1024_1294 : Index := 1024#32
  ![v3403.toNat, v3404.toNat, 1024]
def k0_off33 (i : grid0.Coords) : Fin 3 → Nat :=
  let arg0 : BitVec 32 := BitVec.ofNat 32 (i 0).val
  let c31_i32_1175 : BitVec 32 := 31#32
  let v3125 : BitVec 32 := Scalar.minsi arg0 c31_i32_1175
  let c10_i32 : BitVec 32 := 10#32
  let v3148 : BitVec 32 := Scalar.remsi v3125 c10_i32
  let v3427 : Index := Scalar.indexCast v3148
  let c0_1305 : Index := 0#32
  let c1152_1306 : Index := 1152#32
  ![v3427.toNat, 0, 1152]
def k0_off34 (i : grid0.Coords) : Fin 3 → Nat :=
  let arg0 : BitVec 32 := BitVec.ofNat 32 (i 0).val
  let c31_i32_1175 : BitVec 32 := 31#32
  let v3125 : BitVec 32 := Scalar.minsi arg0 c31_i32_1175
  let c4_i32_1178 : BitVec 32 := 4#32
  let v3138 : BitVec 32 := Scalar.divsi v3125 c4_i32_1178
  let c2_i32 : BitVec 32 := 2#32
  let v3139 : BitVec 32 := Scalar.remsi v3138 c2_i32
  let v3432 : Index := Scalar.indexCast v3139
  let c4_i32_1179 : BitVec 32 := 4#32
  let v3140 : BitVec 32 := Scalar.remsi v3125 c4_i32_1179
  let c128_i32_1180 : BitVec 32 := 128#32
  let v3141 : BitVec 32 := Scalar.muli v3140 c128_i32_1180
  let v3142 : BitVec 32 := v3141
  let v3433 : Index := Scalar.indexCast v3142
  let c1152_1307 : Index := 1152#32
  ![v3432.toNat, v3433.toNat, 1152]
def k0_off35 (i : grid0.Coords) : Fin 3 → Nat :=
  let arg0 : BitVec 32 := BitVec.ofNat 32 (i 0).val
  let c31_i32_1175 : BitVec 32 := 31#32
  let v3125 : BitVec 32 := Scalar.minsi arg0 c31_i32_1175
  let c10_i32 : BitVec 32 := 10#32
  let v3148 : BitVec 32 := Scalar.remsi v3125 c10_i32
  let v3456 : Index := Scalar.indexCast v3148
  let c0_1318 : Index := 0#32
  let c1280_1319 : Index := 1280#32
  ![v3456.toNat, 0, 1280]
def k0_off36 (i : grid0.Coords) : Fin 3 → Nat :=
  let arg0 : BitVec 32 := BitVec.ofNat 32 (i 0).val
  let c31_i32_1175 : BitVec 32 := 31#32
  let v3125 : BitVec 32 := Scalar.minsi arg0 c31_i32_1175
  let c4_i32_1178 : BitVec 32 := 4#32
  let v3138 : BitVec 32 := Scalar.divsi v3125 c4_i32_1178
  let c2_i32 : BitVec 32 := 2#32
  let v3139 : BitVec 32 := Scalar.remsi v3138 c2_i32
  let v3461 : Index := Scalar.indexCast v3139
  let c4_i32_1179 : BitVec 32 := 4#32
  let v3140 : BitVec 32 := Scalar.remsi v3125 c4_i32_1179
  let c128_i32_1180 : BitVec 32 := 128#32
  let v3141 : BitVec 32 := Scalar.muli v3140 c128_i32_1180
  let v3142 : BitVec 32 := v3141
  let v3462 : Index := Scalar.indexCast v3142
  let c1280_1320 : Index := 1280#32
  ![v3461.toNat, v3462.toNat, 1280]
def k0_off37 (i : grid0.Coords) : Fin 3 → Nat :=
  let arg0 : BitVec 32 := BitVec.ofNat 32 (i 0).val
  let c31_i32_1175 : BitVec 32 := 31#32
  let v3125 : BitVec 32 := Scalar.minsi arg0 c31_i32_1175
  let c10_i32 : BitVec 32 := 10#32
  let v3148 : BitVec 32 := Scalar.remsi v3125 c10_i32
  let v3485 : Index := Scalar.indexCast v3148
  let c0_1331 : Index := 0#32
  let c1408_1332 : Index := 1408#32
  ![v3485.toNat, 0, 1408]
def k0_off38 (i : grid0.Coords) : Fin 3 → Nat :=
  let arg0 : BitVec 32 := BitVec.ofNat 32 (i 0).val
  let c31_i32_1175 : BitVec 32 := 31#32
  let v3125 : BitVec 32 := Scalar.minsi arg0 c31_i32_1175
  let c4_i32_1178 : BitVec 32 := 4#32
  let v3138 : BitVec 32 := Scalar.divsi v3125 c4_i32_1178
  let c2_i32 : BitVec 32 := 2#32
  let v3139 : BitVec 32 := Scalar.remsi v3138 c2_i32
  let v3490 : Index := Scalar.indexCast v3139
  let c4_i32_1179 : BitVec 32 := 4#32
  let v3140 : BitVec 32 := Scalar.remsi v3125 c4_i32_1179
  let c128_i32_1180 : BitVec 32 := 128#32
  let v3141 : BitVec 32 := Scalar.muli v3140 c128_i32_1180
  let v3142 : BitVec 32 := v3141
  let v3491 : Index := Scalar.indexCast v3142
  let c1408_1333 : Index := 1408#32
  ![v3490.toNat, v3491.toNat, 1408]
def k0_cond2 (i : grid0.Coords) : BitVec 1 :=
  let arg0 : BitVec 32 := BitVec.ofNat 32 (i 0).val
  let c4_i32_2 : BitVec 32 := 4#32
  let v6 : BitVec 1 := Scalar.cmpi .eq arg0 c4_i32_2
  let v7 : BitVec 32 := Scalar.extui v6
  let c0_i32_3 : BitVec 32 := 0#32
  let v8 : BitVec 1 := Scalar.cmpi .ne v7 c0_i32_3
  v8

def k0_mult2 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32 : BitVec 32 := 1536#32
  let v32 : BitVec 32 := Scalar.muli v29 c1536_i32
  let c0_i32_17 : BitVec 32 := 0#32
  let v33 : BitVec 32 := Scalar.addi v32 c0_i32_17
  v33
def k0_off39 (i : grid0.Coords) (c0_i32_17 : BitVec 32) : Fin 2 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32 : BitVec 32 := 1536#32
  let v32 : BitVec 32 := Scalar.muli v29 c1536_i32
  let v33 : BitVec 32 := Scalar.addi v32 c0_i32_17
  let v34 : BitVec 32 := v33
  let v35 : Index := Scalar.indexCast v34
  let c0 : Index := 0#32
  ![v35.toNat, 0]
def k0_off40 (i : grid0.Coords) : Fin 3 → Nat :=
  let arg0 : BitVec 32 := BitVec.ofNat 32 (i 0).val
  let c4_i32 : BitVec 32 := 4#32
  let v0 : BitVec 32 := Scalar.subi arg0 c4_i32
  let c4_i32_14 : BitVec 32 := 4#32
  let v28 : BitVec 32 := Scalar.divsi v0 c4_i32_14
  let c2_i32 : BitVec 32 := 2#32
  let v30 : BitVec 32 := Scalar.remsi v28 c2_i32
  let v37 : Index := Scalar.indexCast v30
  let c0_18 : Index := 0#32
  let c0_19 : Index := 0#32
  ![v37.toNat, 0, 0]
def k0_off41 (i : grid0.Coords) : Fin 3 → Nat :=
  let arg0 : BitVec 32 := BitVec.ofNat 32 (i 0).val
  let c4_i32 : BitVec 32 := 4#32
  let v0 : BitVec 32 := Scalar.subi arg0 c4_i32
  let c4_i32_14 : BitVec 32 := 4#32
  let v28 : BitVec 32 := Scalar.divsi v0 c4_i32_14
  let c2_i32 : BitVec 32 := 2#32
  let v30 : BitVec 32 := Scalar.remsi v28 c2_i32
  let v45 : Index := Scalar.indexCast v30
  let c0_22 : Index := 0#32
  let c0_23 : Index := 0#32
  ![v45.toNat, 0, 0]
def k0_off42 (i : grid0.Coords) : Fin 3 → Nat :=
  let arg0 : BitVec 32 := BitVec.ofNat 32 (i 0).val
  let c4_i32 : BitVec 32 := 4#32
  let v0 : BitVec 32 := Scalar.subi arg0 c4_i32
  let c2_i32_25 : BitVec 32 := 2#32
  let v54 : BitVec 32 := Scalar.remsi v0 c2_i32_25
  let v55 : Index := Scalar.indexCast v54
  let c0_26 : Index := 0#32
  let c0_27 : Index := 0#32
  ![v55.toNat, 0, 0]
def k0_off43 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v62 : Index := Scalar.indexCast v29
  let c0_29 : Index := 0#32
  let c0_30 : Index := 0#32
  ![v62.toNat, 0, 0]
def k0_mult3 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32_34 : BitVec 32 := 1536#32
  let v72 : BitVec 32 := Scalar.muli v29 c1536_i32_34
  let c256_i32 : BitVec 32 := 256#32
  let v73 : BitVec 32 := Scalar.addi v72 c256_i32
  v73
def k0_off44 (i : grid0.Coords) : Fin 3 → Nat :=
  let arg0 : BitVec 32 := BitVec.ofNat 32 (i 0).val
  let c4_i32 : BitVec 32 := 4#32
  let v0 : BitVec 32 := Scalar.subi arg0 c4_i32
  let c2_i32_43 : BitVec 32 := 2#32
  let v94 : BitVec 32 := Scalar.remsi v0 c2_i32_43
  let v95 : Index := Scalar.indexCast v94
  let c0_44 : Index := 0#32
  let c256_45 : Index := 256#32
  ![v95.toNat, 0, 256]
def k0_off45 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v102 : Index := Scalar.indexCast v29
  let c0_47 : Index := 0#32
  let c256_48 : Index := 256#32
  ![v102.toNat, 0, 256]
def k0_mult4 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32_52 : BitVec 32 := 1536#32
  let v112 : BitVec 32 := Scalar.muli v29 c1536_i32_52
  let c512_i32 : BitVec 32 := 512#32
  let v113 : BitVec 32 := Scalar.addi v112 c512_i32
  v113
def k0_off46 (i : grid0.Coords) : Fin 3 → Nat :=
  let arg0 : BitVec 32 := BitVec.ofNat 32 (i 0).val
  let c4_i32 : BitVec 32 := 4#32
  let v0 : BitVec 32 := Scalar.subi arg0 c4_i32
  let c2_i32_61 : BitVec 32 := 2#32
  let v134 : BitVec 32 := Scalar.remsi v0 c2_i32_61
  let v135 : Index := Scalar.indexCast v134
  let c0_62 : Index := 0#32
  let c512_63 : Index := 512#32
  ![v135.toNat, 0, 512]
def k0_off47 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v142 : Index := Scalar.indexCast v29
  let c0_65 : Index := 0#32
  let c512_66 : Index := 512#32
  ![v142.toNat, 0, 512]
def k0_mult5 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32_70 : BitVec 32 := 1536#32
  let v152 : BitVec 32 := Scalar.muli v29 c1536_i32_70
  let c768_i32 : BitVec 32 := 768#32
  let v153 : BitVec 32 := Scalar.addi v152 c768_i32
  v153
def k0_off48 (i : grid0.Coords) : Fin 3 → Nat :=
  let arg0 : BitVec 32 := BitVec.ofNat 32 (i 0).val
  let c4_i32 : BitVec 32 := 4#32
  let v0 : BitVec 32 := Scalar.subi arg0 c4_i32
  let c2_i32_79 : BitVec 32 := 2#32
  let v174 : BitVec 32 := Scalar.remsi v0 c2_i32_79
  let v175 : Index := Scalar.indexCast v174
  let c0_80 : Index := 0#32
  let c768_81 : Index := 768#32
  ![v175.toNat, 0, 768]
def k0_off49 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v182 : Index := Scalar.indexCast v29
  let c0_83 : Index := 0#32
  let c768_84 : Index := 768#32
  ![v182.toNat, 0, 768]
def k0_mult6 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32_88 : BitVec 32 := 1536#32
  let v192 : BitVec 32 := Scalar.muli v29 c1536_i32_88
  let c1024_i32 : BitVec 32 := 1024#32
  let v193 : BitVec 32 := Scalar.addi v192 c1024_i32
  v193
def k0_off50 (i : grid0.Coords) : Fin 3 → Nat :=
  let arg0 : BitVec 32 := BitVec.ofNat 32 (i 0).val
  let c4_i32 : BitVec 32 := 4#32
  let v0 : BitVec 32 := Scalar.subi arg0 c4_i32
  let c2_i32_97 : BitVec 32 := 2#32
  let v214 : BitVec 32 := Scalar.remsi v0 c2_i32_97
  let v215 : Index := Scalar.indexCast v214
  let c0_98 : Index := 0#32
  let c1024_99 : Index := 1024#32
  ![v215.toNat, 0, 1024]
def k0_off51 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v222 : Index := Scalar.indexCast v29
  let c0_101 : Index := 0#32
  let c1024_102 : Index := 1024#32
  ![v222.toNat, 0, 1024]
def k0_mult7 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32_106 : BitVec 32 := 1536#32
  let v232 : BitVec 32 := Scalar.muli v29 c1536_i32_106
  let c1280_i32 : BitVec 32 := 1280#32
  let v233 : BitVec 32 := Scalar.addi v232 c1280_i32
  v233
def k0_off52 (i : grid0.Coords) : Fin 3 → Nat :=
  let arg0 : BitVec 32 := BitVec.ofNat 32 (i 0).val
  let c4_i32 : BitVec 32 := 4#32
  let v0 : BitVec 32 := Scalar.subi arg0 c4_i32
  let c2_i32_115 : BitVec 32 := 2#32
  let v254 : BitVec 32 := Scalar.remsi v0 c2_i32_115
  let v255 : Index := Scalar.indexCast v254
  let c0_116 : Index := 0#32
  let c1280_117 : Index := 1280#32
  ![v255.toNat, 0, 1280]
def k0_off53 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v262 : Index := Scalar.indexCast v29
  let c0_119 : Index := 0#32
  let c1280_120 : Index := 1280#32
  ![v262.toNat, 0, 1280]
def k0_off54 (i : grid0.Coords) : Fin 2 → Nat :=
  let arg0 : BitVec 32 := BitVec.ofNat 32 (i 0).val
  let c31_i32_124 : BitVec 32 := 31#32
  let v272 : BitVec 32 := Scalar.minsi arg0 c31_i32_124
  let v273 : Index := Scalar.indexCast v272
  let c0_125 : Index := 0#32
  ![v273.toNat, 0]
def k0_mult8 (i : grid0.Coords) : BitVec 32 :=
  let arg0 : BitVec 32 := BitVec.ofNat 32 (i 0).val
  let c31_i32_124 : BitVec 32 := 31#32
  let v272 : BitVec 32 := Scalar.minsi arg0 c31_i32_124
  let c4_i32_129 : BitVec 32 := 4#32
  let v287 : BitVec 32 := Scalar.remsi v272 c4_i32_129
  let c128_i32 : BitVec 32 := 128#32
  let v288 : BitVec 32 := Scalar.muli v287 c128_i32
  v288
def k0_off55 (i : grid0.Coords) : Fin 3 → Nat :=
  let arg0 : BitVec 32 := BitVec.ofNat 32 (i 0).val
  let c31_i32_124 : BitVec 32 := 31#32
  let v272 : BitVec 32 := Scalar.minsi arg0 c31_i32_124
  let c4_i32_127 : BitVec 32 := 4#32
  let v285 : BitVec 32 := Scalar.divsi v272 c4_i32_127
  let c2_i32_128 : BitVec 32 := 2#32
  let v286 : BitVec 32 := Scalar.remsi v285 c2_i32_128
  let v290 : Index := Scalar.indexCast v286
  let c4_i32_129 : BitVec 32 := 4#32
  let v287 : BitVec 32 := Scalar.remsi v272 c4_i32_129
  let c128_i32 : BitVec 32 := 128#32
  let v288 : BitVec 32 := Scalar.muli v287 c128_i32
  let v289 : BitVec 32 := v288
  let v291 : Index := Scalar.indexCast v289
  let c0_130 : Index := 0#32
  ![v290.toNat, v291.toNat, 0]
def k0_off56 (i : grid0.Coords) : Fin 3 → Nat :=
  let arg0 : BitVec 32 := BitVec.ofNat 32 (i 0).val
  let c31_i32_124 : BitVec 32 := 31#32
  let v272 : BitVec 32 := Scalar.minsi arg0 c31_i32_124
  let c10_i32 : BitVec 32 := 10#32
  let v295 : BitVec 32 := Scalar.remsi v272 c10_i32
  let v313 : Index := Scalar.indexCast v295
  let c0_137 : Index := 0#32
  let c0_138 : Index := 0#32
  ![v313.toNat, 0, 0]
def k0_off57 (i : grid0.Coords) : Fin 3 → Nat :=
  let arg0 : BitVec 32 := BitVec.ofNat 32 (i 0).val
  let c31_i32_124 : BitVec 32 := 31#32
  let v272 : BitVec 32 := Scalar.minsi arg0 c31_i32_124
  let c4_i32_127 : BitVec 32 := 4#32
  let v285 : BitVec 32 := Scalar.divsi v272 c4_i32_127
  let c2_i32_128 : BitVec 32 := 2#32
  let v286 : BitVec 32 := Scalar.remsi v285 c2_i32_128
  let v318 : Index := Scalar.indexCast v286
  let c4_i32_129 : BitVec 32 := 4#32
  let v287 : BitVec 32 := Scalar.remsi v272 c4_i32_129
  let c128_i32 : BitVec 32 := 128#32
  let v288 : BitVec 32 := Scalar.muli v287 c128_i32
  let v289 : BitVec 32 := v288
  let v319 : Index := Scalar.indexCast v289
  let c0_139 : Index := 0#32
  ![v318.toNat, v319.toNat, 0]
def k0_off58 (i : grid0.Coords) : Fin 3 → Nat :=
  let arg0 : BitVec 32 := BitVec.ofNat 32 (i 0).val
  let c31_i32_124 : BitVec 32 := 31#32
  let v272 : BitVec 32 := Scalar.minsi arg0 c31_i32_124
  let c10_i32 : BitVec 32 := 10#32
  let v295 : BitVec 32 := Scalar.remsi v272 c10_i32
  let v342 : Index := Scalar.indexCast v295
  let c0_149 : Index := 0#32
  let c128_150 : Index := 128#32
  ![v342.toNat, 0, 128]
def k0_off59 (i : grid0.Coords) : Fin 3 → Nat :=
  let arg0 : BitVec 32 := BitVec.ofNat 32 (i 0).val
  let c31_i32_124 : BitVec 32 := 31#32
  let v272 : BitVec 32 := Scalar.minsi arg0 c31_i32_124
  let c4_i32_127 : BitVec 32 := 4#32
  let v285 : BitVec 32 := Scalar.divsi v272 c4_i32_127
  let c2_i32_128 : BitVec 32 := 2#32
  let v286 : BitVec 32 := Scalar.remsi v285 c2_i32_128
  let v347 : Index := Scalar.indexCast v286
  let c4_i32_129 : BitVec 32 := 4#32
  let v287 : BitVec 32 := Scalar.remsi v272 c4_i32_129
  let c128_i32 : BitVec 32 := 128#32
  let v288 : BitVec 32 := Scalar.muli v287 c128_i32
  let v289 : BitVec 32 := v288
  let v348 : Index := Scalar.indexCast v289
  let c128_151 : Index := 128#32
  ![v347.toNat, v348.toNat, 128]
def k0_off60 (i : grid0.Coords) : Fin 3 → Nat :=
  let arg0 : BitVec 32 := BitVec.ofNat 32 (i 0).val
  let c31_i32_124 : BitVec 32 := 31#32
  let v272 : BitVec 32 := Scalar.minsi arg0 c31_i32_124
  let c10_i32 : BitVec 32 := 10#32
  let v295 : BitVec 32 := Scalar.remsi v272 c10_i32
  let v371 : Index := Scalar.indexCast v295
  let c0_162 : Index := 0#32
  let c256_163 : Index := 256#32
  ![v371.toNat, 0, 256]
def k0_off61 (i : grid0.Coords) : Fin 3 → Nat :=
  let arg0 : BitVec 32 := BitVec.ofNat 32 (i 0).val
  let c31_i32_124 : BitVec 32 := 31#32
  let v272 : BitVec 32 := Scalar.minsi arg0 c31_i32_124
  let c4_i32_127 : BitVec 32 := 4#32
  let v285 : BitVec 32 := Scalar.divsi v272 c4_i32_127
  let c2_i32_128 : BitVec 32 := 2#32
  let v286 : BitVec 32 := Scalar.remsi v285 c2_i32_128
  let v376 : Index := Scalar.indexCast v286
  let c4_i32_129 : BitVec 32 := 4#32
  let v287 : BitVec 32 := Scalar.remsi v272 c4_i32_129
  let c128_i32 : BitVec 32 := 128#32
  let v288 : BitVec 32 := Scalar.muli v287 c128_i32
  let v289 : BitVec 32 := v288
  let v377 : Index := Scalar.indexCast v289
  let c256_164 : Index := 256#32
  ![v376.toNat, v377.toNat, 256]
def k0_off62 (i : grid0.Coords) : Fin 3 → Nat :=
  let arg0 : BitVec 32 := BitVec.ofNat 32 (i 0).val
  let c31_i32_124 : BitVec 32 := 31#32
  let v272 : BitVec 32 := Scalar.minsi arg0 c31_i32_124
  let c10_i32 : BitVec 32 := 10#32
  let v295 : BitVec 32 := Scalar.remsi v272 c10_i32
  let v400 : Index := Scalar.indexCast v295
  let c0_174 : Index := 0#32
  let c384_175 : Index := 384#32
  ![v400.toNat, 0, 384]
def k0_off63 (i : grid0.Coords) : Fin 3 → Nat :=
  let arg0 : BitVec 32 := BitVec.ofNat 32 (i 0).val
  let c31_i32_124 : BitVec 32 := 31#32
  let v272 : BitVec 32 := Scalar.minsi arg0 c31_i32_124
  let c4_i32_127 : BitVec 32 := 4#32
  let v285 : BitVec 32 := Scalar.divsi v272 c4_i32_127
  let c2_i32_128 : BitVec 32 := 2#32
  let v286 : BitVec 32 := Scalar.remsi v285 c2_i32_128
  let v405 : Index := Scalar.indexCast v286
  let c4_i32_129 : BitVec 32 := 4#32
  let v287 : BitVec 32 := Scalar.remsi v272 c4_i32_129
  let c128_i32 : BitVec 32 := 128#32
  let v288 : BitVec 32 := Scalar.muli v287 c128_i32
  let v289 : BitVec 32 := v288
  let v406 : Index := Scalar.indexCast v289
  let c384_176 : Index := 384#32
  ![v405.toNat, v406.toNat, 384]
def k0_off64 (i : grid0.Coords) : Fin 3 → Nat :=
  let arg0 : BitVec 32 := BitVec.ofNat 32 (i 0).val
  let c31_i32_124 : BitVec 32 := 31#32
  let v272 : BitVec 32 := Scalar.minsi arg0 c31_i32_124
  let c10_i32 : BitVec 32 := 10#32
  let v295 : BitVec 32 := Scalar.remsi v272 c10_i32
  let v429 : Index := Scalar.indexCast v295
  let c0_187 : Index := 0#32
  let c512_188 : Index := 512#32
  ![v429.toNat, 0, 512]
def k0_off65 (i : grid0.Coords) : Fin 3 → Nat :=
  let arg0 : BitVec 32 := BitVec.ofNat 32 (i 0).val
  let c31_i32_124 : BitVec 32 := 31#32
  let v272 : BitVec 32 := Scalar.minsi arg0 c31_i32_124
  let c4_i32_127 : BitVec 32 := 4#32
  let v285 : BitVec 32 := Scalar.divsi v272 c4_i32_127
  let c2_i32_128 : BitVec 32 := 2#32
  let v286 : BitVec 32 := Scalar.remsi v285 c2_i32_128
  let v434 : Index := Scalar.indexCast v286
  let c4_i32_129 : BitVec 32 := 4#32
  let v287 : BitVec 32 := Scalar.remsi v272 c4_i32_129
  let c128_i32 : BitVec 32 := 128#32
  let v288 : BitVec 32 := Scalar.muli v287 c128_i32
  let v289 : BitVec 32 := v288
  let v435 : Index := Scalar.indexCast v289
  let c512_189 : Index := 512#32
  ![v434.toNat, v435.toNat, 512]
def k0_off66 (i : grid0.Coords) : Fin 3 → Nat :=
  let arg0 : BitVec 32 := BitVec.ofNat 32 (i 0).val
  let c31_i32_124 : BitVec 32 := 31#32
  let v272 : BitVec 32 := Scalar.minsi arg0 c31_i32_124
  let c10_i32 : BitVec 32 := 10#32
  let v295 : BitVec 32 := Scalar.remsi v272 c10_i32
  let v458 : Index := Scalar.indexCast v295
  let c0_199 : Index := 0#32
  let c640_200 : Index := 640#32
  ![v458.toNat, 0, 640]
def k0_off67 (i : grid0.Coords) : Fin 3 → Nat :=
  let arg0 : BitVec 32 := BitVec.ofNat 32 (i 0).val
  let c31_i32_124 : BitVec 32 := 31#32
  let v272 : BitVec 32 := Scalar.minsi arg0 c31_i32_124
  let c4_i32_127 : BitVec 32 := 4#32
  let v285 : BitVec 32 := Scalar.divsi v272 c4_i32_127
  let c2_i32_128 : BitVec 32 := 2#32
  let v286 : BitVec 32 := Scalar.remsi v285 c2_i32_128
  let v463 : Index := Scalar.indexCast v286
  let c4_i32_129 : BitVec 32 := 4#32
  let v287 : BitVec 32 := Scalar.remsi v272 c4_i32_129
  let c128_i32 : BitVec 32 := 128#32
  let v288 : BitVec 32 := Scalar.muli v287 c128_i32
  let v289 : BitVec 32 := v288
  let v464 : Index := Scalar.indexCast v289
  let c640_201 : Index := 640#32
  ![v463.toNat, v464.toNat, 640]
def k0_off68 (i : grid0.Coords) : Fin 3 → Nat :=
  let arg0 : BitVec 32 := BitVec.ofNat 32 (i 0).val
  let c31_i32_124 : BitVec 32 := 31#32
  let v272 : BitVec 32 := Scalar.minsi arg0 c31_i32_124
  let c10_i32 : BitVec 32 := 10#32
  let v295 : BitVec 32 := Scalar.remsi v272 c10_i32
  let v487 : Index := Scalar.indexCast v295
  let c0_212 : Index := 0#32
  let c768_213 : Index := 768#32
  ![v487.toNat, 0, 768]
def k0_off69 (i : grid0.Coords) : Fin 3 → Nat :=
  let arg0 : BitVec 32 := BitVec.ofNat 32 (i 0).val
  let c31_i32_124 : BitVec 32 := 31#32
  let v272 : BitVec 32 := Scalar.minsi arg0 c31_i32_124
  let c4_i32_127 : BitVec 32 := 4#32
  let v285 : BitVec 32 := Scalar.divsi v272 c4_i32_127
  let c2_i32_128 : BitVec 32 := 2#32
  let v286 : BitVec 32 := Scalar.remsi v285 c2_i32_128
  let v492 : Index := Scalar.indexCast v286
  let c4_i32_129 : BitVec 32 := 4#32
  let v287 : BitVec 32 := Scalar.remsi v272 c4_i32_129
  let c128_i32 : BitVec 32 := 128#32
  let v288 : BitVec 32 := Scalar.muli v287 c128_i32
  let v289 : BitVec 32 := v288
  let v493 : Index := Scalar.indexCast v289
  let c768_214 : Index := 768#32
  ![v492.toNat, v493.toNat, 768]
def k0_off70 (i : grid0.Coords) : Fin 3 → Nat :=
  let arg0 : BitVec 32 := BitVec.ofNat 32 (i 0).val
  let c31_i32_124 : BitVec 32 := 31#32
  let v272 : BitVec 32 := Scalar.minsi arg0 c31_i32_124
  let c10_i32 : BitVec 32 := 10#32
  let v295 : BitVec 32 := Scalar.remsi v272 c10_i32
  let v516 : Index := Scalar.indexCast v295
  let c0_224 : Index := 0#32
  let c896_225 : Index := 896#32
  ![v516.toNat, 0, 896]
def k0_off71 (i : grid0.Coords) : Fin 3 → Nat :=
  let arg0 : BitVec 32 := BitVec.ofNat 32 (i 0).val
  let c31_i32_124 : BitVec 32 := 31#32
  let v272 : BitVec 32 := Scalar.minsi arg0 c31_i32_124
  let c4_i32_127 : BitVec 32 := 4#32
  let v285 : BitVec 32 := Scalar.divsi v272 c4_i32_127
  let c2_i32_128 : BitVec 32 := 2#32
  let v286 : BitVec 32 := Scalar.remsi v285 c2_i32_128
  let v521 : Index := Scalar.indexCast v286
  let c4_i32_129 : BitVec 32 := 4#32
  let v287 : BitVec 32 := Scalar.remsi v272 c4_i32_129
  let c128_i32 : BitVec 32 := 128#32
  let v288 : BitVec 32 := Scalar.muli v287 c128_i32
  let v289 : BitVec 32 := v288
  let v522 : Index := Scalar.indexCast v289
  let c896_226 : Index := 896#32
  ![v521.toNat, v522.toNat, 896]
def k0_off72 (i : grid0.Coords) : Fin 3 → Nat :=
  let arg0 : BitVec 32 := BitVec.ofNat 32 (i 0).val
  let c31_i32_124 : BitVec 32 := 31#32
  let v272 : BitVec 32 := Scalar.minsi arg0 c31_i32_124
  let c10_i32 : BitVec 32 := 10#32
  let v295 : BitVec 32 := Scalar.remsi v272 c10_i32
  let v545 : Index := Scalar.indexCast v295
  let c0_237 : Index := 0#32
  let c1024_238 : Index := 1024#32
  ![v545.toNat, 0, 1024]
def k0_off73 (i : grid0.Coords) : Fin 3 → Nat :=
  let arg0 : BitVec 32 := BitVec.ofNat 32 (i 0).val
  let c31_i32_124 : BitVec 32 := 31#32
  let v272 : BitVec 32 := Scalar.minsi arg0 c31_i32_124
  let c4_i32_127 : BitVec 32 := 4#32
  let v285 : BitVec 32 := Scalar.divsi v272 c4_i32_127
  let c2_i32_128 : BitVec 32 := 2#32
  let v286 : BitVec 32 := Scalar.remsi v285 c2_i32_128
  let v550 : Index := Scalar.indexCast v286
  let c4_i32_129 : BitVec 32 := 4#32
  let v287 : BitVec 32 := Scalar.remsi v272 c4_i32_129
  let c128_i32 : BitVec 32 := 128#32
  let v288 : BitVec 32 := Scalar.muli v287 c128_i32
  let v289 : BitVec 32 := v288
  let v551 : Index := Scalar.indexCast v289
  let c1024_239 : Index := 1024#32
  ![v550.toNat, v551.toNat, 1024]
def k0_off74 (i : grid0.Coords) : Fin 3 → Nat :=
  let arg0 : BitVec 32 := BitVec.ofNat 32 (i 0).val
  let c31_i32_124 : BitVec 32 := 31#32
  let v272 : BitVec 32 := Scalar.minsi arg0 c31_i32_124
  let c10_i32 : BitVec 32 := 10#32
  let v295 : BitVec 32 := Scalar.remsi v272 c10_i32
  let v574 : Index := Scalar.indexCast v295
  let c0_249 : Index := 0#32
  let c1152_250 : Index := 1152#32
  ![v574.toNat, 0, 1152]
def k0_off75 (i : grid0.Coords) : Fin 3 → Nat :=
  let arg0 : BitVec 32 := BitVec.ofNat 32 (i 0).val
  let c31_i32_124 : BitVec 32 := 31#32
  let v272 : BitVec 32 := Scalar.minsi arg0 c31_i32_124
  let c4_i32_127 : BitVec 32 := 4#32
  let v285 : BitVec 32 := Scalar.divsi v272 c4_i32_127
  let c2_i32_128 : BitVec 32 := 2#32
  let v286 : BitVec 32 := Scalar.remsi v285 c2_i32_128
  let v579 : Index := Scalar.indexCast v286
  let c4_i32_129 : BitVec 32 := 4#32
  let v287 : BitVec 32 := Scalar.remsi v272 c4_i32_129
  let c128_i32 : BitVec 32 := 128#32
  let v288 : BitVec 32 := Scalar.muli v287 c128_i32
  let v289 : BitVec 32 := v288
  let v580 : Index := Scalar.indexCast v289
  let c1152_251 : Index := 1152#32
  ![v579.toNat, v580.toNat, 1152]
def k0_off76 (i : grid0.Coords) : Fin 3 → Nat :=
  let arg0 : BitVec 32 := BitVec.ofNat 32 (i 0).val
  let c31_i32_124 : BitVec 32 := 31#32
  let v272 : BitVec 32 := Scalar.minsi arg0 c31_i32_124
  let c10_i32 : BitVec 32 := 10#32
  let v295 : BitVec 32 := Scalar.remsi v272 c10_i32
  let v603 : Index := Scalar.indexCast v295
  let c0_262 : Index := 0#32
  let c1280_263 : Index := 1280#32
  ![v603.toNat, 0, 1280]
def k0_off77 (i : grid0.Coords) : Fin 3 → Nat :=
  let arg0 : BitVec 32 := BitVec.ofNat 32 (i 0).val
  let c31_i32_124 : BitVec 32 := 31#32
  let v272 : BitVec 32 := Scalar.minsi arg0 c31_i32_124
  let c4_i32_127 : BitVec 32 := 4#32
  let v285 : BitVec 32 := Scalar.divsi v272 c4_i32_127
  let c2_i32_128 : BitVec 32 := 2#32
  let v286 : BitVec 32 := Scalar.remsi v285 c2_i32_128
  let v608 : Index := Scalar.indexCast v286
  let c4_i32_129 : BitVec 32 := 4#32
  let v287 : BitVec 32 := Scalar.remsi v272 c4_i32_129
  let c128_i32 : BitVec 32 := 128#32
  let v288 : BitVec 32 := Scalar.muli v287 c128_i32
  let v289 : BitVec 32 := v288
  let v609 : Index := Scalar.indexCast v289
  let c1280_264 : Index := 1280#32
  ![v608.toNat, v609.toNat, 1280]
def k0_off78 (i : grid0.Coords) : Fin 3 → Nat :=
  let arg0 : BitVec 32 := BitVec.ofNat 32 (i 0).val
  let c31_i32_124 : BitVec 32 := 31#32
  let v272 : BitVec 32 := Scalar.minsi arg0 c31_i32_124
  let c10_i32 : BitVec 32 := 10#32
  let v295 : BitVec 32 := Scalar.remsi v272 c10_i32
  let v632 : Index := Scalar.indexCast v295
  let c0_274 : Index := 0#32
  let c1408_275 : Index := 1408#32
  ![v632.toNat, 0, 1408]
def k0_off79 (i : grid0.Coords) : Fin 3 → Nat :=
  let arg0 : BitVec 32 := BitVec.ofNat 32 (i 0).val
  let c31_i32_124 : BitVec 32 := 31#32
  let v272 : BitVec 32 := Scalar.minsi arg0 c31_i32_124
  let c4_i32_127 : BitVec 32 := 4#32
  let v285 : BitVec 32 := Scalar.divsi v272 c4_i32_127
  let c2_i32_128 : BitVec 32 := 2#32
  let v286 : BitVec 32 := Scalar.remsi v285 c2_i32_128
  let v637 : Index := Scalar.indexCast v286
  let c4_i32_129 : BitVec 32 := 4#32
  let v287 : BitVec 32 := Scalar.remsi v272 c4_i32_129
  let c128_i32 : BitVec 32 := 128#32
  let v288 : BitVec 32 := Scalar.muli v287 c128_i32
  let v289 : BitVec 32 := v288
  let v638 : Index := Scalar.indexCast v289
  let c1408_276 : Index := 1408#32
  ![v637.toNat, v638.toNat, 1408]
def k0_cond3 (i : grid0.Coords) : BitVec 1 :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c0_i32_4 : BitVec 32 := 0#32
  let v9 : BitVec 1 := Scalar.cmpi .sge v1 c0_i32_4
  let c4_i32_0 : BitVec 32 := 4#32
  let v2 : BitVec 32 := Scalar.subi v1 c4_i32_0
  let c0_i32_5 : BitVec 32 := 0#32
  let v10 : BitVec 1 := Scalar.cmpi .slt v2 c0_i32_5
  let v11 : BitVec 1 := Scalar.andi v9 v10
  let v12 : BitVec 32 := Scalar.extui v11
  let c0_i32_6 : BitVec 32 := 0#32
  let v13 : BitVec 1 := Scalar.cmpi .ne v12 c0_i32_6
  v13

def k0_mult9 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32 : BitVec 32 := 1536#32
  let v32 : BitVec 32 := Scalar.muli v29 c1536_i32
  let c0_i32_17 : BitVec 32 := 0#32
  let v33 : BitVec 32 := Scalar.addi v32 c0_i32_17
  v33
def k0_off80 (i : grid0.Coords) (c0_i32_17 : BitVec 32) : Fin 2 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32 : BitVec 32 := 1536#32
  let v32 : BitVec 32 := Scalar.muli v29 c1536_i32
  let v33 : BitVec 32 := Scalar.addi v32 c0_i32_17
  let v34 : BitVec 32 := v33
  let v35 : Index := Scalar.indexCast v34
  let c0 : Index := 0#32
  ![v35.toNat, 0]
def k0_off81 (i : grid0.Coords) : Fin 3 → Nat :=
  let arg0 : BitVec 32 := BitVec.ofNat 32 (i 0).val
  let c4_i32 : BitVec 32 := 4#32
  let v0 : BitVec 32 := Scalar.subi arg0 c4_i32
  let c4_i32_14 : BitVec 32 := 4#32
  let v28 : BitVec 32 := Scalar.divsi v0 c4_i32_14
  let c2_i32 : BitVec 32 := 2#32
  let v30 : BitVec 32 := Scalar.remsi v28 c2_i32
  let v37 : Index := Scalar.indexCast v30
  let c0_18 : Index := 0#32
  let c0_19 : Index := 0#32
  ![v37.toNat, 0, 0]
def k0_off82 (i : grid0.Coords) : Fin 3 → Nat :=
  let arg0 : BitVec 32 := BitVec.ofNat 32 (i 0).val
  let c4_i32 : BitVec 32 := 4#32
  let v0 : BitVec 32 := Scalar.subi arg0 c4_i32
  let c4_i32_14 : BitVec 32 := 4#32
  let v28 : BitVec 32 := Scalar.divsi v0 c4_i32_14
  let c2_i32 : BitVec 32 := 2#32
  let v30 : BitVec 32 := Scalar.remsi v28 c2_i32
  let v45 : Index := Scalar.indexCast v30
  let c0_22 : Index := 0#32
  let c0_23 : Index := 0#32
  ![v45.toNat, 0, 0]
def k0_off83 (i : grid0.Coords) : Fin 3 → Nat :=
  let arg0 : BitVec 32 := BitVec.ofNat 32 (i 0).val
  let c4_i32 : BitVec 32 := 4#32
  let v0 : BitVec 32 := Scalar.subi arg0 c4_i32
  let c2_i32_25 : BitVec 32 := 2#32
  let v54 : BitVec 32 := Scalar.remsi v0 c2_i32_25
  let v55 : Index := Scalar.indexCast v54
  let c0_26 : Index := 0#32
  let c0_27 : Index := 0#32
  ![v55.toNat, 0, 0]
def k0_off84 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v62 : Index := Scalar.indexCast v29
  let c0_29 : Index := 0#32
  let c0_30 : Index := 0#32
  ![v62.toNat, 0, 0]
def k0_mult10 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32_34 : BitVec 32 := 1536#32
  let v72 : BitVec 32 := Scalar.muli v29 c1536_i32_34
  let c256_i32 : BitVec 32 := 256#32
  let v73 : BitVec 32 := Scalar.addi v72 c256_i32
  v73
def k0_off85 (i : grid0.Coords) : Fin 3 → Nat :=
  let arg0 : BitVec 32 := BitVec.ofNat 32 (i 0).val
  let c4_i32 : BitVec 32 := 4#32
  let v0 : BitVec 32 := Scalar.subi arg0 c4_i32
  let c2_i32_43 : BitVec 32 := 2#32
  let v94 : BitVec 32 := Scalar.remsi v0 c2_i32_43
  let v95 : Index := Scalar.indexCast v94
  let c0_44 : Index := 0#32
  let c256_45 : Index := 256#32
  ![v95.toNat, 0, 256]
def k0_off86 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v102 : Index := Scalar.indexCast v29
  let c0_47 : Index := 0#32
  let c256_48 : Index := 256#32
  ![v102.toNat, 0, 256]
def k0_mult11 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32_52 : BitVec 32 := 1536#32
  let v112 : BitVec 32 := Scalar.muli v29 c1536_i32_52
  let c512_i32 : BitVec 32 := 512#32
  let v113 : BitVec 32 := Scalar.addi v112 c512_i32
  v113
def k0_off87 (i : grid0.Coords) : Fin 3 → Nat :=
  let arg0 : BitVec 32 := BitVec.ofNat 32 (i 0).val
  let c4_i32 : BitVec 32 := 4#32
  let v0 : BitVec 32 := Scalar.subi arg0 c4_i32
  let c2_i32_61 : BitVec 32 := 2#32
  let v134 : BitVec 32 := Scalar.remsi v0 c2_i32_61
  let v135 : Index := Scalar.indexCast v134
  let c0_62 : Index := 0#32
  let c512_63 : Index := 512#32
  ![v135.toNat, 0, 512]
def k0_off88 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v142 : Index := Scalar.indexCast v29
  let c0_65 : Index := 0#32
  let c512_66 : Index := 512#32
  ![v142.toNat, 0, 512]
def k0_mult12 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32_70 : BitVec 32 := 1536#32
  let v152 : BitVec 32 := Scalar.muli v29 c1536_i32_70
  let c768_i32 : BitVec 32 := 768#32
  let v153 : BitVec 32 := Scalar.addi v152 c768_i32
  v153
def k0_off89 (i : grid0.Coords) : Fin 3 → Nat :=
  let arg0 : BitVec 32 := BitVec.ofNat 32 (i 0).val
  let c4_i32 : BitVec 32 := 4#32
  let v0 : BitVec 32 := Scalar.subi arg0 c4_i32
  let c2_i32_79 : BitVec 32 := 2#32
  let v174 : BitVec 32 := Scalar.remsi v0 c2_i32_79
  let v175 : Index := Scalar.indexCast v174
  let c0_80 : Index := 0#32
  let c768_81 : Index := 768#32
  ![v175.toNat, 0, 768]
def k0_off90 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v182 : Index := Scalar.indexCast v29
  let c0_83 : Index := 0#32
  let c768_84 : Index := 768#32
  ![v182.toNat, 0, 768]
def k0_mult13 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32_88 : BitVec 32 := 1536#32
  let v192 : BitVec 32 := Scalar.muli v29 c1536_i32_88
  let c1024_i32 : BitVec 32 := 1024#32
  let v193 : BitVec 32 := Scalar.addi v192 c1024_i32
  v193
def k0_off91 (i : grid0.Coords) : Fin 3 → Nat :=
  let arg0 : BitVec 32 := BitVec.ofNat 32 (i 0).val
  let c4_i32 : BitVec 32 := 4#32
  let v0 : BitVec 32 := Scalar.subi arg0 c4_i32
  let c2_i32_97 : BitVec 32 := 2#32
  let v214 : BitVec 32 := Scalar.remsi v0 c2_i32_97
  let v215 : Index := Scalar.indexCast v214
  let c0_98 : Index := 0#32
  let c1024_99 : Index := 1024#32
  ![v215.toNat, 0, 1024]
def k0_off92 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v222 : Index := Scalar.indexCast v29
  let c0_101 : Index := 0#32
  let c1024_102 : Index := 1024#32
  ![v222.toNat, 0, 1024]
def k0_mult14 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32_106 : BitVec 32 := 1536#32
  let v232 : BitVec 32 := Scalar.muli v29 c1536_i32_106
  let c1280_i32 : BitVec 32 := 1280#32
  let v233 : BitVec 32 := Scalar.addi v232 c1280_i32
  v233
def k0_off93 (i : grid0.Coords) : Fin 3 → Nat :=
  let arg0 : BitVec 32 := BitVec.ofNat 32 (i 0).val
  let c4_i32 : BitVec 32 := 4#32
  let v0 : BitVec 32 := Scalar.subi arg0 c4_i32
  let c2_i32_115 : BitVec 32 := 2#32
  let v254 : BitVec 32 := Scalar.remsi v0 c2_i32_115
  let v255 : Index := Scalar.indexCast v254
  let c0_116 : Index := 0#32
  let c1280_117 : Index := 1280#32
  ![v255.toNat, 0, 1280]
def k0_off94 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v262 : Index := Scalar.indexCast v29
  let c0_119 : Index := 0#32
  let c1280_120 : Index := 1280#32
  ![v262.toNat, 0, 1280]
def k0_mult15 (i : grid0.Coords) : BitVec 32 :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_124 : BitVec 32 := 4#32
  let v272 : BitVec 32 := Scalar.remsi v1 c4_i32_124
  let c1536_i32_127 : BitVec 32 := 1536#32
  let v275 : BitVec 32 := Scalar.muli v272 c1536_i32_127
  v275
def k0_off95 (i : grid0.Coords) : Fin 2 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_124 : BitVec 32 := 4#32
  let v272 : BitVec 32 := Scalar.remsi v1 c4_i32_124
  let c1536_i32_127 : BitVec 32 := 1536#32
  let v275 : BitVec 32 := Scalar.muli v272 c1536_i32_127
  let v276 : BitVec 32 := v275
  let v277 : Index := Scalar.indexCast v276
  let c0_128 : Index := 0#32
  ![v277.toNat, 0]
def k0_off96 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c2_i32_130 : BitVec 32 := 2#32
  let v280 : BitVec 32 := Scalar.remsi v1 c2_i32_130
  let v281 : Index := Scalar.indexCast v280
  let c0_131 : Index := 0#32
  let c0_132 : Index := 0#32
  ![v281.toNat, 0, 0]
def k0_off97 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_125 : BitVec 32 := 4#32
  let v273 : BitVec 32 := Scalar.divsi v1 c4_i32_125
  let c2_i32_126 : BitVec 32 := 2#32
  let v274 : BitVec 32 := Scalar.remsi v273 c2_i32_126
  let v285 : Index := Scalar.indexCast v274
  let c0_134 : Index := 0#32
  let c0_135 : Index := 0#32
  ![v285.toNat, 0, 0]
def k0_off98 (i : grid0.Coords) : Fin 2 → Nat :=
  let arg0 : BitVec 32 := BitVec.ofNat 32 (i 0).val
  let c31_i32_139 : BitVec 32 := 31#32
  let v295 : BitVec 32 := Scalar.minsi arg0 c31_i32_139
  let v296 : Index := Scalar.indexCast v295
  let c0_140 : Index := 0#32
  ![v296.toNat, 0]
def k0_mult16 (i : grid0.Coords) : BitVec 32 :=
  let arg0 : BitVec 32 := BitVec.ofNat 32 (i 0).val
  let c31_i32_139 : BitVec 32 := 31#32
  let v295 : BitVec 32 := Scalar.minsi arg0 c31_i32_139
  let c4_i32_144 : BitVec 32 := 4#32
  let v310 : BitVec 32 := Scalar.remsi v295 c4_i32_144
  let c128_i32 : BitVec 32 := 128#32
  let v311 : BitVec 32 := Scalar.muli v310 c128_i32
  v311
def k0_off99 (i : grid0.Coords) : Fin 3 → Nat :=
  let arg0 : BitVec 32 := BitVec.ofNat 32 (i 0).val
  let c31_i32_139 : BitVec 32 := 31#32
  let v295 : BitVec 32 := Scalar.minsi arg0 c31_i32_139
  let c4_i32_142 : BitVec 32 := 4#32
  let v308 : BitVec 32 := Scalar.divsi v295 c4_i32_142
  let c2_i32_143 : BitVec 32 := 2#32
  let v309 : BitVec 32 := Scalar.remsi v308 c2_i32_143
  let v313 : Index := Scalar.indexCast v309
  let c4_i32_144 : BitVec 32 := 4#32
  let v310 : BitVec 32 := Scalar.remsi v295 c4_i32_144
  let c128_i32 : BitVec 32 := 128#32
  let v311 : BitVec 32 := Scalar.muli v310 c128_i32
  let v312 : BitVec 32 := v311
  let v314 : Index := Scalar.indexCast v312
  let c0_145 : Index := 0#32
  ![v313.toNat, v314.toNat, 0]
def k0_off100 (i : grid0.Coords) : Fin 3 → Nat :=
  let arg0 : BitVec 32 := BitVec.ofNat 32 (i 0).val
  let c31_i32_139 : BitVec 32 := 31#32
  let v295 : BitVec 32 := Scalar.minsi arg0 c31_i32_139
  let c10_i32 : BitVec 32 := 10#32
  let v318 : BitVec 32 := Scalar.remsi v295 c10_i32
  let v336 : Index := Scalar.indexCast v318
  let c0_152 : Index := 0#32
  let c0_153 : Index := 0#32
  ![v336.toNat, 0, 0]
def k0_off101 (i : grid0.Coords) : Fin 3 → Nat :=
  let arg0 : BitVec 32 := BitVec.ofNat 32 (i 0).val
  let c31_i32_139 : BitVec 32 := 31#32
  let v295 : BitVec 32 := Scalar.minsi arg0 c31_i32_139
  let c4_i32_142 : BitVec 32 := 4#32
  let v308 : BitVec 32 := Scalar.divsi v295 c4_i32_142
  let c2_i32_143 : BitVec 32 := 2#32
  let v309 : BitVec 32 := Scalar.remsi v308 c2_i32_143
  let v341 : Index := Scalar.indexCast v309
  let c4_i32_144 : BitVec 32 := 4#32
  let v310 : BitVec 32 := Scalar.remsi v295 c4_i32_144
  let c128_i32 : BitVec 32 := 128#32
  let v311 : BitVec 32 := Scalar.muli v310 c128_i32
  let v312 : BitVec 32 := v311
  let v342 : Index := Scalar.indexCast v312
  let c0_154 : Index := 0#32
  ![v341.toNat, v342.toNat, 0]
def k0_off102 (i : grid0.Coords) : Fin 3 → Nat :=
  let arg0 : BitVec 32 := BitVec.ofNat 32 (i 0).val
  let c31_i32_139 : BitVec 32 := 31#32
  let v295 : BitVec 32 := Scalar.minsi arg0 c31_i32_139
  let c10_i32 : BitVec 32 := 10#32
  let v318 : BitVec 32 := Scalar.remsi v295 c10_i32
  let v365 : Index := Scalar.indexCast v318
  let c0_164 : Index := 0#32
  let c128_165 : Index := 128#32
  ![v365.toNat, 0, 128]
def k0_off103 (i : grid0.Coords) : Fin 3 → Nat :=
  let arg0 : BitVec 32 := BitVec.ofNat 32 (i 0).val
  let c31_i32_139 : BitVec 32 := 31#32
  let v295 : BitVec 32 := Scalar.minsi arg0 c31_i32_139
  let c4_i32_142 : BitVec 32 := 4#32
  let v308 : BitVec 32 := Scalar.divsi v295 c4_i32_142
  let c2_i32_143 : BitVec 32 := 2#32
  let v309 : BitVec 32 := Scalar.remsi v308 c2_i32_143
  let v370 : Index := Scalar.indexCast v309
  let c4_i32_144 : BitVec 32 := 4#32
  let v310 : BitVec 32 := Scalar.remsi v295 c4_i32_144
  let c128_i32 : BitVec 32 := 128#32
  let v311 : BitVec 32 := Scalar.muli v310 c128_i32
  let v312 : BitVec 32 := v311
  let v371 : Index := Scalar.indexCast v312
  let c128_166 : Index := 128#32
  ![v370.toNat, v371.toNat, 128]
def k0_off104 (i : grid0.Coords) : Fin 3 → Nat :=
  let arg0 : BitVec 32 := BitVec.ofNat 32 (i 0).val
  let c31_i32_139 : BitVec 32 := 31#32
  let v295 : BitVec 32 := Scalar.minsi arg0 c31_i32_139
  let c10_i32 : BitVec 32 := 10#32
  let v318 : BitVec 32 := Scalar.remsi v295 c10_i32
  let v394 : Index := Scalar.indexCast v318
  let c0_177 : Index := 0#32
  let c256_178 : Index := 256#32
  ![v394.toNat, 0, 256]
def k0_off105 (i : grid0.Coords) : Fin 3 → Nat :=
  let arg0 : BitVec 32 := BitVec.ofNat 32 (i 0).val
  let c31_i32_139 : BitVec 32 := 31#32
  let v295 : BitVec 32 := Scalar.minsi arg0 c31_i32_139
  let c4_i32_142 : BitVec 32 := 4#32
  let v308 : BitVec 32 := Scalar.divsi v295 c4_i32_142
  let c2_i32_143 : BitVec 32 := 2#32
  let v309 : BitVec 32 := Scalar.remsi v308 c2_i32_143
  let v399 : Index := Scalar.indexCast v309
  let c4_i32_144 : BitVec 32 := 4#32
  let v310 : BitVec 32 := Scalar.remsi v295 c4_i32_144
  let c128_i32 : BitVec 32 := 128#32
  let v311 : BitVec 32 := Scalar.muli v310 c128_i32
  let v312 : BitVec 32 := v311
  let v400 : Index := Scalar.indexCast v312
  let c256_179 : Index := 256#32
  ![v399.toNat, v400.toNat, 256]
def k0_off106 (i : grid0.Coords) : Fin 3 → Nat :=
  let arg0 : BitVec 32 := BitVec.ofNat 32 (i 0).val
  let c31_i32_139 : BitVec 32 := 31#32
  let v295 : BitVec 32 := Scalar.minsi arg0 c31_i32_139
  let c10_i32 : BitVec 32 := 10#32
  let v318 : BitVec 32 := Scalar.remsi v295 c10_i32
  let v423 : Index := Scalar.indexCast v318
  let c0_189 : Index := 0#32
  let c384_190 : Index := 384#32
  ![v423.toNat, 0, 384]
def k0_off107 (i : grid0.Coords) : Fin 3 → Nat :=
  let arg0 : BitVec 32 := BitVec.ofNat 32 (i 0).val
  let c31_i32_139 : BitVec 32 := 31#32
  let v295 : BitVec 32 := Scalar.minsi arg0 c31_i32_139
  let c4_i32_142 : BitVec 32 := 4#32
  let v308 : BitVec 32 := Scalar.divsi v295 c4_i32_142
  let c2_i32_143 : BitVec 32 := 2#32
  let v309 : BitVec 32 := Scalar.remsi v308 c2_i32_143
  let v428 : Index := Scalar.indexCast v309
  let c4_i32_144 : BitVec 32 := 4#32
  let v310 : BitVec 32 := Scalar.remsi v295 c4_i32_144
  let c128_i32 : BitVec 32 := 128#32
  let v311 : BitVec 32 := Scalar.muli v310 c128_i32
  let v312 : BitVec 32 := v311
  let v429 : Index := Scalar.indexCast v312
  let c384_191 : Index := 384#32
  ![v428.toNat, v429.toNat, 384]
def k0_off108 (i : grid0.Coords) : Fin 3 → Nat :=
  let arg0 : BitVec 32 := BitVec.ofNat 32 (i 0).val
  let c31_i32_139 : BitVec 32 := 31#32
  let v295 : BitVec 32 := Scalar.minsi arg0 c31_i32_139
  let c10_i32 : BitVec 32 := 10#32
  let v318 : BitVec 32 := Scalar.remsi v295 c10_i32
  let v452 : Index := Scalar.indexCast v318
  let c0_202 : Index := 0#32
  let c512_203 : Index := 512#32
  ![v452.toNat, 0, 512]
def k0_off109 (i : grid0.Coords) : Fin 3 → Nat :=
  let arg0 : BitVec 32 := BitVec.ofNat 32 (i 0).val
  let c31_i32_139 : BitVec 32 := 31#32
  let v295 : BitVec 32 := Scalar.minsi arg0 c31_i32_139
  let c4_i32_142 : BitVec 32 := 4#32
  let v308 : BitVec 32 := Scalar.divsi v295 c4_i32_142
  let c2_i32_143 : BitVec 32 := 2#32
  let v309 : BitVec 32 := Scalar.remsi v308 c2_i32_143
  let v457 : Index := Scalar.indexCast v309
  let c4_i32_144 : BitVec 32 := 4#32
  let v310 : BitVec 32 := Scalar.remsi v295 c4_i32_144
  let c128_i32 : BitVec 32 := 128#32
  let v311 : BitVec 32 := Scalar.muli v310 c128_i32
  let v312 : BitVec 32 := v311
  let v458 : Index := Scalar.indexCast v312
  let c512_204 : Index := 512#32
  ![v457.toNat, v458.toNat, 512]
def k0_off110 (i : grid0.Coords) : Fin 3 → Nat :=
  let arg0 : BitVec 32 := BitVec.ofNat 32 (i 0).val
  let c31_i32_139 : BitVec 32 := 31#32
  let v295 : BitVec 32 := Scalar.minsi arg0 c31_i32_139
  let c10_i32 : BitVec 32 := 10#32
  let v318 : BitVec 32 := Scalar.remsi v295 c10_i32
  let v481 : Index := Scalar.indexCast v318
  let c0_214 : Index := 0#32
  let c640_215 : Index := 640#32
  ![v481.toNat, 0, 640]
def k0_off111 (i : grid0.Coords) : Fin 3 → Nat :=
  let arg0 : BitVec 32 := BitVec.ofNat 32 (i 0).val
  let c31_i32_139 : BitVec 32 := 31#32
  let v295 : BitVec 32 := Scalar.minsi arg0 c31_i32_139
  let c4_i32_142 : BitVec 32 := 4#32
  let v308 : BitVec 32 := Scalar.divsi v295 c4_i32_142
  let c2_i32_143 : BitVec 32 := 2#32
  let v309 : BitVec 32 := Scalar.remsi v308 c2_i32_143
  let v486 : Index := Scalar.indexCast v309
  let c4_i32_144 : BitVec 32 := 4#32
  let v310 : BitVec 32 := Scalar.remsi v295 c4_i32_144
  let c128_i32 : BitVec 32 := 128#32
  let v311 : BitVec 32 := Scalar.muli v310 c128_i32
  let v312 : BitVec 32 := v311
  let v487 : Index := Scalar.indexCast v312
  let c640_216 : Index := 640#32
  ![v486.toNat, v487.toNat, 640]
def k0_off112 (i : grid0.Coords) : Fin 3 → Nat :=
  let arg0 : BitVec 32 := BitVec.ofNat 32 (i 0).val
  let c31_i32_139 : BitVec 32 := 31#32
  let v295 : BitVec 32 := Scalar.minsi arg0 c31_i32_139
  let c10_i32 : BitVec 32 := 10#32
  let v318 : BitVec 32 := Scalar.remsi v295 c10_i32
  let v510 : Index := Scalar.indexCast v318
  let c0_227 : Index := 0#32
  let c768_228 : Index := 768#32
  ![v510.toNat, 0, 768]
def k0_off113 (i : grid0.Coords) : Fin 3 → Nat :=
  let arg0 : BitVec 32 := BitVec.ofNat 32 (i 0).val
  let c31_i32_139 : BitVec 32 := 31#32
  let v295 : BitVec 32 := Scalar.minsi arg0 c31_i32_139
  let c4_i32_142 : BitVec 32 := 4#32
  let v308 : BitVec 32 := Scalar.divsi v295 c4_i32_142
  let c2_i32_143 : BitVec 32 := 2#32
  let v309 : BitVec 32 := Scalar.remsi v308 c2_i32_143
  let v515 : Index := Scalar.indexCast v309
  let c4_i32_144 : BitVec 32 := 4#32
  let v310 : BitVec 32 := Scalar.remsi v295 c4_i32_144
  let c128_i32 : BitVec 32 := 128#32
  let v311 : BitVec 32 := Scalar.muli v310 c128_i32
  let v312 : BitVec 32 := v311
  let v516 : Index := Scalar.indexCast v312
  let c768_229 : Index := 768#32
  ![v515.toNat, v516.toNat, 768]
def k0_off114 (i : grid0.Coords) : Fin 3 → Nat :=
  let arg0 : BitVec 32 := BitVec.ofNat 32 (i 0).val
  let c31_i32_139 : BitVec 32 := 31#32
  let v295 : BitVec 32 := Scalar.minsi arg0 c31_i32_139
  let c10_i32 : BitVec 32 := 10#32
  let v318 : BitVec 32 := Scalar.remsi v295 c10_i32
  let v539 : Index := Scalar.indexCast v318
  let c0_239 : Index := 0#32
  let c896_240 : Index := 896#32
  ![v539.toNat, 0, 896]
def k0_off115 (i : grid0.Coords) : Fin 3 → Nat :=
  let arg0 : BitVec 32 := BitVec.ofNat 32 (i 0).val
  let c31_i32_139 : BitVec 32 := 31#32
  let v295 : BitVec 32 := Scalar.minsi arg0 c31_i32_139
  let c4_i32_142 : BitVec 32 := 4#32
  let v308 : BitVec 32 := Scalar.divsi v295 c4_i32_142
  let c2_i32_143 : BitVec 32 := 2#32
  let v309 : BitVec 32 := Scalar.remsi v308 c2_i32_143
  let v544 : Index := Scalar.indexCast v309
  let c4_i32_144 : BitVec 32 := 4#32
  let v310 : BitVec 32 := Scalar.remsi v295 c4_i32_144
  let c128_i32 : BitVec 32 := 128#32
  let v311 : BitVec 32 := Scalar.muli v310 c128_i32
  let v312 : BitVec 32 := v311
  let v545 : Index := Scalar.indexCast v312
  let c896_241 : Index := 896#32
  ![v544.toNat, v545.toNat, 896]
def k0_off116 (i : grid0.Coords) : Fin 3 → Nat :=
  let arg0 : BitVec 32 := BitVec.ofNat 32 (i 0).val
  let c31_i32_139 : BitVec 32 := 31#32
  let v295 : BitVec 32 := Scalar.minsi arg0 c31_i32_139
  let c10_i32 : BitVec 32 := 10#32
  let v318 : BitVec 32 := Scalar.remsi v295 c10_i32
  let v568 : Index := Scalar.indexCast v318
  let c0_252 : Index := 0#32
  let c1024_253 : Index := 1024#32
  ![v568.toNat, 0, 1024]
def k0_off117 (i : grid0.Coords) : Fin 3 → Nat :=
  let arg0 : BitVec 32 := BitVec.ofNat 32 (i 0).val
  let c31_i32_139 : BitVec 32 := 31#32
  let v295 : BitVec 32 := Scalar.minsi arg0 c31_i32_139
  let c4_i32_142 : BitVec 32 := 4#32
  let v308 : BitVec 32 := Scalar.divsi v295 c4_i32_142
  let c2_i32_143 : BitVec 32 := 2#32
  let v309 : BitVec 32 := Scalar.remsi v308 c2_i32_143
  let v573 : Index := Scalar.indexCast v309
  let c4_i32_144 : BitVec 32 := 4#32
  let v310 : BitVec 32 := Scalar.remsi v295 c4_i32_144
  let c128_i32 : BitVec 32 := 128#32
  let v311 : BitVec 32 := Scalar.muli v310 c128_i32
  let v312 : BitVec 32 := v311
  let v574 : Index := Scalar.indexCast v312
  let c1024_254 : Index := 1024#32
  ![v573.toNat, v574.toNat, 1024]
def k0_off118 (i : grid0.Coords) : Fin 3 → Nat :=
  let arg0 : BitVec 32 := BitVec.ofNat 32 (i 0).val
  let c31_i32_139 : BitVec 32 := 31#32
  let v295 : BitVec 32 := Scalar.minsi arg0 c31_i32_139
  let c10_i32 : BitVec 32 := 10#32
  let v318 : BitVec 32 := Scalar.remsi v295 c10_i32
  let v597 : Index := Scalar.indexCast v318
  let c0_264 : Index := 0#32
  let c1152_265 : Index := 1152#32
  ![v597.toNat, 0, 1152]
def k0_off119 (i : grid0.Coords) : Fin 3 → Nat :=
  let arg0 : BitVec 32 := BitVec.ofNat 32 (i 0).val
  let c31_i32_139 : BitVec 32 := 31#32
  let v295 : BitVec 32 := Scalar.minsi arg0 c31_i32_139
  let c4_i32_142 : BitVec 32 := 4#32
  let v308 : BitVec 32 := Scalar.divsi v295 c4_i32_142
  let c2_i32_143 : BitVec 32 := 2#32
  let v309 : BitVec 32 := Scalar.remsi v308 c2_i32_143
  let v602 : Index := Scalar.indexCast v309
  let c4_i32_144 : BitVec 32 := 4#32
  let v310 : BitVec 32 := Scalar.remsi v295 c4_i32_144
  let c128_i32 : BitVec 32 := 128#32
  let v311 : BitVec 32 := Scalar.muli v310 c128_i32
  let v312 : BitVec 32 := v311
  let v603 : Index := Scalar.indexCast v312
  let c1152_266 : Index := 1152#32
  ![v602.toNat, v603.toNat, 1152]
def k0_off120 (i : grid0.Coords) : Fin 3 → Nat :=
  let arg0 : BitVec 32 := BitVec.ofNat 32 (i 0).val
  let c31_i32_139 : BitVec 32 := 31#32
  let v295 : BitVec 32 := Scalar.minsi arg0 c31_i32_139
  let c10_i32 : BitVec 32 := 10#32
  let v318 : BitVec 32 := Scalar.remsi v295 c10_i32
  let v626 : Index := Scalar.indexCast v318
  let c0_277 : Index := 0#32
  let c1280_278 : Index := 1280#32
  ![v626.toNat, 0, 1280]
def k0_off121 (i : grid0.Coords) : Fin 3 → Nat :=
  let arg0 : BitVec 32 := BitVec.ofNat 32 (i 0).val
  let c31_i32_139 : BitVec 32 := 31#32
  let v295 : BitVec 32 := Scalar.minsi arg0 c31_i32_139
  let c4_i32_142 : BitVec 32 := 4#32
  let v308 : BitVec 32 := Scalar.divsi v295 c4_i32_142
  let c2_i32_143 : BitVec 32 := 2#32
  let v309 : BitVec 32 := Scalar.remsi v308 c2_i32_143
  let v631 : Index := Scalar.indexCast v309
  let c4_i32_144 : BitVec 32 := 4#32
  let v310 : BitVec 32 := Scalar.remsi v295 c4_i32_144
  let c128_i32 : BitVec 32 := 128#32
  let v311 : BitVec 32 := Scalar.muli v310 c128_i32
  let v312 : BitVec 32 := v311
  let v632 : Index := Scalar.indexCast v312
  let c1280_279 : Index := 1280#32
  ![v631.toNat, v632.toNat, 1280]
def k0_off122 (i : grid0.Coords) : Fin 3 → Nat :=
  let arg0 : BitVec 32 := BitVec.ofNat 32 (i 0).val
  let c31_i32_139 : BitVec 32 := 31#32
  let v295 : BitVec 32 := Scalar.minsi arg0 c31_i32_139
  let c10_i32 : BitVec 32 := 10#32
  let v318 : BitVec 32 := Scalar.remsi v295 c10_i32
  let v655 : Index := Scalar.indexCast v318
  let c0_289 : Index := 0#32
  let c1408_290 : Index := 1408#32
  ![v655.toNat, 0, 1408]
def k0_off123 (i : grid0.Coords) : Fin 3 → Nat :=
  let arg0 : BitVec 32 := BitVec.ofNat 32 (i 0).val
  let c31_i32_139 : BitVec 32 := 31#32
  let v295 : BitVec 32 := Scalar.minsi arg0 c31_i32_139
  let c4_i32_142 : BitVec 32 := 4#32
  let v308 : BitVec 32 := Scalar.divsi v295 c4_i32_142
  let c2_i32_143 : BitVec 32 := 2#32
  let v309 : BitVec 32 := Scalar.remsi v308 c2_i32_143
  let v660 : Index := Scalar.indexCast v309
  let c4_i32_144 : BitVec 32 := 4#32
  let v310 : BitVec 32 := Scalar.remsi v295 c4_i32_144
  let c128_i32 : BitVec 32 := 128#32
  let v311 : BitVec 32 := Scalar.muli v310 c128_i32
  let v312 : BitVec 32 := v311
  let v661 : Index := Scalar.indexCast v312
  let c1408_291 : Index := 1408#32
  ![v660.toNat, v661.toNat, 1408]
def k0_cond4 (i : grid0.Coords) : BitVec 1 :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c0_i32_7 : BitVec 32 := 0#32
  let v14 : BitVec 1 := Scalar.cmpi .sge v2 c0_i32_7
  let c32_i32 : BitVec 32 := 32#32
  let v15 : BitVec 1 := Scalar.cmpi .slt v0 c32_i32
  let v16 : BitVec 1 := Scalar.andi v14 v15
  let v17 : BitVec 32 := Scalar.extui v16
  let c0_i32_8 : BitVec 32 := 0#32
  let v18 : BitVec 1 := Scalar.cmpi .ne v17 c0_i32_8
  v18

def k0_mult17 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32 : BitVec 32 := 1536#32
  let v32 : BitVec 32 := Scalar.muli v29 c1536_i32
  let c0_i32_17 : BitVec 32 := 0#32
  let v33 : BitVec 32 := Scalar.addi v32 c0_i32_17
  v33
def k0_off124 (i : grid0.Coords) (c0_i32_17 : BitVec 32) : Fin 2 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32 : BitVec 32 := 1536#32
  let v32 : BitVec 32 := Scalar.muli v29 c1536_i32
  let v33 : BitVec 32 := Scalar.addi v32 c0_i32_17
  let v34 : BitVec 32 := v33
  let v35 : Index := Scalar.indexCast v34
  let c0 : Index := 0#32
  ![v35.toNat, 0]
def k0_off125 (i : grid0.Coords) : Fin 3 → Nat :=
  let arg0 : BitVec 32 := BitVec.ofNat 32 (i 0).val
  let c4_i32 : BitVec 32 := 4#32
  let v0 : BitVec 32 := Scalar.subi arg0 c4_i32
  let c4_i32_14 : BitVec 32 := 4#32
  let v28 : BitVec 32 := Scalar.divsi v0 c4_i32_14
  let c2_i32 : BitVec 32 := 2#32
  let v30 : BitVec 32 := Scalar.remsi v28 c2_i32
  let v37 : Index := Scalar.indexCast v30
  let c0_18 : Index := 0#32
  let c0_19 : Index := 0#32
  ![v37.toNat, 0, 0]
def k0_off126 (i : grid0.Coords) : Fin 3 → Nat :=
  let arg0 : BitVec 32 := BitVec.ofNat 32 (i 0).val
  let c4_i32 : BitVec 32 := 4#32
  let v0 : BitVec 32 := Scalar.subi arg0 c4_i32
  let c4_i32_14 : BitVec 32 := 4#32
  let v28 : BitVec 32 := Scalar.divsi v0 c4_i32_14
  let c2_i32 : BitVec 32 := 2#32
  let v30 : BitVec 32 := Scalar.remsi v28 c2_i32
  let v45 : Index := Scalar.indexCast v30
  let c0_22 : Index := 0#32
  let c0_23 : Index := 0#32
  ![v45.toNat, 0, 0]
def k0_off127 (i : grid0.Coords) : Fin 3 → Nat :=
  let arg0 : BitVec 32 := BitVec.ofNat 32 (i 0).val
  let c4_i32 : BitVec 32 := 4#32
  let v0 : BitVec 32 := Scalar.subi arg0 c4_i32
  let c2_i32_25 : BitVec 32 := 2#32
  let v54 : BitVec 32 := Scalar.remsi v0 c2_i32_25
  let v55 : Index := Scalar.indexCast v54
  let c0_26 : Index := 0#32
  let c0_27 : Index := 0#32
  ![v55.toNat, 0, 0]
def k0_off128 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v62 : Index := Scalar.indexCast v29
  let c0_29 : Index := 0#32
  let c0_30 : Index := 0#32
  ![v62.toNat, 0, 0]
def k0_mult18 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32_34 : BitVec 32 := 1536#32
  let v72 : BitVec 32 := Scalar.muli v29 c1536_i32_34
  let c256_i32 : BitVec 32 := 256#32
  let v73 : BitVec 32 := Scalar.addi v72 c256_i32
  v73
def k0_off129 (i : grid0.Coords) : Fin 3 → Nat :=
  let arg0 : BitVec 32 := BitVec.ofNat 32 (i 0).val
  let c4_i32 : BitVec 32 := 4#32
  let v0 : BitVec 32 := Scalar.subi arg0 c4_i32
  let c2_i32_43 : BitVec 32 := 2#32
  let v94 : BitVec 32 := Scalar.remsi v0 c2_i32_43
  let v95 : Index := Scalar.indexCast v94
  let c0_44 : Index := 0#32
  let c256_45 : Index := 256#32
  ![v95.toNat, 0, 256]
def k0_off130 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v102 : Index := Scalar.indexCast v29
  let c0_47 : Index := 0#32
  let c256_48 : Index := 256#32
  ![v102.toNat, 0, 256]
def k0_mult19 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32_52 : BitVec 32 := 1536#32
  let v112 : BitVec 32 := Scalar.muli v29 c1536_i32_52
  let c512_i32 : BitVec 32 := 512#32
  let v113 : BitVec 32 := Scalar.addi v112 c512_i32
  v113
def k0_off131 (i : grid0.Coords) : Fin 3 → Nat :=
  let arg0 : BitVec 32 := BitVec.ofNat 32 (i 0).val
  let c4_i32 : BitVec 32 := 4#32
  let v0 : BitVec 32 := Scalar.subi arg0 c4_i32
  let c2_i32_61 : BitVec 32 := 2#32
  let v134 : BitVec 32 := Scalar.remsi v0 c2_i32_61
  let v135 : Index := Scalar.indexCast v134
  let c0_62 : Index := 0#32
  let c512_63 : Index := 512#32
  ![v135.toNat, 0, 512]
def k0_off132 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v142 : Index := Scalar.indexCast v29
  let c0_65 : Index := 0#32
  let c512_66 : Index := 512#32
  ![v142.toNat, 0, 512]
def k0_mult20 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32_70 : BitVec 32 := 1536#32
  let v152 : BitVec 32 := Scalar.muli v29 c1536_i32_70
  let c768_i32 : BitVec 32 := 768#32
  let v153 : BitVec 32 := Scalar.addi v152 c768_i32
  v153
def k0_off133 (i : grid0.Coords) : Fin 3 → Nat :=
  let arg0 : BitVec 32 := BitVec.ofNat 32 (i 0).val
  let c4_i32 : BitVec 32 := 4#32
  let v0 : BitVec 32 := Scalar.subi arg0 c4_i32
  let c2_i32_79 : BitVec 32 := 2#32
  let v174 : BitVec 32 := Scalar.remsi v0 c2_i32_79
  let v175 : Index := Scalar.indexCast v174
  let c0_80 : Index := 0#32
  let c768_81 : Index := 768#32
  ![v175.toNat, 0, 768]
def k0_off134 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v182 : Index := Scalar.indexCast v29
  let c0_83 : Index := 0#32
  let c768_84 : Index := 768#32
  ![v182.toNat, 0, 768]
def k0_mult21 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32_88 : BitVec 32 := 1536#32
  let v192 : BitVec 32 := Scalar.muli v29 c1536_i32_88
  let c1024_i32 : BitVec 32 := 1024#32
  let v193 : BitVec 32 := Scalar.addi v192 c1024_i32
  v193
def k0_off135 (i : grid0.Coords) : Fin 3 → Nat :=
  let arg0 : BitVec 32 := BitVec.ofNat 32 (i 0).val
  let c4_i32 : BitVec 32 := 4#32
  let v0 : BitVec 32 := Scalar.subi arg0 c4_i32
  let c2_i32_97 : BitVec 32 := 2#32
  let v214 : BitVec 32 := Scalar.remsi v0 c2_i32_97
  let v215 : Index := Scalar.indexCast v214
  let c0_98 : Index := 0#32
  let c1024_99 : Index := 1024#32
  ![v215.toNat, 0, 1024]
def k0_off136 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v222 : Index := Scalar.indexCast v29
  let c0_101 : Index := 0#32
  let c1024_102 : Index := 1024#32
  ![v222.toNat, 0, 1024]
def k0_mult22 (i : grid0.Coords) : BitVec 32 :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let c1536_i32_106 : BitVec 32 := 1536#32
  let v232 : BitVec 32 := Scalar.muli v29 c1536_i32_106
  let c1280_i32 : BitVec 32 := 1280#32
  let v233 : BitVec 32 := Scalar.addi v232 c1280_i32
  v233
def k0_off137 (i : grid0.Coords) : Fin 3 → Nat :=
  let arg0 : BitVec 32 := BitVec.ofNat 32 (i 0).val
  let c4_i32 : BitVec 32 := 4#32
  let v0 : BitVec 32 := Scalar.subi arg0 c4_i32
  let c2_i32_115 : BitVec 32 := 2#32
  let v254 : BitVec 32 := Scalar.remsi v0 c2_i32_115
  let v255 : Index := Scalar.indexCast v254
  let c0_116 : Index := 0#32
  let c1280_117 : Index := 1280#32
  ![v255.toNat, 0, 1280]
def k0_off138 (i : grid0.Coords) : Fin 3 → Nat :=
  let arg0 : BitVec 32 := BitVec.ofNat 32 (i 0).val
  let c4_i32 : BitVec 32 := 4#32
  let v0 : BitVec 32 := Scalar.subi arg0 c4_i32
  let c4_i32_15 : BitVec 32 := 4#32
  let v29 : BitVec 32 := Scalar.remsi v0 c4_i32_15
  let v262 : Index := Scalar.indexCast v29
  let c0_119 : Index := 0#32
  let c1280_120 : Index := 1280#32
  ![v262.toNat, 0, 1280]
def k0_mult23 (i : grid0.Coords) : BitVec 32 :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_124 : BitVec 32 := 4#32
  let v272 : BitVec 32 := Scalar.remsi v1 c4_i32_124
  let c1536_i32_127 : BitVec 32 := 1536#32
  let v275 : BitVec 32 := Scalar.muli v272 c1536_i32_127
  v275
def k0_off139 (i : grid0.Coords) : Fin 2 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_124 : BitVec 32 := 4#32
  let v272 : BitVec 32 := Scalar.remsi v1 c4_i32_124
  let c1536_i32_127 : BitVec 32 := 1536#32
  let v275 : BitVec 32 := Scalar.muli v272 c1536_i32_127
  let v276 : BitVec 32 := v275
  let v277 : Index := Scalar.indexCast v276
  let c0_128 : Index := 0#32
  ![v277.toNat, 0]
def k0_off140 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c2_i32_130 : BitVec 32 := 2#32
  let v280 : BitVec 32 := Scalar.remsi v1 c2_i32_130
  let v281 : Index := Scalar.indexCast v280
  let c0_131 : Index := 0#32
  let c0_132 : Index := 0#32
  ![v281.toNat, 0, 0]
def k0_off141 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_125 : BitVec 32 := 4#32
  let v273 : BitVec 32 := Scalar.divsi v1 c4_i32_125
  let c2_i32_126 : BitVec 32 := 2#32
  let v274 : BitVec 32 := Scalar.remsi v273 c2_i32_126
  let v285 : Index := Scalar.indexCast v274
  let c0_134 : Index := 0#32
  let c0_135 : Index := 0#32
  ![v285.toNat, 0, 0]
def k0_off142 (i : grid0.Coords) : Fin 2 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let v295 : Index := Scalar.indexCast v2
  let c0_139 : Index := 0#32
  ![v295.toNat, 0]
def k0_mult24 (i : grid0.Coords) : BitVec 32 :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_142 : BitVec 32 := 4#32
  let v303 : BitVec 32 := Scalar.remsi v2 c4_i32_142
  let c128_i32 : BitVec 32 := 128#32
  let v304 : BitVec 32 := Scalar.muli v303 c128_i32
  v304
def k0_off143 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v306 : BitVec 32 := Scalar.remsi v2 c10_i32
  let v310 : Index := Scalar.indexCast v306
  let c0_146 : Index := 0#32
  let c0_147 : Index := 0#32
  ![v310.toNat, 0, 0]
def k0_off144 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_140 : BitVec 32 := 4#32
  let v301 : BitVec 32 := Scalar.divsi v2 c4_i32_140
  let c2_i32_141 : BitVec 32 := 2#32
  let v302 : BitVec 32 := Scalar.remsi v301 c2_i32_141
  let v313 : Index := Scalar.indexCast v302
  let c4_i32_142 : BitVec 32 := 4#32
  let v303 : BitVec 32 := Scalar.remsi v2 c4_i32_142
  let c128_i32 : BitVec 32 := 128#32
  let v304 : BitVec 32 := Scalar.muli v303 c128_i32
  let v305 : BitVec 32 := v304
  let v314 : Index := Scalar.indexCast v305
  let c0_148 : Index := 0#32
  ![v313.toNat, v314.toNat, 0]
def k0_off145 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v306 : BitVec 32 := Scalar.remsi v2 c10_i32
  let v351 : Index := Scalar.indexCast v306
  let c0_162 : Index := 0#32
  let c128 : Index := 128#32
  ![v351.toNat, 0, 128]
def k0_off146 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_140 : BitVec 32 := 4#32
  let v301 : BitVec 32 := Scalar.divsi v2 c4_i32_140
  let c2_i32_141 : BitVec 32 := 2#32
  let v302 : BitVec 32 := Scalar.remsi v301 c2_i32_141
  let v354 : Index := Scalar.indexCast v302
  let c4_i32_142 : BitVec 32 := 4#32
  let v303 : BitVec 32 := Scalar.remsi v2 c4_i32_142
  let c128_i32 : BitVec 32 := 128#32
  let v304 : BitVec 32 := Scalar.muli v303 c128_i32
  let v305 : BitVec 32 := v304
  let v355 : Index := Scalar.indexCast v305
  let c128_163 : Index := 128#32
  ![v354.toNat, v355.toNat, 128]
def k0_off147 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v306 : BitVec 32 := Scalar.remsi v2 c10_i32
  let v392 : Index := Scalar.indexCast v306
  let c0_179 : Index := 0#32
  let c256_180 : Index := 256#32
  ![v392.toNat, 0, 256]
def k0_off148 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_140 : BitVec 32 := 4#32
  let v301 : BitVec 32 := Scalar.divsi v2 c4_i32_140
  let c2_i32_141 : BitVec 32 := 2#32
  let v302 : BitVec 32 := Scalar.remsi v301 c2_i32_141
  let v395 : Index := Scalar.indexCast v302
  let c4_i32_142 : BitVec 32 := 4#32
  let v303 : BitVec 32 := Scalar.remsi v2 c4_i32_142
  let c128_i32 : BitVec 32 := 128#32
  let v304 : BitVec 32 := Scalar.muli v303 c128_i32
  let v305 : BitVec 32 := v304
  let v396 : Index := Scalar.indexCast v305
  let c256_181 : Index := 256#32
  ![v395.toNat, v396.toNat, 256]
def k0_off149 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v306 : BitVec 32 := Scalar.remsi v2 c10_i32
  let v433 : Index := Scalar.indexCast v306
  let c0_197 : Index := 0#32
  let c384 : Index := 384#32
  ![v433.toNat, 0, 384]
def k0_off150 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_140 : BitVec 32 := 4#32
  let v301 : BitVec 32 := Scalar.divsi v2 c4_i32_140
  let c2_i32_141 : BitVec 32 := 2#32
  let v302 : BitVec 32 := Scalar.remsi v301 c2_i32_141
  let v436 : Index := Scalar.indexCast v302
  let c4_i32_142 : BitVec 32 := 4#32
  let v303 : BitVec 32 := Scalar.remsi v2 c4_i32_142
  let c128_i32 : BitVec 32 := 128#32
  let v304 : BitVec 32 := Scalar.muli v303 c128_i32
  let v305 : BitVec 32 := v304
  let v437 : Index := Scalar.indexCast v305
  let c384_198 : Index := 384#32
  ![v436.toNat, v437.toNat, 384]
def k0_off151 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v306 : BitVec 32 := Scalar.remsi v2 c10_i32
  let v474 : Index := Scalar.indexCast v306
  let c0_214 : Index := 0#32
  let c512_215 : Index := 512#32
  ![v474.toNat, 0, 512]
def k0_off152 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_140 : BitVec 32 := 4#32
  let v301 : BitVec 32 := Scalar.divsi v2 c4_i32_140
  let c2_i32_141 : BitVec 32 := 2#32
  let v302 : BitVec 32 := Scalar.remsi v301 c2_i32_141
  let v477 : Index := Scalar.indexCast v302
  let c4_i32_142 : BitVec 32 := 4#32
  let v303 : BitVec 32 := Scalar.remsi v2 c4_i32_142
  let c128_i32 : BitVec 32 := 128#32
  let v304 : BitVec 32 := Scalar.muli v303 c128_i32
  let v305 : BitVec 32 := v304
  let v478 : Index := Scalar.indexCast v305
  let c512_216 : Index := 512#32
  ![v477.toNat, v478.toNat, 512]
def k0_off153 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v306 : BitVec 32 := Scalar.remsi v2 c10_i32
  let v515 : Index := Scalar.indexCast v306
  let c0_232 : Index := 0#32
  let c640 : Index := 640#32
  ![v515.toNat, 0, 640]
def k0_off154 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_140 : BitVec 32 := 4#32
  let v301 : BitVec 32 := Scalar.divsi v2 c4_i32_140
  let c2_i32_141 : BitVec 32 := 2#32
  let v302 : BitVec 32 := Scalar.remsi v301 c2_i32_141
  let v518 : Index := Scalar.indexCast v302
  let c4_i32_142 : BitVec 32 := 4#32
  let v303 : BitVec 32 := Scalar.remsi v2 c4_i32_142
  let c128_i32 : BitVec 32 := 128#32
  let v304 : BitVec 32 := Scalar.muli v303 c128_i32
  let v305 : BitVec 32 := v304
  let v519 : Index := Scalar.indexCast v305
  let c640_233 : Index := 640#32
  ![v518.toNat, v519.toNat, 640]
def k0_off155 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v306 : BitVec 32 := Scalar.remsi v2 c10_i32
  let v556 : Index := Scalar.indexCast v306
  let c0_249 : Index := 0#32
  let c768_250 : Index := 768#32
  ![v556.toNat, 0, 768]
def k0_off156 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_140 : BitVec 32 := 4#32
  let v301 : BitVec 32 := Scalar.divsi v2 c4_i32_140
  let c2_i32_141 : BitVec 32 := 2#32
  let v302 : BitVec 32 := Scalar.remsi v301 c2_i32_141
  let v559 : Index := Scalar.indexCast v302
  let c4_i32_142 : BitVec 32 := 4#32
  let v303 : BitVec 32 := Scalar.remsi v2 c4_i32_142
  let c128_i32 : BitVec 32 := 128#32
  let v304 : BitVec 32 := Scalar.muli v303 c128_i32
  let v305 : BitVec 32 := v304
  let v560 : Index := Scalar.indexCast v305
  let c768_251 : Index := 768#32
  ![v559.toNat, v560.toNat, 768]
def k0_off157 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v306 : BitVec 32 := Scalar.remsi v2 c10_i32
  let v597 : Index := Scalar.indexCast v306
  let c0_267 : Index := 0#32
  let c896 : Index := 896#32
  ![v597.toNat, 0, 896]
def k0_off158 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_140 : BitVec 32 := 4#32
  let v301 : BitVec 32 := Scalar.divsi v2 c4_i32_140
  let c2_i32_141 : BitVec 32 := 2#32
  let v302 : BitVec 32 := Scalar.remsi v301 c2_i32_141
  let v600 : Index := Scalar.indexCast v302
  let c4_i32_142 : BitVec 32 := 4#32
  let v303 : BitVec 32 := Scalar.remsi v2 c4_i32_142
  let c128_i32 : BitVec 32 := 128#32
  let v304 : BitVec 32 := Scalar.muli v303 c128_i32
  let v305 : BitVec 32 := v304
  let v601 : Index := Scalar.indexCast v305
  let c896_268 : Index := 896#32
  ![v600.toNat, v601.toNat, 896]
def k0_off159 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v306 : BitVec 32 := Scalar.remsi v2 c10_i32
  let v638 : Index := Scalar.indexCast v306
  let c0_284 : Index := 0#32
  let c1024_285 : Index := 1024#32
  ![v638.toNat, 0, 1024]
def k0_off160 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_140 : BitVec 32 := 4#32
  let v301 : BitVec 32 := Scalar.divsi v2 c4_i32_140
  let c2_i32_141 : BitVec 32 := 2#32
  let v302 : BitVec 32 := Scalar.remsi v301 c2_i32_141
  let v641 : Index := Scalar.indexCast v302
  let c4_i32_142 : BitVec 32 := 4#32
  let v303 : BitVec 32 := Scalar.remsi v2 c4_i32_142
  let c128_i32 : BitVec 32 := 128#32
  let v304 : BitVec 32 := Scalar.muli v303 c128_i32
  let v305 : BitVec 32 := v304
  let v642 : Index := Scalar.indexCast v305
  let c1024_286 : Index := 1024#32
  ![v641.toNat, v642.toNat, 1024]
def k0_off161 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v306 : BitVec 32 := Scalar.remsi v2 c10_i32
  let v679 : Index := Scalar.indexCast v306
  let c0_302 : Index := 0#32
  let c1152 : Index := 1152#32
  ![v679.toNat, 0, 1152]
def k0_off162 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_140 : BitVec 32 := 4#32
  let v301 : BitVec 32 := Scalar.divsi v2 c4_i32_140
  let c2_i32_141 : BitVec 32 := 2#32
  let v302 : BitVec 32 := Scalar.remsi v301 c2_i32_141
  let v682 : Index := Scalar.indexCast v302
  let c4_i32_142 : BitVec 32 := 4#32
  let v303 : BitVec 32 := Scalar.remsi v2 c4_i32_142
  let c128_i32 : BitVec 32 := 128#32
  let v304 : BitVec 32 := Scalar.muli v303 c128_i32
  let v305 : BitVec 32 := v304
  let v683 : Index := Scalar.indexCast v305
  let c1152_303 : Index := 1152#32
  ![v682.toNat, v683.toNat, 1152]
def k0_off163 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v306 : BitVec 32 := Scalar.remsi v2 c10_i32
  let v720 : Index := Scalar.indexCast v306
  let c0_319 : Index := 0#32
  let c1280_320 : Index := 1280#32
  ![v720.toNat, 0, 1280]
def k0_off164 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_140 : BitVec 32 := 4#32
  let v301 : BitVec 32 := Scalar.divsi v2 c4_i32_140
  let c2_i32_141 : BitVec 32 := 2#32
  let v302 : BitVec 32 := Scalar.remsi v301 c2_i32_141
  let v723 : Index := Scalar.indexCast v302
  let c4_i32_142 : BitVec 32 := 4#32
  let v303 : BitVec 32 := Scalar.remsi v2 c4_i32_142
  let c128_i32 : BitVec 32 := 128#32
  let v304 : BitVec 32 := Scalar.muli v303 c128_i32
  let v305 : BitVec 32 := v304
  let v724 : Index := Scalar.indexCast v305
  let c1280_321 : Index := 1280#32
  ![v723.toNat, v724.toNat, 1280]
def k0_off165 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v306 : BitVec 32 := Scalar.remsi v2 c10_i32
  let v761 : Index := Scalar.indexCast v306
  let c0_337 : Index := 0#32
  let c1408 : Index := 1408#32
  ![v761.toNat, 0, 1408]
def k0_off166 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_140 : BitVec 32 := 4#32
  let v301 : BitVec 32 := Scalar.divsi v2 c4_i32_140
  let c2_i32_141 : BitVec 32 := 2#32
  let v302 : BitVec 32 := Scalar.remsi v301 c2_i32_141
  let v764 : Index := Scalar.indexCast v302
  let c4_i32_142 : BitVec 32 := 4#32
  let v303 : BitVec 32 := Scalar.remsi v2 c4_i32_142
  let c128_i32 : BitVec 32 := 128#32
  let v304 : BitVec 32 := Scalar.muli v303 c128_i32
  let v305 : BitVec 32 := v304
  let v765 : Index := Scalar.indexCast v305
  let c1408_338 : Index := 1408#32
  ![v764.toNat, v765.toNat, 1408]
def k0_off167 (i : grid0.Coords) : Fin 2 → Nat :=
  let arg0 : BitVec 32 := BitVec.ofNat 32 (i 0).val
  let c31_i32_358 : BitVec 32 := 31#32
  let v812 : BitVec 32 := Scalar.minsi arg0 c31_i32_358
  let v813 : Index := Scalar.indexCast v812
  let c0_359 : Index := 0#32
  ![v813.toNat, 0]
def k0_mult25 (i : grid0.Coords) : BitVec 32 :=
  let arg0 : BitVec 32 := BitVec.ofNat 32 (i 0).val
  let c31_i32_358 : BitVec 32 := 31#32
  let v812 : BitVec 32 := Scalar.minsi arg0 c31_i32_358
  let c4_i32_363 : BitVec 32 := 4#32
  let v827 : BitVec 32 := Scalar.remsi v812 c4_i32_363
  let c128_i32_364 : BitVec 32 := 128#32
  let v828 : BitVec 32 := Scalar.muli v827 c128_i32_364
  v828
def k0_off168 (i : grid0.Coords) : Fin 3 → Nat :=
  let arg0 : BitVec 32 := BitVec.ofNat 32 (i 0).val
  let c31_i32_358 : BitVec 32 := 31#32
  let v812 : BitVec 32 := Scalar.minsi arg0 c31_i32_358
  let c4_i32_361 : BitVec 32 := 4#32
  let v825 : BitVec 32 := Scalar.divsi v812 c4_i32_361
  let c2_i32_362 : BitVec 32 := 2#32
  let v826 : BitVec 32 := Scalar.remsi v825 c2_i32_362
  let v830 : Index := Scalar.indexCast v826
  let c4_i32_363 : BitVec 32 := 4#32
  let v827 : BitVec 32 := Scalar.remsi v812 c4_i32_363
  let c128_i32_364 : BitVec 32 := 128#32
  let v828 : BitVec 32 := Scalar.muli v827 c128_i32_364
  let v829 : BitVec 32 := v828
  let v831 : Index := Scalar.indexCast v829
  let c0_365 : Index := 0#32
  ![v830.toNat, v831.toNat, 0]
def k0_off169 (i : grid0.Coords) : Fin 3 → Nat :=
  let arg0 : BitVec 32 := BitVec.ofNat 32 (i 0).val
  let c31_i32_358 : BitVec 32 := 31#32
  let v812 : BitVec 32 := Scalar.minsi arg0 c31_i32_358
  let c10_i32_366 : BitVec 32 := 10#32
  let v835 : BitVec 32 := Scalar.remsi v812 c10_i32_366
  let v853 : Index := Scalar.indexCast v835
  let c0_375 : Index := 0#32
  let c0_376 : Index := 0#32
  ![v853.toNat, 0, 0]
def k0_off170 (i : grid0.Coords) : Fin 3 → Nat :=
  let arg0 : BitVec 32 := BitVec.ofNat 32 (i 0).val
  let c31_i32_358 : BitVec 32 := 31#32
  let v812 : BitVec 32 := Scalar.minsi arg0 c31_i32_358
  let c4_i32_361 : BitVec 32 := 4#32
  let v825 : BitVec 32 := Scalar.divsi v812 c4_i32_361
  let c2_i32_362 : BitVec 32 := 2#32
  let v826 : BitVec 32 := Scalar.remsi v825 c2_i32_362
  let v858 : Index := Scalar.indexCast v826
  let c4_i32_363 : BitVec 32 := 4#32
  let v827 : BitVec 32 := Scalar.remsi v812 c4_i32_363
  let c128_i32_364 : BitVec 32 := 128#32
  let v828 : BitVec 32 := Scalar.muli v827 c128_i32_364
  let v829 : BitVec 32 := v828
  let v859 : Index := Scalar.indexCast v829
  let c0_377 : Index := 0#32
  ![v858.toNat, v859.toNat, 0]
def k0_off171 (i : grid0.Coords) : Fin 3 → Nat :=
  let arg0 : BitVec 32 := BitVec.ofNat 32 (i 0).val
  let c31_i32_358 : BitVec 32 := 31#32
  let v812 : BitVec 32 := Scalar.minsi arg0 c31_i32_358
  let c10_i32_366 : BitVec 32 := 10#32
  let v835 : BitVec 32 := Scalar.remsi v812 c10_i32_366
  let v882 : Index := Scalar.indexCast v835
  let c0_388 : Index := 0#32
  let c128_389 : Index := 128#32
  ![v882.toNat, 0, 128]
def k0_off172 (i : grid0.Coords) : Fin 3 → Nat :=
  let arg0 : BitVec 32 := BitVec.ofNat 32 (i 0).val
  let c31_i32_358 : BitVec 32 := 31#32
  let v812 : BitVec 32 := Scalar.minsi arg0 c31_i32_358
  let c4_i32_361 : BitVec 32 := 4#32
  let v825 : BitVec 32 := Scalar.divsi v812 c4_i32_361
  let c2_i32_362 : BitVec 32 := 2#32
  let v826 : BitVec 32 := Scalar.remsi v825 c2_i32_362
  let v887 : Index := Scalar.indexCast v826
  let c4_i32_363 : BitVec 32 := 4#32
  let v827 : BitVec 32 := Scalar.remsi v812 c4_i32_363
  let c128_i32_364 : BitVec 32 := 128#32
  let v828 : BitVec 32 := Scalar.muli v827 c128_i32_364
  let v829 : BitVec 32 := v828
  let v888 : Index := Scalar.indexCast v829
  let c128_390 : Index := 128#32
  ![v887.toNat, v888.toNat, 128]
def k0_off173 (i : grid0.Coords) : Fin 3 → Nat :=
  let arg0 : BitVec 32 := BitVec.ofNat 32 (i 0).val
  let c31_i32_358 : BitVec 32 := 31#32
  let v812 : BitVec 32 := Scalar.minsi arg0 c31_i32_358
  let c10_i32_366 : BitVec 32 := 10#32
  let v835 : BitVec 32 := Scalar.remsi v812 c10_i32_366
  let v911 : Index := Scalar.indexCast v835
  let c0_401 : Index := 0#32
  let c256_402 : Index := 256#32
  ![v911.toNat, 0, 256]
def k0_off174 (i : grid0.Coords) : Fin 3 → Nat :=
  let arg0 : BitVec 32 := BitVec.ofNat 32 (i 0).val
  let c31_i32_358 : BitVec 32 := 31#32
  let v812 : BitVec 32 := Scalar.minsi arg0 c31_i32_358
  let c4_i32_361 : BitVec 32 := 4#32
  let v825 : BitVec 32 := Scalar.divsi v812 c4_i32_361
  let c2_i32_362 : BitVec 32 := 2#32
  let v826 : BitVec 32 := Scalar.remsi v825 c2_i32_362
  let v916 : Index := Scalar.indexCast v826
  let c4_i32_363 : BitVec 32 := 4#32
  let v827 : BitVec 32 := Scalar.remsi v812 c4_i32_363
  let c128_i32_364 : BitVec 32 := 128#32
  let v828 : BitVec 32 := Scalar.muli v827 c128_i32_364
  let v829 : BitVec 32 := v828
  let v917 : Index := Scalar.indexCast v829
  let c256_403 : Index := 256#32
  ![v916.toNat, v917.toNat, 256]
def k0_off175 (i : grid0.Coords) : Fin 3 → Nat :=
  let arg0 : BitVec 32 := BitVec.ofNat 32 (i 0).val
  let c31_i32_358 : BitVec 32 := 31#32
  let v812 : BitVec 32 := Scalar.minsi arg0 c31_i32_358
  let c10_i32_366 : BitVec 32 := 10#32
  let v835 : BitVec 32 := Scalar.remsi v812 c10_i32_366
  let v940 : Index := Scalar.indexCast v835
  let c0_414 : Index := 0#32
  let c384_415 : Index := 384#32
  ![v940.toNat, 0, 384]
def k0_off176 (i : grid0.Coords) : Fin 3 → Nat :=
  let arg0 : BitVec 32 := BitVec.ofNat 32 (i 0).val
  let c31_i32_358 : BitVec 32 := 31#32
  let v812 : BitVec 32 := Scalar.minsi arg0 c31_i32_358
  let c4_i32_361 : BitVec 32 := 4#32
  let v825 : BitVec 32 := Scalar.divsi v812 c4_i32_361
  let c2_i32_362 : BitVec 32 := 2#32
  let v826 : BitVec 32 := Scalar.remsi v825 c2_i32_362
  let v945 : Index := Scalar.indexCast v826
  let c4_i32_363 : BitVec 32 := 4#32
  let v827 : BitVec 32 := Scalar.remsi v812 c4_i32_363
  let c128_i32_364 : BitVec 32 := 128#32
  let v828 : BitVec 32 := Scalar.muli v827 c128_i32_364
  let v829 : BitVec 32 := v828
  let v946 : Index := Scalar.indexCast v829
  let c384_416 : Index := 384#32
  ![v945.toNat, v946.toNat, 384]
def k0_off177 (i : grid0.Coords) : Fin 3 → Nat :=
  let arg0 : BitVec 32 := BitVec.ofNat 32 (i 0).val
  let c31_i32_358 : BitVec 32 := 31#32
  let v812 : BitVec 32 := Scalar.minsi arg0 c31_i32_358
  let c10_i32_366 : BitVec 32 := 10#32
  let v835 : BitVec 32 := Scalar.remsi v812 c10_i32_366
  let v969 : Index := Scalar.indexCast v835
  let c0_427 : Index := 0#32
  let c512_428 : Index := 512#32
  ![v969.toNat, 0, 512]
def k0_off178 (i : grid0.Coords) : Fin 3 → Nat :=
  let arg0 : BitVec 32 := BitVec.ofNat 32 (i 0).val
  let c31_i32_358 : BitVec 32 := 31#32
  let v812 : BitVec 32 := Scalar.minsi arg0 c31_i32_358
  let c4_i32_361 : BitVec 32 := 4#32
  let v825 : BitVec 32 := Scalar.divsi v812 c4_i32_361
  let c2_i32_362 : BitVec 32 := 2#32
  let v826 : BitVec 32 := Scalar.remsi v825 c2_i32_362
  let v974 : Index := Scalar.indexCast v826
  let c4_i32_363 : BitVec 32 := 4#32
  let v827 : BitVec 32 := Scalar.remsi v812 c4_i32_363
  let c128_i32_364 : BitVec 32 := 128#32
  let v828 : BitVec 32 := Scalar.muli v827 c128_i32_364
  let v829 : BitVec 32 := v828
  let v975 : Index := Scalar.indexCast v829
  let c512_429 : Index := 512#32
  ![v974.toNat, v975.toNat, 512]
def k0_off179 (i : grid0.Coords) : Fin 3 → Nat :=
  let arg0 : BitVec 32 := BitVec.ofNat 32 (i 0).val
  let c31_i32_358 : BitVec 32 := 31#32
  let v812 : BitVec 32 := Scalar.minsi arg0 c31_i32_358
  let c10_i32_366 : BitVec 32 := 10#32
  let v835 : BitVec 32 := Scalar.remsi v812 c10_i32_366
  let v998 : Index := Scalar.indexCast v835
  let c0_440 : Index := 0#32
  let c640_441 : Index := 640#32
  ![v998.toNat, 0, 640]
def k0_off180 (i : grid0.Coords) : Fin 3 → Nat :=
  let arg0 : BitVec 32 := BitVec.ofNat 32 (i 0).val
  let c31_i32_358 : BitVec 32 := 31#32
  let v812 : BitVec 32 := Scalar.minsi arg0 c31_i32_358
  let c4_i32_361 : BitVec 32 := 4#32
  let v825 : BitVec 32 := Scalar.divsi v812 c4_i32_361
  let c2_i32_362 : BitVec 32 := 2#32
  let v826 : BitVec 32 := Scalar.remsi v825 c2_i32_362
  let v1003 : Index := Scalar.indexCast v826
  let c4_i32_363 : BitVec 32 := 4#32
  let v827 : BitVec 32 := Scalar.remsi v812 c4_i32_363
  let c128_i32_364 : BitVec 32 := 128#32
  let v828 : BitVec 32 := Scalar.muli v827 c128_i32_364
  let v829 : BitVec 32 := v828
  let v1004 : Index := Scalar.indexCast v829
  let c640_442 : Index := 640#32
  ![v1003.toNat, v1004.toNat, 640]
def k0_off181 (i : grid0.Coords) : Fin 3 → Nat :=
  let arg0 : BitVec 32 := BitVec.ofNat 32 (i 0).val
  let c31_i32_358 : BitVec 32 := 31#32
  let v812 : BitVec 32 := Scalar.minsi arg0 c31_i32_358
  let c10_i32_366 : BitVec 32 := 10#32
  let v835 : BitVec 32 := Scalar.remsi v812 c10_i32_366
  let v1027 : Index := Scalar.indexCast v835
  let c0_453 : Index := 0#32
  let c768_454 : Index := 768#32
  ![v1027.toNat, 0, 768]
def k0_off182 (i : grid0.Coords) : Fin 3 → Nat :=
  let arg0 : BitVec 32 := BitVec.ofNat 32 (i 0).val
  let c31_i32_358 : BitVec 32 := 31#32
  let v812 : BitVec 32 := Scalar.minsi arg0 c31_i32_358
  let c4_i32_361 : BitVec 32 := 4#32
  let v825 : BitVec 32 := Scalar.divsi v812 c4_i32_361
  let c2_i32_362 : BitVec 32 := 2#32
  let v826 : BitVec 32 := Scalar.remsi v825 c2_i32_362
  let v1032 : Index := Scalar.indexCast v826
  let c4_i32_363 : BitVec 32 := 4#32
  let v827 : BitVec 32 := Scalar.remsi v812 c4_i32_363
  let c128_i32_364 : BitVec 32 := 128#32
  let v828 : BitVec 32 := Scalar.muli v827 c128_i32_364
  let v829 : BitVec 32 := v828
  let v1033 : Index := Scalar.indexCast v829
  let c768_455 : Index := 768#32
  ![v1032.toNat, v1033.toNat, 768]
def k0_off183 (i : grid0.Coords) : Fin 3 → Nat :=
  let arg0 : BitVec 32 := BitVec.ofNat 32 (i 0).val
  let c31_i32_358 : BitVec 32 := 31#32
  let v812 : BitVec 32 := Scalar.minsi arg0 c31_i32_358
  let c10_i32_366 : BitVec 32 := 10#32
  let v835 : BitVec 32 := Scalar.remsi v812 c10_i32_366
  let v1056 : Index := Scalar.indexCast v835
  let c0_466 : Index := 0#32
  let c896_467 : Index := 896#32
  ![v1056.toNat, 0, 896]
def k0_off184 (i : grid0.Coords) : Fin 3 → Nat :=
  let arg0 : BitVec 32 := BitVec.ofNat 32 (i 0).val
  let c31_i32_358 : BitVec 32 := 31#32
  let v812 : BitVec 32 := Scalar.minsi arg0 c31_i32_358
  let c4_i32_361 : BitVec 32 := 4#32
  let v825 : BitVec 32 := Scalar.divsi v812 c4_i32_361
  let c2_i32_362 : BitVec 32 := 2#32
  let v826 : BitVec 32 := Scalar.remsi v825 c2_i32_362
  let v1061 : Index := Scalar.indexCast v826
  let c4_i32_363 : BitVec 32 := 4#32
  let v827 : BitVec 32 := Scalar.remsi v812 c4_i32_363
  let c128_i32_364 : BitVec 32 := 128#32
  let v828 : BitVec 32 := Scalar.muli v827 c128_i32_364
  let v829 : BitVec 32 := v828
  let v1062 : Index := Scalar.indexCast v829
  let c896_468 : Index := 896#32
  ![v1061.toNat, v1062.toNat, 896]
def k0_off185 (i : grid0.Coords) : Fin 3 → Nat :=
  let arg0 : BitVec 32 := BitVec.ofNat 32 (i 0).val
  let c31_i32_358 : BitVec 32 := 31#32
  let v812 : BitVec 32 := Scalar.minsi arg0 c31_i32_358
  let c10_i32_366 : BitVec 32 := 10#32
  let v835 : BitVec 32 := Scalar.remsi v812 c10_i32_366
  let v1085 : Index := Scalar.indexCast v835
  let c0_479 : Index := 0#32
  let c1024_480 : Index := 1024#32
  ![v1085.toNat, 0, 1024]
def k0_off186 (i : grid0.Coords) : Fin 3 → Nat :=
  let arg0 : BitVec 32 := BitVec.ofNat 32 (i 0).val
  let c31_i32_358 : BitVec 32 := 31#32
  let v812 : BitVec 32 := Scalar.minsi arg0 c31_i32_358
  let c4_i32_361 : BitVec 32 := 4#32
  let v825 : BitVec 32 := Scalar.divsi v812 c4_i32_361
  let c2_i32_362 : BitVec 32 := 2#32
  let v826 : BitVec 32 := Scalar.remsi v825 c2_i32_362
  let v1090 : Index := Scalar.indexCast v826
  let c4_i32_363 : BitVec 32 := 4#32
  let v827 : BitVec 32 := Scalar.remsi v812 c4_i32_363
  let c128_i32_364 : BitVec 32 := 128#32
  let v828 : BitVec 32 := Scalar.muli v827 c128_i32_364
  let v829 : BitVec 32 := v828
  let v1091 : Index := Scalar.indexCast v829
  let c1024_481 : Index := 1024#32
  ![v1090.toNat, v1091.toNat, 1024]
def k0_off187 (i : grid0.Coords) : Fin 3 → Nat :=
  let arg0 : BitVec 32 := BitVec.ofNat 32 (i 0).val
  let c31_i32_358 : BitVec 32 := 31#32
  let v812 : BitVec 32 := Scalar.minsi arg0 c31_i32_358
  let c10_i32_366 : BitVec 32 := 10#32
  let v835 : BitVec 32 := Scalar.remsi v812 c10_i32_366
  let v1114 : Index := Scalar.indexCast v835
  let c0_492 : Index := 0#32
  let c1152_493 : Index := 1152#32
  ![v1114.toNat, 0, 1152]
def k0_off188 (i : grid0.Coords) : Fin 3 → Nat :=
  let arg0 : BitVec 32 := BitVec.ofNat 32 (i 0).val
  let c31_i32_358 : BitVec 32 := 31#32
  let v812 : BitVec 32 := Scalar.minsi arg0 c31_i32_358
  let c4_i32_361 : BitVec 32 := 4#32
  let v825 : BitVec 32 := Scalar.divsi v812 c4_i32_361
  let c2_i32_362 : BitVec 32 := 2#32
  let v826 : BitVec 32 := Scalar.remsi v825 c2_i32_362
  let v1119 : Index := Scalar.indexCast v826
  let c4_i32_363 : BitVec 32 := 4#32
  let v827 : BitVec 32 := Scalar.remsi v812 c4_i32_363
  let c128_i32_364 : BitVec 32 := 128#32
  let v828 : BitVec 32 := Scalar.muli v827 c128_i32_364
  let v829 : BitVec 32 := v828
  let v1120 : Index := Scalar.indexCast v829
  let c1152_494 : Index := 1152#32
  ![v1119.toNat, v1120.toNat, 1152]
def k0_off189 (i : grid0.Coords) : Fin 3 → Nat :=
  let arg0 : BitVec 32 := BitVec.ofNat 32 (i 0).val
  let c31_i32_358 : BitVec 32 := 31#32
  let v812 : BitVec 32 := Scalar.minsi arg0 c31_i32_358
  let c10_i32_366 : BitVec 32 := 10#32
  let v835 : BitVec 32 := Scalar.remsi v812 c10_i32_366
  let v1143 : Index := Scalar.indexCast v835
  let c0_505 : Index := 0#32
  let c1280_506 : Index := 1280#32
  ![v1143.toNat, 0, 1280]
def k0_off190 (i : grid0.Coords) : Fin 3 → Nat :=
  let arg0 : BitVec 32 := BitVec.ofNat 32 (i 0).val
  let c31_i32_358 : BitVec 32 := 31#32
  let v812 : BitVec 32 := Scalar.minsi arg0 c31_i32_358
  let c4_i32_361 : BitVec 32 := 4#32
  let v825 : BitVec 32 := Scalar.divsi v812 c4_i32_361
  let c2_i32_362 : BitVec 32 := 2#32
  let v826 : BitVec 32 := Scalar.remsi v825 c2_i32_362
  let v1148 : Index := Scalar.indexCast v826
  let c4_i32_363 : BitVec 32 := 4#32
  let v827 : BitVec 32 := Scalar.remsi v812 c4_i32_363
  let c128_i32_364 : BitVec 32 := 128#32
  let v828 : BitVec 32 := Scalar.muli v827 c128_i32_364
  let v829 : BitVec 32 := v828
  let v1149 : Index := Scalar.indexCast v829
  let c1280_507 : Index := 1280#32
  ![v1148.toNat, v1149.toNat, 1280]
def k0_off191 (i : grid0.Coords) : Fin 3 → Nat :=
  let arg0 : BitVec 32 := BitVec.ofNat 32 (i 0).val
  let c31_i32_358 : BitVec 32 := 31#32
  let v812 : BitVec 32 := Scalar.minsi arg0 c31_i32_358
  let c10_i32_366 : BitVec 32 := 10#32
  let v835 : BitVec 32 := Scalar.remsi v812 c10_i32_366
  let v1172 : Index := Scalar.indexCast v835
  let c0_518 : Index := 0#32
  let c1408_519 : Index := 1408#32
  ![v1172.toNat, 0, 1408]
def k0_off192 (i : grid0.Coords) : Fin 3 → Nat :=
  let arg0 : BitVec 32 := BitVec.ofNat 32 (i 0).val
  let c31_i32_358 : BitVec 32 := 31#32
  let v812 : BitVec 32 := Scalar.minsi arg0 c31_i32_358
  let c4_i32_361 : BitVec 32 := 4#32
  let v825 : BitVec 32 := Scalar.divsi v812 c4_i32_361
  let c2_i32_362 : BitVec 32 := 2#32
  let v826 : BitVec 32 := Scalar.remsi v825 c2_i32_362
  let v1177 : Index := Scalar.indexCast v826
  let c4_i32_363 : BitVec 32 := 4#32
  let v827 : BitVec 32 := Scalar.remsi v812 c4_i32_363
  let c128_i32_364 : BitVec 32 := 128#32
  let v828 : BitVec 32 := Scalar.muli v827 c128_i32_364
  let v829 : BitVec 32 := v828
  let v1178 : Index := Scalar.indexCast v829
  let c1408_520 : Index := 1408#32
  ![v1177.toNat, v1178.toNat, 1408]
def k0_cond5 (i : grid0.Coords) : BitVec 1 :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c31_i32 : BitVec 32 := 31#32
  let v19 : BitVec 1 := Scalar.cmpi .eq v1 c31_i32
  let v20 : BitVec 32 := Scalar.extui v19
  let c0_i32_9 : BitVec 32 := 0#32
  let v21 : BitVec 1 := Scalar.cmpi .ne v20 c0_i32_9
  v21

def k0_mult26 (i : grid0.Coords) : BitVec 32 :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_14 : BitVec 32 := 4#32
  let v28 : BitVec 32 := Scalar.remsi v1 c4_i32_14
  let c1536_i32 : BitVec 32 := 1536#32
  let v31 : BitVec 32 := Scalar.muli v28 c1536_i32
  v31
def k0_off193 (i : grid0.Coords) : Fin 2 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_14 : BitVec 32 := 4#32
  let v28 : BitVec 32 := Scalar.remsi v1 c4_i32_14
  let c1536_i32 : BitVec 32 := 1536#32
  let v31 : BitVec 32 := Scalar.muli v28 c1536_i32
  let v32 : BitVec 32 := v31
  let v33 : Index := Scalar.indexCast v32
  let c0 : Index := 0#32
  ![v33.toNat, 0]
def k0_off194 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c2_i32_17 : BitVec 32 := 2#32
  let v36 : BitVec 32 := Scalar.remsi v1 c2_i32_17
  let v37 : Index := Scalar.indexCast v36
  let c0_18 : Index := 0#32
  let c0_19 : Index := 0#32
  ![v37.toNat, 0, 0]
def k0_off195 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_15 : BitVec 32 := 4#32
  let v29 : BitVec 32 := Scalar.divsi v1 c4_i32_15
  let c2_i32 : BitVec 32 := 2#32
  let v30 : BitVec 32 := Scalar.remsi v29 c2_i32
  let v41 : Index := Scalar.indexCast v30
  let c0_20 : Index := 0#32
  let c0_21 : Index := 0#32
  ![v41.toNat, 0, 0]
def k0_off196 (i : grid0.Coords) : Fin 2 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let v51 : Index := Scalar.indexCast v2
  let c0_25 : Index := 0#32
  ![v51.toNat, 0]
def k0_mult27 (i : grid0.Coords) : BitVec 32 :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_28 : BitVec 32 := 4#32
  let v59 : BitVec 32 := Scalar.remsi v2 c4_i32_28
  let c128_i32 : BitVec 32 := 128#32
  let v60 : BitVec 32 := Scalar.muli v59 c128_i32
  v60
def k0_off197 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v62 : BitVec 32 := Scalar.remsi v2 c10_i32
  let v66 : Index := Scalar.indexCast v62
  let c0_32 : Index := 0#32
  let c0_33 : Index := 0#32
  ![v66.toNat, 0, 0]
def k0_off198 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_26 : BitVec 32 := 4#32
  let v57 : BitVec 32 := Scalar.divsi v2 c4_i32_26
  let c2_i32_27 : BitVec 32 := 2#32
  let v58 : BitVec 32 := Scalar.remsi v57 c2_i32_27
  let v69 : Index := Scalar.indexCast v58
  let c4_i32_28 : BitVec 32 := 4#32
  let v59 : BitVec 32 := Scalar.remsi v2 c4_i32_28
  let c128_i32 : BitVec 32 := 128#32
  let v60 : BitVec 32 := Scalar.muli v59 c128_i32
  let v61 : BitVec 32 := v60
  let v70 : Index := Scalar.indexCast v61
  let c0_34 : Index := 0#32
  ![v69.toNat, v70.toNat, 0]
def k0_off199 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v62 : BitVec 32 := Scalar.remsi v2 c10_i32
  let v107 : Index := Scalar.indexCast v62
  let c0_48 : Index := 0#32
  let c128 : Index := 128#32
  ![v107.toNat, 0, 128]
def k0_off200 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_26 : BitVec 32 := 4#32
  let v57 : BitVec 32 := Scalar.divsi v2 c4_i32_26
  let c2_i32_27 : BitVec 32 := 2#32
  let v58 : BitVec 32 := Scalar.remsi v57 c2_i32_27
  let v110 : Index := Scalar.indexCast v58
  let c4_i32_28 : BitVec 32 := 4#32
  let v59 : BitVec 32 := Scalar.remsi v2 c4_i32_28
  let c128_i32 : BitVec 32 := 128#32
  let v60 : BitVec 32 := Scalar.muli v59 c128_i32
  let v61 : BitVec 32 := v60
  let v111 : Index := Scalar.indexCast v61
  let c128_49 : Index := 128#32
  ![v110.toNat, v111.toNat, 128]
def k0_off201 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v62 : BitVec 32 := Scalar.remsi v2 c10_i32
  let v148 : Index := Scalar.indexCast v62
  let c0_65 : Index := 0#32
  let c256 : Index := 256#32
  ![v148.toNat, 0, 256]
def k0_off202 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_26 : BitVec 32 := 4#32
  let v57 : BitVec 32 := Scalar.divsi v2 c4_i32_26
  let c2_i32_27 : BitVec 32 := 2#32
  let v58 : BitVec 32 := Scalar.remsi v57 c2_i32_27
  let v151 : Index := Scalar.indexCast v58
  let c4_i32_28 : BitVec 32 := 4#32
  let v59 : BitVec 32 := Scalar.remsi v2 c4_i32_28
  let c128_i32 : BitVec 32 := 128#32
  let v60 : BitVec 32 := Scalar.muli v59 c128_i32
  let v61 : BitVec 32 := v60
  let v152 : Index := Scalar.indexCast v61
  let c256_66 : Index := 256#32
  ![v151.toNat, v152.toNat, 256]
def k0_off203 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v62 : BitVec 32 := Scalar.remsi v2 c10_i32
  let v189 : Index := Scalar.indexCast v62
  let c0_82 : Index := 0#32
  let c384 : Index := 384#32
  ![v189.toNat, 0, 384]
def k0_off204 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_26 : BitVec 32 := 4#32
  let v57 : BitVec 32 := Scalar.divsi v2 c4_i32_26
  let c2_i32_27 : BitVec 32 := 2#32
  let v58 : BitVec 32 := Scalar.remsi v57 c2_i32_27
  let v192 : Index := Scalar.indexCast v58
  let c4_i32_28 : BitVec 32 := 4#32
  let v59 : BitVec 32 := Scalar.remsi v2 c4_i32_28
  let c128_i32 : BitVec 32 := 128#32
  let v60 : BitVec 32 := Scalar.muli v59 c128_i32
  let v61 : BitVec 32 := v60
  let v193 : Index := Scalar.indexCast v61
  let c384_83 : Index := 384#32
  ![v192.toNat, v193.toNat, 384]
def k0_off205 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v62 : BitVec 32 := Scalar.remsi v2 c10_i32
  let v230 : Index := Scalar.indexCast v62
  let c0_99 : Index := 0#32
  let c512 : Index := 512#32
  ![v230.toNat, 0, 512]
def k0_off206 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_26 : BitVec 32 := 4#32
  let v57 : BitVec 32 := Scalar.divsi v2 c4_i32_26
  let c2_i32_27 : BitVec 32 := 2#32
  let v58 : BitVec 32 := Scalar.remsi v57 c2_i32_27
  let v233 : Index := Scalar.indexCast v58
  let c4_i32_28 : BitVec 32 := 4#32
  let v59 : BitVec 32 := Scalar.remsi v2 c4_i32_28
  let c128_i32 : BitVec 32 := 128#32
  let v60 : BitVec 32 := Scalar.muli v59 c128_i32
  let v61 : BitVec 32 := v60
  let v234 : Index := Scalar.indexCast v61
  let c512_100 : Index := 512#32
  ![v233.toNat, v234.toNat, 512]
def k0_off207 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v62 : BitVec 32 := Scalar.remsi v2 c10_i32
  let v271 : Index := Scalar.indexCast v62
  let c0_116 : Index := 0#32
  let c640 : Index := 640#32
  ![v271.toNat, 0, 640]
def k0_off208 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_26 : BitVec 32 := 4#32
  let v57 : BitVec 32 := Scalar.divsi v2 c4_i32_26
  let c2_i32_27 : BitVec 32 := 2#32
  let v58 : BitVec 32 := Scalar.remsi v57 c2_i32_27
  let v274 : Index := Scalar.indexCast v58
  let c4_i32_28 : BitVec 32 := 4#32
  let v59 : BitVec 32 := Scalar.remsi v2 c4_i32_28
  let c128_i32 : BitVec 32 := 128#32
  let v60 : BitVec 32 := Scalar.muli v59 c128_i32
  let v61 : BitVec 32 := v60
  let v275 : Index := Scalar.indexCast v61
  let c640_117 : Index := 640#32
  ![v274.toNat, v275.toNat, 640]
def k0_off209 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v62 : BitVec 32 := Scalar.remsi v2 c10_i32
  let v312 : Index := Scalar.indexCast v62
  let c0_133 : Index := 0#32
  let c768 : Index := 768#32
  ![v312.toNat, 0, 768]
def k0_off210 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_26 : BitVec 32 := 4#32
  let v57 : BitVec 32 := Scalar.divsi v2 c4_i32_26
  let c2_i32_27 : BitVec 32 := 2#32
  let v58 : BitVec 32 := Scalar.remsi v57 c2_i32_27
  let v315 : Index := Scalar.indexCast v58
  let c4_i32_28 : BitVec 32 := 4#32
  let v59 : BitVec 32 := Scalar.remsi v2 c4_i32_28
  let c128_i32 : BitVec 32 := 128#32
  let v60 : BitVec 32 := Scalar.muli v59 c128_i32
  let v61 : BitVec 32 := v60
  let v316 : Index := Scalar.indexCast v61
  let c768_134 : Index := 768#32
  ![v315.toNat, v316.toNat, 768]
def k0_off211 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v62 : BitVec 32 := Scalar.remsi v2 c10_i32
  let v353 : Index := Scalar.indexCast v62
  let c0_150 : Index := 0#32
  let c896 : Index := 896#32
  ![v353.toNat, 0, 896]
def k0_off212 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_26 : BitVec 32 := 4#32
  let v57 : BitVec 32 := Scalar.divsi v2 c4_i32_26
  let c2_i32_27 : BitVec 32 := 2#32
  let v58 : BitVec 32 := Scalar.remsi v57 c2_i32_27
  let v356 : Index := Scalar.indexCast v58
  let c4_i32_28 : BitVec 32 := 4#32
  let v59 : BitVec 32 := Scalar.remsi v2 c4_i32_28
  let c128_i32 : BitVec 32 := 128#32
  let v60 : BitVec 32 := Scalar.muli v59 c128_i32
  let v61 : BitVec 32 := v60
  let v357 : Index := Scalar.indexCast v61
  let c896_151 : Index := 896#32
  ![v356.toNat, v357.toNat, 896]
def k0_off213 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v62 : BitVec 32 := Scalar.remsi v2 c10_i32
  let v394 : Index := Scalar.indexCast v62
  let c0_167 : Index := 0#32
  let c1024 : Index := 1024#32
  ![v394.toNat, 0, 1024]
def k0_off214 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_26 : BitVec 32 := 4#32
  let v57 : BitVec 32 := Scalar.divsi v2 c4_i32_26
  let c2_i32_27 : BitVec 32 := 2#32
  let v58 : BitVec 32 := Scalar.remsi v57 c2_i32_27
  let v397 : Index := Scalar.indexCast v58
  let c4_i32_28 : BitVec 32 := 4#32
  let v59 : BitVec 32 := Scalar.remsi v2 c4_i32_28
  let c128_i32 : BitVec 32 := 128#32
  let v60 : BitVec 32 := Scalar.muli v59 c128_i32
  let v61 : BitVec 32 := v60
  let v398 : Index := Scalar.indexCast v61
  let c1024_168 : Index := 1024#32
  ![v397.toNat, v398.toNat, 1024]
def k0_off215 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v62 : BitVec 32 := Scalar.remsi v2 c10_i32
  let v435 : Index := Scalar.indexCast v62
  let c0_184 : Index := 0#32
  let c1152 : Index := 1152#32
  ![v435.toNat, 0, 1152]
def k0_off216 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_26 : BitVec 32 := 4#32
  let v57 : BitVec 32 := Scalar.divsi v2 c4_i32_26
  let c2_i32_27 : BitVec 32 := 2#32
  let v58 : BitVec 32 := Scalar.remsi v57 c2_i32_27
  let v438 : Index := Scalar.indexCast v58
  let c4_i32_28 : BitVec 32 := 4#32
  let v59 : BitVec 32 := Scalar.remsi v2 c4_i32_28
  let c128_i32 : BitVec 32 := 128#32
  let v60 : BitVec 32 := Scalar.muli v59 c128_i32
  let v61 : BitVec 32 := v60
  let v439 : Index := Scalar.indexCast v61
  let c1152_185 : Index := 1152#32
  ![v438.toNat, v439.toNat, 1152]
def k0_off217 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v62 : BitVec 32 := Scalar.remsi v2 c10_i32
  let v476 : Index := Scalar.indexCast v62
  let c0_201 : Index := 0#32
  let c1280 : Index := 1280#32
  ![v476.toNat, 0, 1280]
def k0_off218 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_26 : BitVec 32 := 4#32
  let v57 : BitVec 32 := Scalar.divsi v2 c4_i32_26
  let c2_i32_27 : BitVec 32 := 2#32
  let v58 : BitVec 32 := Scalar.remsi v57 c2_i32_27
  let v479 : Index := Scalar.indexCast v58
  let c4_i32_28 : BitVec 32 := 4#32
  let v59 : BitVec 32 := Scalar.remsi v2 c4_i32_28
  let c128_i32 : BitVec 32 := 128#32
  let v60 : BitVec 32 := Scalar.muli v59 c128_i32
  let v61 : BitVec 32 := v60
  let v480 : Index := Scalar.indexCast v61
  let c1280_202 : Index := 1280#32
  ![v479.toNat, v480.toNat, 1280]
def k0_off219 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v62 : BitVec 32 := Scalar.remsi v2 c10_i32
  let v517 : Index := Scalar.indexCast v62
  let c0_218 : Index := 0#32
  let c1408 : Index := 1408#32
  ![v517.toNat, 0, 1408]
def k0_off220 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_26 : BitVec 32 := 4#32
  let v57 : BitVec 32 := Scalar.divsi v2 c4_i32_26
  let c2_i32_27 : BitVec 32 := 2#32
  let v58 : BitVec 32 := Scalar.remsi v57 c2_i32_27
  let v520 : Index := Scalar.indexCast v58
  let c4_i32_28 : BitVec 32 := 4#32
  let v59 : BitVec 32 := Scalar.remsi v2 c4_i32_28
  let c128_i32 : BitVec 32 := 128#32
  let v60 : BitVec 32 := Scalar.muli v59 c128_i32
  let v61 : BitVec 32 := v60
  let v521 : Index := Scalar.indexCast v61
  let c1408_219 : Index := 1408#32
  ![v520.toNat, v521.toNat, 1408]
def k0_cond6 (i : grid0.Coords) : BitVec 1 :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c32_i32_10 : BitVec 32 := 32#32
  let v22 : BitVec 1 := Scalar.cmpi .sge v1 c32_i32_10
  let v23 : BitVec 32 := Scalar.extui v22
  let c0_i32_11 : BitVec 32 := 0#32
  let v24 : BitVec 1 := Scalar.cmpi .ne v23 c0_i32_11
  v24

def k0_off221 (i : grid0.Coords) : Fin 2 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let v28 : Index := Scalar.indexCast v2
  let c0 : Index := 0#32
  ![v28.toNat, 0]
def k0_mult28 (i : grid0.Coords) : BitVec 32 :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_15 : BitVec 32 := 4#32
  let v36 : BitVec 32 := Scalar.remsi v2 c4_i32_15
  let c128_i32 : BitVec 32 := 128#32
  let v37 : BitVec 32 := Scalar.muli v36 c128_i32
  v37
def k0_off222 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v39 : BitVec 32 := Scalar.remsi v2 c10_i32
  let v43 : Index := Scalar.indexCast v39
  let c0_18 : Index := 0#32
  let c0_19 : Index := 0#32
  ![v43.toNat, 0, 0]
def k0_off223 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_14 : BitVec 32 := 4#32
  let v34 : BitVec 32 := Scalar.divsi v2 c4_i32_14
  let c2_i32 : BitVec 32 := 2#32
  let v35 : BitVec 32 := Scalar.remsi v34 c2_i32
  let v46 : Index := Scalar.indexCast v35
  let c4_i32_15 : BitVec 32 := 4#32
  let v36 : BitVec 32 := Scalar.remsi v2 c4_i32_15
  let c128_i32 : BitVec 32 := 128#32
  let v37 : BitVec 32 := Scalar.muli v36 c128_i32
  let v38 : BitVec 32 := v37
  let v47 : Index := Scalar.indexCast v38
  let c0_20 : Index := 0#32
  ![v46.toNat, v47.toNat, 0]
def k0_off224 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v39 : BitVec 32 := Scalar.remsi v2 c10_i32
  let v84 : Index := Scalar.indexCast v39
  let c0_34 : Index := 0#32
  let c128 : Index := 128#32
  ![v84.toNat, 0, 128]
def k0_off225 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_14 : BitVec 32 := 4#32
  let v34 : BitVec 32 := Scalar.divsi v2 c4_i32_14
  let c2_i32 : BitVec 32 := 2#32
  let v35 : BitVec 32 := Scalar.remsi v34 c2_i32
  let v87 : Index := Scalar.indexCast v35
  let c4_i32_15 : BitVec 32 := 4#32
  let v36 : BitVec 32 := Scalar.remsi v2 c4_i32_15
  let c128_i32 : BitVec 32 := 128#32
  let v37 : BitVec 32 := Scalar.muli v36 c128_i32
  let v38 : BitVec 32 := v37
  let v88 : Index := Scalar.indexCast v38
  let c128_35 : Index := 128#32
  ![v87.toNat, v88.toNat, 128]
def k0_off226 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v39 : BitVec 32 := Scalar.remsi v2 c10_i32
  let v125 : Index := Scalar.indexCast v39
  let c0_51 : Index := 0#32
  let c256 : Index := 256#32
  ![v125.toNat, 0, 256]
def k0_off227 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_14 : BitVec 32 := 4#32
  let v34 : BitVec 32 := Scalar.divsi v2 c4_i32_14
  let c2_i32 : BitVec 32 := 2#32
  let v35 : BitVec 32 := Scalar.remsi v34 c2_i32
  let v128 : Index := Scalar.indexCast v35
  let c4_i32_15 : BitVec 32 := 4#32
  let v36 : BitVec 32 := Scalar.remsi v2 c4_i32_15
  let c128_i32 : BitVec 32 := 128#32
  let v37 : BitVec 32 := Scalar.muli v36 c128_i32
  let v38 : BitVec 32 := v37
  let v129 : Index := Scalar.indexCast v38
  let c256_52 : Index := 256#32
  ![v128.toNat, v129.toNat, 256]
def k0_off228 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v39 : BitVec 32 := Scalar.remsi v2 c10_i32
  let v166 : Index := Scalar.indexCast v39
  let c0_68 : Index := 0#32
  let c384 : Index := 384#32
  ![v166.toNat, 0, 384]
def k0_off229 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_14 : BitVec 32 := 4#32
  let v34 : BitVec 32 := Scalar.divsi v2 c4_i32_14
  let c2_i32 : BitVec 32 := 2#32
  let v35 : BitVec 32 := Scalar.remsi v34 c2_i32
  let v169 : Index := Scalar.indexCast v35
  let c4_i32_15 : BitVec 32 := 4#32
  let v36 : BitVec 32 := Scalar.remsi v2 c4_i32_15
  let c128_i32 : BitVec 32 := 128#32
  let v37 : BitVec 32 := Scalar.muli v36 c128_i32
  let v38 : BitVec 32 := v37
  let v170 : Index := Scalar.indexCast v38
  let c384_69 : Index := 384#32
  ![v169.toNat, v170.toNat, 384]
def k0_off230 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v39 : BitVec 32 := Scalar.remsi v2 c10_i32
  let v207 : Index := Scalar.indexCast v39
  let c0_85 : Index := 0#32
  let c512 : Index := 512#32
  ![v207.toNat, 0, 512]
def k0_off231 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_14 : BitVec 32 := 4#32
  let v34 : BitVec 32 := Scalar.divsi v2 c4_i32_14
  let c2_i32 : BitVec 32 := 2#32
  let v35 : BitVec 32 := Scalar.remsi v34 c2_i32
  let v210 : Index := Scalar.indexCast v35
  let c4_i32_15 : BitVec 32 := 4#32
  let v36 : BitVec 32 := Scalar.remsi v2 c4_i32_15
  let c128_i32 : BitVec 32 := 128#32
  let v37 : BitVec 32 := Scalar.muli v36 c128_i32
  let v38 : BitVec 32 := v37
  let v211 : Index := Scalar.indexCast v38
  let c512_86 : Index := 512#32
  ![v210.toNat, v211.toNat, 512]
def k0_off232 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v39 : BitVec 32 := Scalar.remsi v2 c10_i32
  let v248 : Index := Scalar.indexCast v39
  let c0_102 : Index := 0#32
  let c640 : Index := 640#32
  ![v248.toNat, 0, 640]
def k0_off233 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_14 : BitVec 32 := 4#32
  let v34 : BitVec 32 := Scalar.divsi v2 c4_i32_14
  let c2_i32 : BitVec 32 := 2#32
  let v35 : BitVec 32 := Scalar.remsi v34 c2_i32
  let v251 : Index := Scalar.indexCast v35
  let c4_i32_15 : BitVec 32 := 4#32
  let v36 : BitVec 32 := Scalar.remsi v2 c4_i32_15
  let c128_i32 : BitVec 32 := 128#32
  let v37 : BitVec 32 := Scalar.muli v36 c128_i32
  let v38 : BitVec 32 := v37
  let v252 : Index := Scalar.indexCast v38
  let c640_103 : Index := 640#32
  ![v251.toNat, v252.toNat, 640]
def k0_off234 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v39 : BitVec 32 := Scalar.remsi v2 c10_i32
  let v289 : Index := Scalar.indexCast v39
  let c0_119 : Index := 0#32
  let c768 : Index := 768#32
  ![v289.toNat, 0, 768]
def k0_off235 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_14 : BitVec 32 := 4#32
  let v34 : BitVec 32 := Scalar.divsi v2 c4_i32_14
  let c2_i32 : BitVec 32 := 2#32
  let v35 : BitVec 32 := Scalar.remsi v34 c2_i32
  let v292 : Index := Scalar.indexCast v35
  let c4_i32_15 : BitVec 32 := 4#32
  let v36 : BitVec 32 := Scalar.remsi v2 c4_i32_15
  let c128_i32 : BitVec 32 := 128#32
  let v37 : BitVec 32 := Scalar.muli v36 c128_i32
  let v38 : BitVec 32 := v37
  let v293 : Index := Scalar.indexCast v38
  let c768_120 : Index := 768#32
  ![v292.toNat, v293.toNat, 768]
def k0_off236 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v39 : BitVec 32 := Scalar.remsi v2 c10_i32
  let v330 : Index := Scalar.indexCast v39
  let c0_136 : Index := 0#32
  let c896 : Index := 896#32
  ![v330.toNat, 0, 896]
def k0_off237 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_14 : BitVec 32 := 4#32
  let v34 : BitVec 32 := Scalar.divsi v2 c4_i32_14
  let c2_i32 : BitVec 32 := 2#32
  let v35 : BitVec 32 := Scalar.remsi v34 c2_i32
  let v333 : Index := Scalar.indexCast v35
  let c4_i32_15 : BitVec 32 := 4#32
  let v36 : BitVec 32 := Scalar.remsi v2 c4_i32_15
  let c128_i32 : BitVec 32 := 128#32
  let v37 : BitVec 32 := Scalar.muli v36 c128_i32
  let v38 : BitVec 32 := v37
  let v334 : Index := Scalar.indexCast v38
  let c896_137 : Index := 896#32
  ![v333.toNat, v334.toNat, 896]
def k0_off238 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v39 : BitVec 32 := Scalar.remsi v2 c10_i32
  let v371 : Index := Scalar.indexCast v39
  let c0_153 : Index := 0#32
  let c1024 : Index := 1024#32
  ![v371.toNat, 0, 1024]
def k0_off239 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_14 : BitVec 32 := 4#32
  let v34 : BitVec 32 := Scalar.divsi v2 c4_i32_14
  let c2_i32 : BitVec 32 := 2#32
  let v35 : BitVec 32 := Scalar.remsi v34 c2_i32
  let v374 : Index := Scalar.indexCast v35
  let c4_i32_15 : BitVec 32 := 4#32
  let v36 : BitVec 32 := Scalar.remsi v2 c4_i32_15
  let c128_i32 : BitVec 32 := 128#32
  let v37 : BitVec 32 := Scalar.muli v36 c128_i32
  let v38 : BitVec 32 := v37
  let v375 : Index := Scalar.indexCast v38
  let c1024_154 : Index := 1024#32
  ![v374.toNat, v375.toNat, 1024]
def k0_off240 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v39 : BitVec 32 := Scalar.remsi v2 c10_i32
  let v412 : Index := Scalar.indexCast v39
  let c0_170 : Index := 0#32
  let c1152 : Index := 1152#32
  ![v412.toNat, 0, 1152]
def k0_off241 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_14 : BitVec 32 := 4#32
  let v34 : BitVec 32 := Scalar.divsi v2 c4_i32_14
  let c2_i32 : BitVec 32 := 2#32
  let v35 : BitVec 32 := Scalar.remsi v34 c2_i32
  let v415 : Index := Scalar.indexCast v35
  let c4_i32_15 : BitVec 32 := 4#32
  let v36 : BitVec 32 := Scalar.remsi v2 c4_i32_15
  let c128_i32 : BitVec 32 := 128#32
  let v37 : BitVec 32 := Scalar.muli v36 c128_i32
  let v38 : BitVec 32 := v37
  let v416 : Index := Scalar.indexCast v38
  let c1152_171 : Index := 1152#32
  ![v415.toNat, v416.toNat, 1152]
def k0_off242 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v39 : BitVec 32 := Scalar.remsi v2 c10_i32
  let v453 : Index := Scalar.indexCast v39
  let c0_187 : Index := 0#32
  let c1280 : Index := 1280#32
  ![v453.toNat, 0, 1280]
def k0_off243 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_14 : BitVec 32 := 4#32
  let v34 : BitVec 32 := Scalar.divsi v2 c4_i32_14
  let c2_i32 : BitVec 32 := 2#32
  let v35 : BitVec 32 := Scalar.remsi v34 c2_i32
  let v456 : Index := Scalar.indexCast v35
  let c4_i32_15 : BitVec 32 := 4#32
  let v36 : BitVec 32 := Scalar.remsi v2 c4_i32_15
  let c128_i32 : BitVec 32 := 128#32
  let v37 : BitVec 32 := Scalar.muli v36 c128_i32
  let v38 : BitVec 32 := v37
  let v457 : Index := Scalar.indexCast v38
  let c1280_188 : Index := 1280#32
  ![v456.toNat, v457.toNat, 1280]
def k0_off244 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c10_i32 : BitVec 32 := 10#32
  let v39 : BitVec 32 := Scalar.remsi v2 c10_i32
  let v494 : Index := Scalar.indexCast v39
  let c0_204 : Index := 0#32
  let c1408 : Index := 1408#32
  ![v494.toNat, 0, 1408]
def k0_off245 (i : grid0.Coords) : Fin 3 → Nat :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c4_i32_14 : BitVec 32 := 4#32
  let v34 : BitVec 32 := Scalar.divsi v2 c4_i32_14
  let c2_i32 : BitVec 32 := 2#32
  let v35 : BitVec 32 := Scalar.remsi v34 c2_i32
  let v497 : Index := Scalar.indexCast v35
  let c4_i32_15 : BitVec 32 := 4#32
  let v36 : BitVec 32 := Scalar.remsi v2 c4_i32_15
  let c128_i32 : BitVec 32 := 128#32
  let v37 : BitVec 32 := Scalar.muli v36 c128_i32
  let v38 : BitVec 32 := v37
  let v498 : Index := Scalar.indexCast v38
  let c1408_205 : Index := 1408#32
  ![v497.toNat, v498.toNat, 1408]
def k0_cond7 (i : grid0.Coords) : BitVec 1 :=
  let arg0 : BitVec 32 := BitVec.ofNat 32 (i 0).val
  let c4_i32 : BitVec 32 := 4#32
  let v0 : BitVec 32 := Scalar.subi arg0 c4_i32
  let c1_i32 : BitVec 32 := 1#32
  let v1 : BitVec 32 := Scalar.subi v0 c1_i32
  let c4_i32_0 : BitVec 32 := 4#32
  let v2 : BitVec 32 := Scalar.subi v1 c4_i32_0
  let c31_i32_12 : BitVec 32 := 31#32
  let v25 : BitVec 1 := Scalar.cmpi .eq v2 c31_i32_12
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c31_i32 : BitVec 32 := 31#32
  let v0 : BitVec 32 := Scalar.maxsi c0_i32 arg0
  let v1 : BitVec 32 := Scalar.minsi c31_i32 v0
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c31_i32 : BitVec 32 := 31#32
  let v0 : BitVec 32 := Scalar.maxsi c0_i32 arg0
  let v1 : BitVec 32 := Scalar.minsi c31_i32 v0
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c31_i32 : BitVec 32 := 31#32
  let v1 : BitVec 32 := Scalar.maxsi c0_i32 v0
  let v2 : BitVec 32 := Scalar.minsi c31_i32 v1
  let c4_i32_0 : BitVec 32 := 4#32
  let v3 : BitVec 32 := Scalar.remsi v2 c4_i32_0
  let c4_i32_1 : BitVec 32 := 4#32
  let v4 : BitVec 32 := Scalar.divsi v2 c4_i32_1
  let c0_i32_2 : BitVec 32 := 0#32
  ![v3.toNat, v4.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let v0 : BitVec 32 := Scalar.subi arg0 c8_i32
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![v3.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c31_i32 : BitVec 32 := 31#32
  let v0 : BitVec 32 := Scalar.maxsi c0_i32 arg0
  let v1 : BitVec 32 := Scalar.minsi c31_i32 v0
  let c0_i32_0 : BitVec 32 := 0#32
  let c0_i32_1 : BitVec 32 := 0#32
  ![v1.toNat, c0_i32_0.toNat]

abbrev stage0_0 : Fin 2 → Memref sig .tc .vmem S1536x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1536x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1536 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S24x256x1536 : Shape := ⟨3, ![24, 256, 1536]⟩
abbrev S24x256x48 : Shape := ⟨3, ![24, 256, 48]⟩
abbrev S4096x1536 : Shape := ⟨2, ![4096, 1536]⟩
abbrev S4096 : Shape := ⟨1, ![4096]⟩
abbrev S1536 : Shape := ⟨1, ![1536]⟩
abbrev S24x256x4096 : Shape := ⟨3, ![24, 256, 4096]⟩
abbrev S4x1536 : Shape := ⟨2, ![4, 1536]⟩
abbrev S32x128 : Shape := ⟨2, ![32, 128]⟩
abbrev S1x1536 : Shape := ⟨2, ![1, 1536]⟩
abbrev S4096x1 : Shape := ⟨2, ![4096, 1]⟩
abbrev S24x256x48x1 : Shape := ⟨4, ![24, 256, 48, 1]⟩
abbrev S24x256x48x32 : Shape := ⟨4, ![24, 256, 48, 32]⟩
abbrev S6144x1536 : Shape := ⟨2, ![6144, 1536]⟩
abbrev S6144x4096 : Shape := ⟨2, ![6144, 4096]⟩
abbrev S1x4096 : Shape := ⟨2, ![1, 4096]⟩
abbrev S6144 : Shape := ⟨1, ![6144]⟩

abbrev nBuf : Space → Nat
  | .hbm => 14
  | .vmem => 14
  | .smem => 0
  | _ => 0

abbrev bufTy : (tb : Table) → Fin (tcTables nBuf tb) → BufTy
  | .hbm, ⟨0, _⟩ => ⟨S24x256x1536, .fp8e4m3⟩
  | .hbm, ⟨1, _⟩ => ⟨S24x256x48, .f32⟩
  | .hbm, ⟨2, _⟩ => ⟨S4096x1536, .f32⟩
  | .hbm, ⟨3, _⟩ => ⟨S4096, .f32⟩
  | .hbm, ⟨4, _⟩ => ⟨S4096x1536, .f32⟩
  | .hbm, ⟨5, _⟩ => ⟨S4096, .f32⟩
  | .hbm, ⟨6, _⟩ => ⟨S1536, .f32⟩
  | .hbm, ⟨7, _⟩ => ⟨S24x256x4096, .bf16⟩
  | .hbm, ⟨8, _⟩ => ⟨S4x1536, .f32⟩
  | .hbm, ⟨9, _⟩ => ⟨S4096x1536, .f32⟩
  | .hbm, ⟨10, _⟩ => ⟨S32x128, .f32⟩
  | .hbm, ⟨11, _⟩ => ⟨S1x1536, .f32⟩
  | .hbm, ⟨12, _⟩ => ⟨S32x128, .f32⟩
  | .hbm, ⟨13, _⟩ => ⟨S4096x1536, .i8⟩
  | .local _ .vmem, ⟨0, _⟩ => ⟨S24x256x1536, .fp8e4m3⟩
  | .local _ .vmem, ⟨1, _⟩ => ⟨S24x256x48, .f32⟩
  | .local _ .vmem, ⟨2, _⟩ => ⟨S4096x1536, .f32⟩
  | .local _ .vmem, ⟨3, _⟩ => ⟨S4096, .f32⟩
  | .local _ .vmem, ⟨4, _⟩ => ⟨S4096x1536, .f32⟩
  | .local _ .vmem, ⟨5, _⟩ => ⟨S4096, .f32⟩
  | .local _ .vmem, ⟨6, _⟩ => ⟨S1536, .f32⟩
  | .local _ .vmem, ⟨7, _⟩ => ⟨S24x256x4096, .bf16⟩
  | .local _ .vmem, ⟨8, _⟩ => ⟨S4x1536, .f32⟩
  | .local _ .vmem, ⟨9, _⟩ => ⟨S4096x1536, .f32⟩
  | .local _ .vmem, ⟨10, _⟩ => ⟨S32x128, .f32⟩
  | .local _ .vmem, ⟨11, _⟩ => ⟨S1x1536, .f32⟩
  | .local _ .vmem, ⟨12, _⟩ => ⟨S32x128, .f32⟩
  | .local _ .vmem, ⟨13, _⟩ => ⟨S4096x1536, .i8⟩
  | _, _ => ⟨S24x256x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S24x256x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x256x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x256x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4096x1536 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.K.Base.lean ====
/- The kernel body's buffers as one family, programs of loads and stores over that family read as
   plain functions of the buffers' contents, and the one soundness lemma that carries such a reading
   to the separation logic. -/
module

public import proofs.«01_k».proof.Proof.Gen.KernelIdeal
public import Idealize.ShloMosaic.Lib.Pipeline.FrameBody
public import Idealize.ShloMosaic.Lib.Memref

@[expose] public section

noncomputable section

namespace Cert.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

open Cert.KernelIdeal (S1536x1536 S1536x48 S128x1536 S32x128 S1x1536 S1536x512 S4x1536 S6144x1536
  S10x128x1536 S2x512x1536 S2x512x128 S4x8x1536 S8x1536)

/-- The buffers a call of the body is given: eight inputs, six outputs, eight scratch. -/
inductive B
  | xc | xsc | w | s2 | s1 | r | c | yt | rlo | ds2 | dr | dc | ds1 | cd
  | xs | z | cbf | s1c | e | g | rl | dcp
  deriving DecidableEq

/-- The buffers in the order of the body's arguments. -/
def B.all : List B := [.xc, .xsc, .w, .s2, .s1, .r, .c, .yt, .rlo, .ds2, .dr, .dc, .ds1, .cd,
  .xs, .z, .cbf, .s1c, .e, .g, .rl, .dcp]

instance : Fintype B := ⟨⟨(B.all : Multiset B), by decide⟩, fun b => by cases b <;> decide⟩

/-- A buffer's shape. -/
@[reducible] def shp : B → Shape
  | .xc => S1536x1536 | .xsc => S1536x48 | .w => S128x1536 | .s2 => S128x1536 | .s1 => S32x128
  | .r => S32x128 | .c => S1x1536 | .yt => S1536x512 | .rlo => S4x1536 | .ds2 => S128x1536
  | .dr => S32x128 | .dc => S1x1536 | .ds1 => S32x128 | .cd => S128x1536 | .xs => S6144x1536
  | .z => S10x128x1536 | .cbf => S2x512x1536 | .s1c => S2x512x128 | .e => S2x512x1536
  | .g => S2x512x1536 | .rl => S4x8x1536 | .dcp => S8x1536

/-- A buffer's element type. -/
@[reducible] def elt : B → EltTy
  | .xc => .fp8e4m3 | .yt => .bf16 | .cd => .i8 | .xs => .bf16 | .cbf => .bf16 | .e => .bf16
  | .xsc => .f32 | .w => .f32 | .s2 => .f32 | .s1 => .f32 | .r => .f32 | .c => .f32 | .rlo => .f32
  | .ds2 => .f32 | .dr => .f32 | .dc => .f32 | .ds1 => .f32 | .z => .f32 | .s1c => .f32 | .g => .f32
  | .rl => .f32 | .dcp => .f32

variable {F : FTy → Type} [FloatOps F]

/-- The operations of the body over the family. -/
inductive SEff (F : FTy → Type) : Type → Type 1
  | ld (b : B) (r : LoadRect (shp b)) (h : 0 < r.shape.numel) : SEff F (r.shape.Idx → Elt F (elt b))
  | st (b : B) (r : Rect (shp b)) (w : r.shape.Idx → Elt F (elt b))
      (hs : ∀ {σ : RefSig} (m : Memref σ .tc .vmem (shp b) (elt b)), m.IsWhole →
        (m.access r).Stores Finset.univ) : SEff F PUnit

/-- Contents of every buffer. -/
abbrev State (F : FTy → Type) := (b : B) → (shp b).Idx → Elt F (elt b)

/-- What one operation answers and leaves. -/
def SEff.run {α : Type} : SEff F α → State F → α × State F
  | .ld b r _, σ => (fun x => σ b (r.idx x), σ)
  | .st b r w _, σ => (⟨⟩, Function.update σ b (r.overlay (σ b) w))

/-- What a program answers and leaves. -/
def run {α : Type} : Prog (SEff F) α → State F → α × State F
  | .ret a, σ => (a, σ)
  | .op e k, σ => run (k (e.run σ).1) (e.run σ).2

section
variable {nD : Nat} {τ : Topo} {sig : RefSig} {Λ : Labels}

/-- The operation on the buffers a call is given. -/
def SEff.to (arg : (b : B) → Memref sig .tc .vmem (shp b) (elt b)) (harg : ∀ b, (arg b).IsWhole) {α : Type} :
    SEff F α → TpuEff nD τ sig (Elt F) Λ (.tc : Proc τ) α
  | .ld b r h => .load (arg b) r (View.loadsAt_vmem h)
  | .st b r w hs => .store (arg b) r w Finset.univ (hs (arg b) (harg b)) (.inl rfl)

/-- The program on the buffers a call is given. -/
def toProg (arg : (b : B) → Memref sig .tc .vmem (shp b) (elt b)) (harg : ∀ b, (arg b).IsWhole) {α : Type} :
    Prog (SEff F) α → Prog (TpuEff nD τ sig (Elt F) Λ (.tc : Proc τ)) α
  | .ret a => .ret a
  | .op e k => .op (e.to arg harg) fun x => toProg arg harg (k x)

theorem read_store {s : Shape} {e : EltTy} (m : Memref sig .tc .vmem s e) (r : Rect s)
    (f : m.view.ty.Contents (Elt F)) (w : r.shape.Idx → Elt F e) :
    m.view.read (Elt F) ((m.access r).write (Elt F) f w Finset.univ) = r.overlay (m.view.read (Elt F) f) w := by
  funext y
  by_cases hy : y ∈ r.set
  · obtain ⟨x, rfl⟩ := r.exists_idx_of_mem hy
    exact (View.read_slice_write_emb r f w (Finset.mem_univ x)).trans (Rect.overlay_emb r _ w x).symm
  · rw [Rect.overlay_of_not_mem r _ _ hy]
    exact View.read_slice_write_of_not_mem r f w Finset.univ (by rwa [Rect.map_emb_univ])

variable {Ix : Type} [DecidableEq Ix] {Name : Type} [DecidableEq Name] {U : Type} [URA U] {Lvl : Type} [Preorder Lvl]

local notation "𝕄" => MT nD τ sig Ix (Elt F) Name U Lvl

theorem owns_of (c : Dev nD) {s : Shape} {e : EltTy} (m : Memref sig .tc .vmem s e) (X : s.Idx → Elt F e)
    (f : m.view.ty.Contents (Elt F)) (h : m.view.read (Elt F) f = X) :
    (m.view.loc (c : Thread nD τ) ↦[m.view.set]{fullShare} f : sProp 𝕄) ⊢ owns (c : Thread nD τ) m fullShare X := by
  rw [← h]; exact owns_intro (c : Thread nD τ) m fullShare f

/-- A program over the family runs, from the buffers at contents `σ`, as `run` says. -/
theorem sound {defs : Defs nD τ sig (Elt F) Λ} (𝒱 : Variants) (c : Dev nD) (E : Set Name)
    (arg : (b : B) → Memref sig .tc .vmem (shp b) (elt b)) (harg : ∀ b, (arg b).IsWhole) {α : Type}
    (p : Prog (SEff F) α) (Q : α → sProp 𝕄) : ∀ σ : State F,
    iprop((bigSep Finset.univ fun b => owns (c : Thread nD τ) (arg b) fullShare (σ b))
        ∗ ((bigSep Finset.univ fun b => owns (c : Thread nD τ) (arg b) fullShare ((run p σ).2 b)) -∗ Q (run p σ).1))
      ⊢ wp frame (wpE defs 𝒱 (c : Thread nD τ) none) E (toProg arg harg p) Q := by
  induction p with
  | ret a =>
    intro σ
    simp only [toProg, wp_ret, run]
    iintro ⟨H, K⟩
    imodintro
    ihave K := K $$ H
    iexact K
  | op e k ih =>
    intro σ
    cases e with
    | ld b r h =>
      iintro ⟨H, K⟩
      ihave H := bigSep_univ_turn (fun b X => owns (c : Thread nD τ) (arg b) fullShare X) σ b $$ H
      icases H with ⟨H, R⟩
      ihave H := (show owns (c : Thread nD τ) (arg b) fullShare (σ b) ⊢ iprop(∃ f, ⌜(arg b).view.read (Elt F) f = σ b⌝
        ∗ (arg b).view.loc (c : Thread nD τ) ↦[(arg b).view.set]{fullShare} f) from .rfl) $$ H
      icases H with ⟨%f, %hf, H⟩
      iapply (wp_load 𝒱 (c : Thread nD τ) none E (m := arg b) (r := r) (View.setOn_subset_set _ _)) $$ H
      iintro H
      ihave R := R $$ %(σ b) [H]
      · iapply (owns_of c (arg b) (σ b) f hf)
        iexact H
      rw [Function.update_eq_self]
      have e : (arg b).view.readAt (Elt F) r f = fun x => σ b (r.idx x) := by rw [← hf]; rfl
      rw [e]
      iapply (ih (fun x => σ b (r.idx x)) σ)
      isplitl [R]; · iexact R
      iexact K
    | st b r w hs =>
      iintro ⟨H, K⟩
      ihave H := bigSep_univ_turn (fun b X => owns (c : Thread nD τ) (arg b) fullShare X) σ b $$ H
      icases H with ⟨H, R⟩
      ihave H := (show owns (c : Thread nD τ) (arg b) fullShare (σ b) ⊢ iprop(∃ f, ⌜(arg b).view.read (Elt F) f = σ b⌝
        ∗ (arg b).view.loc (c : Thread nD τ) ↦[(arg b).view.set]{fullShare} f) from .rfl) $$ H
      icases H with ⟨%f, %hf, H⟩
      iapply (wp_store 𝒱 (c : Thread nD τ) none E (m := arg b) (r := r) (w := w) (Mk := Finset.univ)
        (((arg b).access r).setOn_subset_set _ |>.trans ((arg b).view.set_slice_subset r))) $$ H
      iintro H
      ihave R := R $$ %(r.overlay (σ b) w) [H]
      · iapply (owns_of c (arg b) (r.overlay (σ b) w) _ (by rw [← hf]; exact read_store (arg b) r f w))
        iexact H
      iapply (ih ⟨⟩ (Function.update σ b (r.overlay (σ b) w)))
      isplitl [R]; · iexact R
      iexact K
end

end Cert.K
-- ==== Proof.K.Body.lean ====
/- The kernel body written once over the buffer family, piece by piece: dequantise, codes, forward,
   backward, weights. The word each piece takes is the step number it works for. -/
module

public import proofs.«01_k».proof.Proof.K.Base

@[expose] public section

noncomputable section

namespace Cert.K

open Idealize.ShloMosaic Idealize.SL.Sem
open Cert.KernelIdeal Cert.KernelIdeal.Facts₀

variable {F : FTy → Type} [FloatOps F]

abbrev W := BitVec 32

/-! ## Words of small numbers -/

theorem w4 : ∀ n : Fin 41, Scalar.remsi (BitVec.ofNat 32 n.val) 4#32 = BitVec.ofNat 32 (n.val % 4) := by decide +kernel
theorem d4 : ∀ n : Fin 41, Scalar.divsi (BitVec.ofNat 32 n.val) 4#32 = BitVec.ofNat 32 (n.val / 4) := by decide +kernel
theorem d42 : ∀ n : Fin 41, Scalar.remsi (Scalar.divsi (BitVec.ofNat 32 n.val) 4#32) 2#32 = BitVec.ofNat 32 (n.val / 4 % 2) := by decide +kernel
theorem w2 : ∀ n : Fin 41, Scalar.remsi (BitVec.ofNat 32 n.val) 2#32 = BitVec.ofNat 32 (n.val % 2) := by decide +kernel
theorem w10 : ∀ n : Fin 41, Scalar.remsi (BitVec.ofNat 32 n.val) 10#32 = BitVec.ofNat 32 (n.val % 10) := by decide +kernel

/-- A word is a number below 32. -/
def Sm (w : W) : Prop := ∃ n : ℕ, n < 32 ∧ w = BitVec.ofNat 32 n

/-! ## Offsets -/

def oXs (s : W) (r j : ℕ) : Fin 2 → ℕ :=
  ![(Scalar.indexCast (Scalar.addi (Scalar.muli s 1536#32) (BitVec.ofNat 32 (128 * r)))).toNat, 128 * j]
def oRow (p : W) : Fin 2 → ℕ := ![(Scalar.indexCast p).toNat, 0]
def oCol (p : W) (j : ℕ) : Fin 3 → ℕ :=
  ![(Scalar.indexCast (Scalar.remsi (Scalar.divsi p 4#32) 2#32)).toNat,
    (Scalar.indexCast (Scalar.muli (Scalar.remsi p 4#32) 128#32)).toNat, 128 * j]
def oZ (p : W) (j : ℕ) : Fin 3 → ℕ := ![(Scalar.indexCast (Scalar.remsi p 10#32)).toNat, 0, 128 * j]
def oXsF (u : W) (t : ℕ) : Fin 2 → ℕ :=
  ![(Scalar.indexCast (Scalar.addi (Scalar.muli (Scalar.remsi u 4#32) 1536#32) (BitVec.ofNat 32 (256 * t)))).toNat, 0]
def oSlab (u : W) : Fin 3 → ℕ := ![(Scalar.indexCast (Scalar.remsi (Scalar.divsi u 4#32) 2#32)).toNat, 0, 0]
def oE (u : W) (t : ℕ) : Fin 3 → ℕ := ![(Scalar.indexCast (Scalar.remsi u 2#32)).toNat, 0, 256 * t]
def oRl (u : W) (t : ℕ) : Fin 3 → ℕ := ![(Scalar.indexCast (Scalar.remsi u 4#32)).toNat, 0, 256 * t]
def oXsB (v : W) : Fin 2 → ℕ := ![(Scalar.indexCast (Scalar.muli (Scalar.remsi v 4#32) 1536#32)).toNat, 0]

theorem oXs_eq {n : ℕ} (hn : n < 4) {r : ℕ} (hr : r < 12) (j : ℕ) :
    oXs (BitVec.ofNat 32 n) r j = ![1536 * n + 128 * r, 128 * j] := by
  have : (Scalar.indexCast (Scalar.addi (Scalar.muli (BitVec.ofNat 32 n) 1536#32) (BitVec.ofNat 32 (128 * r)))).toNat
      = 1536 * n + 128 * r := by
    have h : ∀ n : Fin 4, ∀ r : Fin 12, (Scalar.indexCast (Scalar.addi (Scalar.muli (BitVec.ofNat 32 n.val) 1536#32)
      (BitVec.ofNat 32 (128 * r.val)))).toNat = 1536 * n.val + 128 * r.val := by decide +kernel
    exact h ⟨n, hn⟩ ⟨r, hr⟩
  rw [oXs, this]
theorem oRow_eq {n : ℕ} (hn : n < 32) : oRow (BitVec.ofNat 32 n) = ![n, 0] := by
  have h : ∀ n : Fin 32, (Scalar.indexCast (BitVec.ofNat 32 n.val)).toNat = n.val := by decide +kernel
  rw [oRow, h ⟨n, hn⟩]
theorem oCol_eq {n : ℕ} (hn : n < 32) (j : ℕ) : oCol (BitVec.ofNat 32 n) j = ![n / 4 % 2, 128 * (n % 4), 128 * j] := by
  have h : ∀ n : Fin 32, (Scalar.indexCast (Scalar.remsi (Scalar.divsi (BitVec.ofNat 32 n.val) 4#32) 2#32)).toNat = n.val / 4 % 2
    ∧ (Scalar.indexCast (Scalar.muli (Scalar.remsi (BitVec.ofNat 32 n.val) 4#32) 128#32)).toNat = 128 * (n.val % 4) := by
    decide +kernel
  rw [oCol, (h ⟨n, hn⟩).1, (h ⟨n, hn⟩).2]
theorem oZ_eq {n : ℕ} (hn : n < 32) (j : ℕ) : oZ (BitVec.ofNat 32 n) j = ![n % 10, 0, 128 * j] := by
  have h : ∀ n : Fin 32, (Scalar.indexCast (Scalar.remsi (BitVec.ofNat 32 n.val) 10#32)).toNat = n.val % 10 := by decide +kernel
  rw [oZ, h ⟨n, hn⟩]
theorem oXsF_eq {n : ℕ} (hn : n < 32) {t : ℕ} (ht : t < 6) :
    oXsF (BitVec.ofNat 32 n) t = ![1536 * (n % 4) + 256 * t, 0] := by
  have h : ∀ n : Fin 32, ∀ t : Fin 6, (Scalar.indexCast (Scalar.addi (Scalar.muli (Scalar.remsi (BitVec.ofNat 32 n.val) 4#32) 1536#32)
      (BitVec.ofNat 32 (256 * t.val)))).toNat = 1536 * (n.val % 4) + 256 * t.val := by decide +kernel
  rw [oXsF, h ⟨n, hn⟩ ⟨t, ht⟩]
theorem oSlab_eq {n : ℕ} (hn : n < 32) : oSlab (BitVec.ofNat 32 n) = ![n / 4 % 2, 0, 0] := by
  have h : ∀ n : Fin 32, (Scalar.indexCast (Scalar.remsi (Scalar.divsi (BitVec.ofNat 32 n.val) 4#32) 2#32)).toNat = n.val / 4 % 2 := by
    decide +kernel
  rw [oSlab, h ⟨n, hn⟩]
theorem oE_eq {n : ℕ} (hn : n < 32) (t : ℕ) : oE (BitVec.ofNat 32 n) t = ![n % 2, 0, 256 * t] := by
  have h : ∀ n : Fin 32, (Scalar.indexCast (Scalar.remsi (BitVec.ofNat 32 n.val) 2#32)).toNat = n.val % 2 := by decide +kernel
  rw [oE, h ⟨n, hn⟩]
theorem oRl_eq {n : ℕ} (hn : n < 32) (t : ℕ) : oRl (BitVec.ofNat 32 n) t = ![n % 4, 0, 256 * t] := by
  have h : ∀ n : Fin 32, (Scalar.indexCast (Scalar.remsi (BitVec.ofNat 32 n.val) 4#32)).toNat = n.val % 4 := by decide +kernel
  rw [oRl, h ⟨n, hn⟩]
theorem oXsB_eq {n : ℕ} (hn : n < 32) : oXsB (BitVec.ofNat 32 n) = ![1536 * (n % 4), 0] := by
  have h : ∀ n : Fin 32, (Scalar.indexCast (Scalar.muli (Scalar.remsi (BitVec.ofNat 32 n.val) 4#32) 1536#32)).toNat = 1536 * (n.val % 4) := by
    decide +kernel
  rw [oXsB, h ⟨n, hn⟩]

theorem lt2 {a b a' b' A B' : ℕ} (h : a + a' ≤ A) (h' : b + b' ≤ B') :
    ∀ i : Fin 2, (![a, b] : Fin 2 → ℕ) i + (![a', b'] : Fin 2 → ℕ) i ≤ (![A, B'] : Fin 2 → ℕ) i :=
  Fin.forall_fin_two.2 ⟨h, h'⟩
theorem lt3 {a b c a' b' c' A B' C : ℕ} (h : a + a' ≤ A) (h' : b + b' ≤ B') (h'' : c + c' ≤ C) :
    ∀ i : Fin 3, (![a, b, c] : Fin 3 → ℕ) i + (![a', b', c'] : Fin 3 → ℕ) i ≤ (![A, B', C] : Fin 3 → ℕ) i := by
  intro i; fin_cases i
  exacts [h, h', h'']

theorem lt_c {j k : ℕ} {m A : ℕ} (hj : j < k) (h : m * k = A) : m * j + m ≤ A := by
  rw [← h, ← Nat.mul_succ]; exact Nat.mul_le_mul_left m hj

/-! In range, and for the packed buffers row-aligned, whatever the small words. -/

theorem oXs_inb {s : W} (hs : ∃ n, n < 4 ∧ s = BitVec.ofNat 32 n) (r j : Fin 12) :
    ∀ a, oXs s r j a + S128x128.size a ≤ S6144x1536.size a := by
  obtain ⟨n, hn, rfl⟩ := hs
  rw [oXs_eq hn r.isLt]; exact lt2 (by omega) (by omega)
theorem oRow_inb {p : W} (hp : Sm p) : ∀ a, oRow p a + S1x128.size a ≤ S32x128.size a := by
  obtain ⟨n, hn, rfl⟩ := hp
  rw [oRow_eq hn]; exact lt2 (by omega) (by omega)
theorem oCol_inb {p : W} (hp : Sm p) (j : Fin 12) : ∀ a, oCol p j a + S1x128x128.size a ≤ S2x512x1536.size a := by
  obtain ⟨n, hn, rfl⟩ := hp
  rw [oCol_eq hn]; exact lt3 (by omega) (by omega) (by omega)
theorem oCol_inb' {p : W} (hp : Sm p) : ∀ a, oCol p 0 a + S1x128x128.size a ≤ S2x512x128.size a := by
  obtain ⟨n, hn, rfl⟩ := hp
  rw [oCol_eq hn]; exact lt3 (by omega) (by omega) (by omega)
theorem oZ_inb {p : W} (hp : Sm p) (j : Fin 12) : ∀ a, oZ p j a + S1x128x128.size a ≤ S10x128x1536.size a := by
  obtain ⟨n, hn, rfl⟩ := hp
  rw [oZ_eq hn]; exact lt3 (by omega) (by omega) (by omega)
theorem oXsF_inb {p : W} (hp : Sm p) (t : Fin 6) : ∀ a, oXsF p t a + S256x1536.size a ≤ S6144x1536.size a := by
  obtain ⟨n, hn, rfl⟩ := hp
  rw [oXsF_eq hn t.isLt]; exact lt2 (by omega) (by omega)
theorem oSlab_inb {p : W} (hp : Sm p) : ∀ a, oSlab p a + S1x512x1536.size a ≤ S2x512x1536.size a := by
  obtain ⟨n, hn, rfl⟩ := hp
  rw [oSlab_eq hn]; exact lt3 (by omega) (by omega) (by omega)
theorem oSlab_inb' {p : W} (hp : Sm p) : ∀ a, oSlab p a + S1x512x128.size a ≤ S2x512x128.size a := by
  obtain ⟨n, hn, rfl⟩ := hp
  rw [oSlab_eq hn]; exact lt3 (by omega) (by omega) (by omega)
theorem oE_inb {p : W} (hp : Sm p) (t : Fin 6) : ∀ a, oE p t a + S1x512x256.size a ≤ S2x512x1536.size a := by
  obtain ⟨n, hn, rfl⟩ := hp
  rw [oE_eq hn]; exact lt3 (by omega) (by omega) (by omega)
theorem oE_inb' {p : W} (hp : Sm p) : ∀ a, oE p 0 a + S1x512x1536.size a ≤ S2x512x1536.size a := by
  obtain ⟨n, hn, rfl⟩ := hp
  rw [oE_eq hn]; exact lt3 (by omega) (by omega) (by omega)
theorem oRl_inb {p : W} (hp : Sm p) (t : Fin 6) : ∀ a, oRl p t a + S1x8x256.size a ≤ S4x8x1536.size a := by
  obtain ⟨n, hn, rfl⟩ := hp
  rw [oRl_eq hn]; exact lt3 (by omega) (by omega) (by omega)
theorem oXsB_inb {p : W} (hp : Sm p) : ∀ a, oXsB p a + S1536x1536.size a ≤ S6144x1536.size a := by
  obtain ⟨n, hn, rfl⟩ := hp
  rw [oXsB_eq hn]; exact lt2 (by omega) (by omega)

theorem packed2 {A B a b m n : ℕ} {p : ℕ} (h : ∀ i : Fin 2, (![a, b] : Fin 2 → ℕ) i + (![m, n] : Fin 2 → ℕ) i ≤ (⟨2, ![A, B]⟩ : Shape).size i)
    (ha : p ∣ a) (hm : p ∣ m) : (Rect.unit (s := (⟨2, ![A, B]⟩ : Shape)) ![a, b] ![m, n] h).PackedRows p :=
  (Rect.packedRows_iff_at _ _).2 (.inr ⟨Nat.le_refl 2, rfl, .inl ⟨ha, hm⟩⟩)
theorem packed3 {A B C a b c l m n : ℕ} {p : ℕ} (h : ∀ i : Fin 3, (![a, b, c] : Fin 3 → ℕ) i + (![l, m, n] : Fin 3 → ℕ) i ≤ (⟨3, ![A, B, C]⟩ : Shape).size i)
    (ha : p ∣ b) (hm : p ∣ m) : (Rect.unit (s := (⟨3, ![A, B, C]⟩ : Shape)) ![a, b, c] ![l, m, n] h).PackedRows p :=
  (Rect.packedRows_iff_at _ _).2 (.inr ⟨Nat.le_succ 2, rfl, .inl ⟨ha, hm⟩⟩)

theorem unit_packed {s : Shape} {o o' sz : Fin s.rank → ℕ} (e : o = o') {p : ℕ} (hb : ∀ a, o a + sz a ≤ s.size a)
    (h : ∀ hb', (Rect.unit (s := s) o' sz hb').PackedRows p) : (Rect.unit (s := s) o sz hb).PackedRows p := by
  subst e; exact h hb

theorem oXs_packed {s : W} (hs : ∃ n, n < 4 ∧ s = BitVec.ofNat 32 n) (r j : Fin 12) :
    (Rect.unit (s := S6144x1536) (oXs s r j) S128x128.size (oXs_inb hs r j)).PackedRows (EltTy.packing .bf16) := by
  obtain ⟨n, hn, rfl⟩ := hs
  exact unit_packed (oXs_eq hn r.isLt j) _ fun _ => packed2 _ (show 2 ∣ _ by omega) (show 2 ∣ 128 by decide)
theorem oCol_packed {p : W} (hp : Sm p) (j : Fin 12) :
    (Rect.unit (s := S2x512x1536) (oCol p j) S1x128x128.size (oCol_inb hp j)).PackedRows (EltTy.packing .bf16) := by
  obtain ⟨n, hn, rfl⟩ := hp
  exact unit_packed (oCol_eq hn j) _ fun _ => packed3 _ (show 2 ∣ _ by omega) (show 2 ∣ 128 by decide)
theorem oE_packed {p : W} (hp : Sm p) (t : Fin 6) :
    (Rect.unit (s := S2x512x1536) (oE p t) S1x512x256.size (oE_inb hp t)).PackedRows (EltTy.packing .bf16) := by
  obtain ⟨n, hn, rfl⟩ := hp
  exact unit_packed (oE_eq hn t) _ fun _ => packed3 _ (show 2 ∣ 0 by decide) (show 2 ∣ 512 by decide)

/-! ## Loads and stores -/

/-- A load of a box of a buffer. -/
abbrev ld (b : B) (off size : Fin (shp b).rank → ℕ) (inb : ∀ a, off a + size a ≤ (shp b).size a)
    (h : 0 < (⟨(shp b).rank, size⟩ : Shape).numel) : Prog (SEff F) ((⟨(shp b).rank, size⟩ : Shape).Idx → Elt F (elt b)) :=
  Prog.lift (.ld b (Rect.unit (s := shp b) off size inb).toLoadRect h)

/-- A store to a box of a buffer of 32-bit elements. -/
abbrev st (b : B) (off size : Fin (shp b).rank → ℕ) (inb : ∀ a, off a + size a ≤ (shp b).size a)
    (h : 0 < (⟨(shp b).rank, size⟩ : Shape).numel) (hb : (elt b).bits = 32)
    (w : (⟨(shp b).rank, size⟩ : Shape).Idx → Elt F (elt b)) : Prog (SEff F) PUnit :=
  Prog.lift (.st b (Rect.unit (s := shp b) off size inb) w fun _ _ => View.stores_vmem_bits_univ h hb)

/-- A store to a row-aligned box of a packed buffer. -/
abbrev stp (b : B) (off size : Fin (shp b).rank → ℕ) (inb : ∀ a, off a + size a ≤ (shp b).size a)
    (h : 0 < (⟨(shp b).rank, size⟩ : Shape).numel)
    (hb : (Rect.unit (s := shp b) off size inb).PackedRows (elt b).packing)
    (w : (⟨(shp b).rank, size⟩ : Shape).Idx → Elt F (elt b)) : Prog (SEff F) PUnit :=
  Prog.lift (.st b (Rect.unit (s := shp b) off size inb) w fun _ hm => View.stores_vmem h (hm.storeExact_slice rfl _ hb) (fun _ => rfl))

/-- The pieces of a list, one after the other. -/
def seqs {α : Type} (f : α → Prog (SEff F) PUnit) : List α → Prog (SEff F) PUnit
  | [] => .ret ⟨⟩
  | a :: l => (f a).bind fun _ => seqs f l

/-- The numbers below twelve, and below six. -/
def ten2 : List (Fin 12) := [0, 1, 2, 3, 4, 5, 6, 7, 8, 9, 10, 11]
def six : List (Fin 6) := [0, 1, 2, 3, 4, 5]

theorem inb_c {A B : ℕ} {n w : ℕ} (o : ℕ) (ho : o + n ≤ A) {c : ℕ} (hc : c + w ≤ B) :
    ∀ a : Fin 2, (![o, c] : Fin 2 → ℕ) a + (![n, w] : Fin 2 → ℕ) a ≤ (![A, B] : Fin 2 → ℕ) a := lt2 ho hc

/-! ## Dequantise -/

/-- The group number of a lane: the lane number's quotient by 32, as the kernel forms it. -/
def lanes : IVec S128x128 32 :=
  have v28 := iota .tc S128x128 32 [1] iota_S128x128_d1_w32
  have v29 := broadcast S128x128 32#32
  have v30 := divsi v28 v29
  have v32 := cmpi .sgt v28 (broadcast S128x128 0#32)
  have v33 := extui 32 v32 natLt_1_32
  have v35 := cmpi .slt v28 (broadcast S128x128 0#32)
  have v36 := extui 32 v35 natLt_1_32
  have v37 := subi v33 v36
  let v38 := Scalar.cmpi .sgt 32#32 0#32
  let v39 := Scalar.extui v38
  let v40 := Scalar.cmpi .slt 32#32 0#32
  let v41 := Scalar.extui v40
  let v42 := Scalar.subi v39 v41
  have v43 := broadcast S128x128 v42
  have v44 := cmpi .ne v37 v43
  have v46 := remsi v28 (broadcast S128x128 32#32)
  have v48 := cmpi .ne v46 (broadcast S128x128 0#32)
  have v49 := andi v44 v48
  have v51 := subi v30 (broadcast S128x128 1#32)
  select v49 v51 v30

/-- The gather's lane numbers for column block `j`. -/
def gidx (j : ℕ) : IVec S128x128 32 :=
  have v58 := addi lanes (broadcast S128x128 (BitVec.ofNat 32 (4 * j)))
  have v60 := cmpi .slt v58 (broadcast S128x128 0#32)
  have v62 := addi v58 (broadcast S128x128 128#32)
  have v63 := select v60 v62 v58
  have v64 := shapeCast S128x128x1 v63 shapeCasts_S128x128_S128x128x1
  shapeCast S128x128 v64 shapeCasts_S128x128x1_S128x128

/-- A row block's scales, padded to a lane width. -/
def scales (x : Vec F S128x48 .f32) : FVec F S128x128 .f32 :=
  have v54 := shapeCast S128x48 x shapeCasts_S128x48_S128x48
  have v55 := broadcast S128x80 (Scalar.ofBits .f32 0x00000000#32 : F .f32)
  concatenate S128x128 1 [⟨S128x48, v54⟩, ⟨S128x80, v55⟩] concatenates_S128x48_S128x80_S128x128_d1

/-- One dequantised cell. -/
def deq (sc : FVec F S128x128 .f32) (j : ℕ) (x : Vec F S128x128 .fp8e4m3) : FVec F S128x128 .bf16 :=
  have v66 := dynamicGather 1 sc (gidx j)
  have v67 := truncf .bf16 v66 bitsLt_bf16_f32
  have v69 : FVec F S128x128 .fp8e4m3 := shapeCast S128x128 x shapeCasts_S128x128_S128x128
  have v70 := extf .bf16 v69 bitsLt_fp8e4m3_bf16
  have v71 := mulf v70 v67
  shapeCast S128x128 v71 shapeCasts_S128x128_S128x128

def dequantCell (s : W) (hs : ∃ n, n < 4 ∧ s = BitVec.ofNat 32 n) (r : Fin 12) (sc : FVec F S128x128 .f32) (j : Fin 12) :
    Prog (SEff F) PUnit := do
  let x ← ld .xc ![128 * r.val, 128 * j.val] S128x128.size (lt2 (by omega) (by omega)) h_S128x128
  let _ ← ld .xs (oXs s r j) S128x128.size (oXs_inb hs r j) h_S128x128
  stp .xs (oXs s r j) S128x128.size (oXs_inb hs r j) h_S128x128 (oXs_packed hs r j) (deq sc j x)

def dequantRow (s : W) (hs : ∃ n, n < 4 ∧ s = BitVec.ofNat 32 n) (r : Fin 12) : Prog (SEff F) PUnit := do
  let x ← ld .xsc ![128 * r.val, 0] S128x48.size (lt2 (by omega) (by omega)) h_S128x48
  seqs (dequantCell s hs r (scales x)) ten2

def dequant (s : W) (hs : ∃ n, n < 4 ∧ s = BitVec.ofNat 32 n) : Prog (SEff F) PUnit :=
  seqs (dequantRow s hs) ten2

/-! ## Codes -/

/-- A row of 128 numbers, spread down 128 rows as a column each. -/
def spread (x : Vec F S1x128 .f32) : FVec F S128x128 .f32 :=
  have v3128 : FVec F S1x128 .f32 := shapeCast S1x128 x shapeCasts_S1x128_S1x128
  have v3129 := shapeCast S1x128 v3128 shapeCasts_S1x128_S1x128
  have v3130 := broadcastTo S128x128 v3129 broadcasts_S1x128_S128x128
  transpose S128x128 [1, 0] v3130 transposes_S128x128_p1_0_S128x128

/-- The quotient the codes round. -/
def zval (s1 r s2 : FVec F S128x128 .f32) (c : Vec F S1x128 .f32) (w : FVec F S128x128 .f32) : FVec F S128x128 .f32 :=
  have v3150 := addf s2 r
  have v3152 : FVec F S1x128 .f32 := shapeCast S1x128 c shapeCasts_S1x128_S1x128
  have v3153 := broadcastTo S128x128 v3152 broadcasts_S1x128_S128x128
  have v3154 := addf v3150 v3153
  have v3156 := exp v3154
  have v3157 := mulf s1 v3156
  divf w v3157

/-- Rounded and clipped. -/
def rclip (z : FVec F S128x128 .f32) : FVec F S128x128 .f32 :=
  have v3159 := roundeven z
  have v3161 := broadcast S128x128 (Scalar.sitofp .f32 4294967288#32 : F .f32)
  have v3162 := maximumf v3161 v3159
  have v3164 := broadcast S128x128 (Scalar.sitofp .f32 7#32 : F .f32)
  minimumf v3164 v3162

def up3 (x : FVec F S128x128 .f32) : FVec F S1x128x128 .f32 := shapeCast S1x128x128 x shapeCasts_S128x128_S1x128x128
def cbfv (z : FVec F S128x128 .f32) : FVec F S1x128x128 .bf16 :=
  have v3170 := truncf .bf16 (rclip z) bitsLt_bf16_f32
  shapeCast S1x128x128 v3170 shapeCasts_S128x128_S1x128x128

def codesCell (p : W) (hp : Sm p) (s1 r : FVec F S128x128 .f32) (j : Fin 12) : Prog (SEff F) PUnit := do
  let s2 ← ld .s2 ![0, 128 * j.val] S128x128.size (lt2 (by omega) (by omega)) h_S128x128
  let c ← ld .c ![0, 128 * j.val] S1x128.size (lt2 (by omega) (by omega)) h_S1x128
  let w ← ld .w ![0, 128 * j.val] S128x128.size (lt2 (by omega) (by omega)) h_S128x128
  let _ ← ld .z (oZ p j) S1x128x128.size (oZ_inb hp j) h_S1x128x128
  st .z (oZ p j) S1x128x128.size (oZ_inb hp j) h_S1x128x128 rfl (up3 (zval s1 r s2 c w))
  let _ ← ld .cbf (oCol p j) S1x128x128.size (oCol_inb hp j) h_S1x128x128
  stp .cbf (oCol p j) S1x128x128.size (oCol_inb hp j) h_S1x128x128 (oCol_packed hp j) (cbfv (zval s1 r s2 c w))
  let _ ← ld .cd ![0, 128 * j.val] S128x128.size (lt2 (by omega) (by omega)) h_S128x128
  stp .cd ![0, 128 * j.val] S128x128.size (lt2 (by omega) (by omega)) h_S128x128
    (packed2 _ (show 4 ∣ 0 by decide) (show 4 ∣ 128 by decide)) (fptosi 8 (rclip (zval s1 r s2 c w)))

def codes (p : W) (hp : Sm p) : Prog (SEff F) PUnit := do
  let s1 ← ld .s1 (oRow p) S1x128.size (oRow_inb hp) h_S1x128
  let r ← ld .r (oRow p) S1x128.size (oRow_inb hp) h_S1x128
  let _ ← ld .s1c (oCol p 0) S1x128x128.size (oCol_inb' hp) h_S1x128x128
  st .s1c (oCol p 0) S1x128x128.size (oCol_inb' hp) h_S1x128x128 rfl (up3 (spread s1))
  seqs (codesCell p hp (spread s1) (spread r)) ten2

/-! ## Forward -/

/-- The residual of one token block. -/
def resv (xs : Vec F S256x1536 .bf16) (cbf : Vec F S1x512x1536 .bf16) (yt : Vec F S256x512 .bf16) (s1c : Vec F S1x512x128 .f32) :
    FVec F S512x256 .f32 :=
  have v39 : FVec F S512x1536 .bf16 := shapeCast S512x1536 cbf shapeCasts_S1x512x1536_S512x1536
  have cst : FVec F S512x256 .f32 := constant S512x256 .f32 0x00000000#32
  have v40 := matmul dot_S512x1536_S256x1536_S512x256_1_1_0_0_n_n none v39 xs cst
  have v42 : FVec F S256x512 .bf16 := shapeCast S256x512 yt shapeCasts_S256x512_S256x512
  have v43 := transpose S512x256 [1, 0] v42 transposes_S256x512_p1_0_S512x256
  have v44 := extf .f32 v43 bitsLt_bf16_f32
  have v47 : FVec F S512x128 .f32 := shapeCast S512x128 s1c shapeCasts_S1x512x128_S512x128
  have v48 := concatenate S512x256 1 [⟨S512x128, v47⟩, ⟨S512x128, v47⟩] concatenates_S512x128_S512x128_S512x256_d1
  have v49 := mulf v40 v48
  subf v49 v44

/-- The scaled residual. -/
def ev (res : FVec F S512x256 .f32) : FVec F S1x512x256 .bf16 :=
  have v51 := broadcast S512x256 (Scalar.ofBits .f32 0x33AAAAAB#32 : F .f32)
  have v52 := mulf res v51
  have v53 := truncf .bf16 v52 bitsLt_bf16_f32
  shapeCast S1x512x256 v53 shapeCasts_S512x256_S1x512x256

/-- The squared residuals summed by sublane, added to what was there, or to zero. -/
def rlv (first : BitVec 1) (old : Vec F S1x8x256 .f32) (res : FVec F S512x256 .f32) : FVec F S1x8x256 .f32 :=
  have v59 := mulf res res
  have v60 := shapeCast S64x8x256 v59 shapeCasts_S512x256_S64x8x256
  have v61 := multiReduction .add [0] S8x256 v60 0x00000000#32 reduces_S64x8x256_S8x256 (.inl rfl) rfl
  have v64 : FVec F S8x256 .f32 := shapeCast S8x256 old shapeCasts_S1x8x256_S8x256
  have v65 := broadcast S8x256 (Scalar.ofBits .f32 0x00000000#32 : F .f32)
  have v66 := Scalar.select first v65 v64
  have v67 := addf v66 v61
  shapeCast S1x8x256 v67 shapeCasts_S8x256_S1x8x256

def forwardCell (u : W) (hu : Sm u) (t : Fin 6) : Prog (SEff F) PUnit := do
  let xs ← ld .xs (oXsF u t) S256x1536.size (oXsF_inb hu t) h_S256x1536
  let cbf ← ld .cbf (oSlab u) S1x512x1536.size (oSlab_inb hu) h_S1x512x1536
  let yt ← ld .yt ![256 * t.val, 0] S256x512.size (lt2 (by omega) (by omega)) h_S256x512
  let s1c ← ld .s1c (oSlab u) S1x512x128.size (oSlab_inb' hu) h_S1x512x128
  let _ ← ld .e (oE u t) S1x512x256.size (oE_inb hu t) h_S1x512x256
  stp .e (oE u t) S1x512x256.size (oE_inb hu t) h_S1x512x256 (oE_packed hu t) (ev (resv xs cbf yt s1c))
  let old ← ld .rl (oRl u t) S1x8x256.size (oRl_inb hu t) h_S1x8x256
  let _ ← ld .rl (oRl u t) S1x8x256.size (oRl_inb hu t) h_S1x8x256
  st .rl (oRl u t) S1x8x256.size (oRl_inb hu t) h_S1x8x256 rfl
    (rlv (Scalar.cmpi .eq (Scalar.divsi u 4#32) 0#32) old (resv xs cbf yt s1c))

def forward (u : W) (hu : Sm u) : Prog (SEff F) PUnit := seqs (forwardCell u hu) six

/-! ## Backward -/

def gv (keep : BitVec 1) (e : Vec F S1x512x1536 .bf16) (xs : Vec F S1536x1536 .bf16) (old : Vec F S1x512x1536 .f32) :
    FVec F S1x512x1536 .f32 :=
  have v283 : FVec F S512x1536 .bf16 := shapeCast S512x1536 e shapeCasts_S1x512x1536_S512x1536
  have cst : FVec F S512x1536 .f32 := constant S512x1536 .f32 0x00000000#32
  have v284 := matmul dot_S512x1536_S1536x1536_S512x1536_1_0_0_1_n_n none v283 xs cst
  have v287 : FVec F S512x1536 .f32 := shapeCast S512x1536 old shapeCasts_S1x512x1536_S512x1536
  have v288 := broadcast S512x1536 (Scalar.ofBits .f32 0x00000000#32 : F .f32)
  have v289 := Scalar.select keep v287 v288
  have v290 := addf v289 v284
  shapeCast S1x512x1536 v290 shapeCasts_S512x1536_S1x512x1536

def backward (v : W) (hv : Sm v) : Prog (SEff F) PUnit := do
  let xs ← ld .xs (oXsB v) S1536x1536.size (oXsB_inb hv) h_S1536x1536
  let e ← ld .e (oE v 0) S1x512x1536.size (oE_inb' hv) h_S1x512x1536
  let old ← ld .g (oSlab v) S1x512x1536.size (oSlab_inb hv) h_S1x512x1536
  let _ ← ld .g (oSlab v) S1x512x1536.size (oSlab_inb hv) h_S1x512x1536
  st .g (oSlab v) S1x512x1536.size (oSlab_inb hv) h_S1x512x1536 rfl
    (gv (Scalar.cmpi .ne (Scalar.remsi v 4#32) 0#32) e xs old)

/-! ## Weights -/

def down (x : Vec F S1x128x128 .f32) : FVec F S128x128 .f32 := shapeCast S128x128 x shapeCasts_S1x128x128_S128x128

/-- The quotient where it is inside the clipping range, zero elsewhere. -/
def mzv (z : FVec F S128x128 .f32) : FVec F S128x128 .f32 :=
  have v51 := cmpf .oge z (broadcast S128x128 (Scalar.ofBits .f32 0xC1080000#32 : F .f32))
  have v53 := cmpf .olt z (broadcast S128x128 (Scalar.ofBits .f32 0x40F00000#32 : F .f32))
  have v54 := andi v51 v53
  have v57 := select v54 (broadcast S128x128 (Scalar.ofBits .f32 0x3F800000#32 : F .f32))
    (broadcast S128x128 (Scalar.ofBits .f32 0x00000000#32 : F .f32))
  mulf v57 z

def ds2v (s1 z g : FVec F S128x128 .f32) : FVec F S128x128 .f32 :=
  have v67 := subf (broadcast S128x128 (Scalar.ofBits .f32 0x00000000#32 : F .f32)) s1
  have v68 := mulf v67 (mzv z)
  mulf v68 g

def ds1v (z g : FVec F S128x128 .f32) : FVec F S128x128 .f32 :=
  have v72 := subf (rclip z) (mzv z)
  mulf g v72

def dcv (first : BitVec 1) (d : FVec F S128x128 .f32) (old : Vec F S8x128 .f32) : FVec F S8x128 .f32 :=
  have v75 := shapeCast S16x8x128 d shapeCasts_S128x128_S16x8x128
  have v76 := multiReduction .add [0] S8x128 v75 0x00000000#32 reduces_S16x8x128_S8x128 (.inl rfl) rfl
  have v79 : FVec F S8x128 .f32 := Scalar.select first (broadcast S8x128 (Scalar.ofBits .f32 0x00000000#32 : F .f32)) old
  have v80 := addf v79 v76
  shapeCast S8x128 v80 shapeCasts_S8x128_S8x128

/-- The row sums of a square, as a row. -/
def rowsum (x : FVec F S128x128 .f32) : FVec F S1x128 .f32 :=
  have v535 := transpose S128x128 [1, 0] x transposes_S128x128_p1_0_S128x128
  have v536 := multiReduction .add [0] S128 v535 0x00000000#32 reduces_S128x128_S128 (.inl rfl) rfl
  shapeCast S1x128 v536 shapeCasts_S128_S1x128

def zero128 : FVec F S128x128 .f32 := broadcast S128x128 (Scalar.ofBits .f32 0x00000000#32 : F .f32)

/-- The column blocks one after the other, the two running sums carried. -/
def weightCells (q : W) (hq : Sm q) (s1 : FVec F S128x128 .f32) : List (Fin 12) → FVec F S128x128 .f32 → FVec F S128x128 .f32 →
    Prog (SEff F) (FVec F S128x128 .f32 × FVec F S128x128 .f32)
  | [], dr, ds1 => .ret (dr, ds1)
  | j :: l, dr, ds1 => do
    let z ← ld .z (oZ q j) S1x128x128.size (oZ_inb hq j) h_S1x128x128
    let g ← ld .g (oCol q j) S1x128x128.size (oCol_inb hq j) h_S1x128x128
    let _ ← ld .ds2 ![0, 128 * j.val] S128x128.size (lt2 (by omega) (by omega)) h_S128x128
    st .ds2 ![0, 128 * j.val] S128x128.size (lt2 (by omega) (by omega)) h_S128x128 rfl (ds2v s1 (down z) (down g))
    let old ← ld .dcp ![0, 128 * j.val] S8x128.size (lt2 (by omega) (by omega)) h_S8x128
    let _ ← ld .dcp ![0, 128 * j.val] S8x128.size (lt2 (by omega) (by omega)) h_S8x128
    st .dcp ![0, 128 * j.val] S8x128.size (lt2 (by omega) (by omega)) h_S8x128 rfl
      (dcv (Scalar.cmpi .eq q 0#32) (ds2v s1 (down z) (down g)) old)
    weightCells q hq s1 l (addf dr (ds2v s1 (down z) (down g))) (addf ds1 (ds1v (down z) (down g)))

def weights (q : W) (hq : Sm q) : Prog (SEff F) PUnit := do
  let s1 ← ld .s1 (oRow q) S1x128.size (oRow_inb hq) h_S1x128
  let d ← weightCells q hq (spread s1) ten2 zero128 zero128
  let _ ← ld .dr (oRow q) S1x128.size (oRow_inb hq) h_S1x128
  st .dr (oRow q) S1x128.size (oRow_inb hq) h_S1x128 rfl (rowsum d.1)
  let _ ← ld .ds1 (oRow q) S1x128.size (oRow_inb hq) h_S1x128
  st .ds1 (oRow q) S1x128.size (oRow_inb hq) h_S1x128 rfl (rowsum d.2)

/-! ## The last writes -/

def dcfin (x : Vec F S8x1536 .f32) : FVec F S1x1536 .f32 :=
  have v29 : FVec F S1536 .f32 := multiReduction .add [0] S1536 x 0x00000000#32 reduces_S8x1536_S1536 (.inl rfl) rfl
  shapeCast S1x1536 v29 shapeCasts_S1536_S1x1536

def rlfin (x : Vec F S4x8x1536 .f32) : FVec F S4x1536 .f32 :=
  have v33 : FVec F S4x1536 .f32 := multiReduction .add [1] S4x1536 x 0x00000000#32 reduces_S4x8x1536_S4x1536 (.inl rfl) rfl
  mulf v33 (broadcast S4x1536 (Scalar.ofBits .f32 0x39800000#32 : F .f32))

def final : Prog (SEff F) PUnit := do
  let x ← ld .dcp ![0, 0] S8x1536.size inb_S8x1536_S8x1536_0_0 h_S8x1536
  let _ ← ld .dc ![0, 0] S1x1536.size inb_S1x1536_S1x1536_0_0 h_S1x1536
  st .dc ![0, 0] S1x1536.size inb_S1x1536_S1x1536_0_0 h_S1x1536 rfl (dcfin x)
  let y ← ld .rl ![0, 0, 0] S4x8x1536.size inb_S4x8x1536_S4x8x1536_0_0_0 h_S4x8x1536
  let _ ← ld .rlo ![0, 0] S4x1536.size inb_S4x1536_S4x1536_0_0 h_S4x1536
  st .rlo ![0, 0] S4x1536.size inb_S4x1536_S4x1536_0_0 h_S4x1536 rfl (rlfin y)

/-! ## A step -/

def w0 (s : Fin 41) : W := BitVec.ofNat 32 s.val
def wu (s : Fin 41) : W := Scalar.subi (w0 s) 4#32
def wv (s : Fin 41) : W := Scalar.subi (wu s) 1#32
def wq (s : Fin 41) : W := Scalar.subi (wv s) 4#32
def wp (s : Fin 41) : W := Scalar.minsi (w0 s) 31#32

theorem wp_eq : ∀ s : Fin 41, wp s = BitVec.ofNat 32 (min s.val 31) := by decide +kernel
theorem wu_eq : ∀ s : Fin 41, 4 ≤ s.val → wu s = BitVec.ofNat 32 (s.val - 4) := by decide +kernel
theorem wv_eq : ∀ s : Fin 41, 5 ≤ s.val → wv s = BitVec.ofNat 32 (s.val - 5) := by decide +kernel
theorem wq_eq : ∀ s : Fin 41, 9 ≤ s.val → wq s = BitVec.ofNat 32 (s.val - 9) := by decide +kernel

/-! The seven conditions, at a step. -/

def cnd1 (s : Fin 41) : BitVec 1 := Scalar.cmpi .ne (Scalar.extui (Scalar.cmpi .slt (w0 s) 4#32) : W) 0#32
def cnd2 (s : Fin 41) : BitVec 1 := Scalar.cmpi .ne (Scalar.extui (Scalar.cmpi .eq (w0 s) 4#32) : W) 0#32
def cnd3 (s : Fin 41) : BitVec 1 := Scalar.cmpi .ne (Scalar.extui (Scalar.andi (Scalar.cmpi .sge (wv s) 0#32) (Scalar.cmpi .slt (wq s) 0#32)) : W) 0#32
def cnd4 (s : Fin 41) : BitVec 1 := Scalar.cmpi .ne (Scalar.extui (Scalar.andi (Scalar.cmpi .sge (wq s) 0#32) (Scalar.cmpi .slt (wu s) 32#32)) : W) 0#32
def cnd5 (s : Fin 41) : BitVec 1 := Scalar.cmpi .ne (Scalar.extui (Scalar.cmpi .eq (wv s) 31#32) : W) 0#32
def cnd6 (s : Fin 41) : BitVec 1 := Scalar.cmpi .ne (Scalar.extui (Scalar.cmpi .sge (wv s) 32#32) : W) 0#32
def cnd7 (s : Fin 41) : BitVec 1 := Scalar.cmpi .ne (Scalar.extui (Scalar.cmpi .eq (wq s) 31#32) : W) 0#32

theorem cnd1_iff : ∀ s : Fin 41, cnd1 s = 1#1 ↔ s.val < 4 := by decide +kernel
theorem cnd2_iff : ∀ s : Fin 41, cnd2 s = 1#1 ↔ s.val = 4 := by decide +kernel
theorem cnd3_iff : ∀ s : Fin 41, cnd3 s = 1#1 ↔ 5 ≤ s.val ∧ s.val < 9 := by decide +kernel
theorem cnd4_iff : ∀ s : Fin 41, cnd4 s = 1#1 ↔ 9 ≤ s.val ∧ s.val < 36 := by decide +kernel
theorem cnd5_iff : ∀ s : Fin 41, cnd5 s = 1#1 ↔ s.val = 36 := by decide +kernel
theorem cnd6_iff : ∀ s : Fin 41, cnd6 s = 1#1 ↔ 37 ≤ s.val := by decide +kernel
theorem cnd7_iff : ∀ s : Fin 41, cnd7 s = 1#1 ↔ s.val = 40 := by decide +kernel

theorem Sm_p (s : Fin 41) : Sm (wp s) := ⟨_, by omega, wp_eq s⟩
theorem Sm_u {s : Fin 41} (h : 4 ≤ s.val ∧ s.val < 36) : Sm (wu s) := ⟨_, by omega, wu_eq s h.1⟩
theorem Sm_v {s : Fin 41} (h : 5 ≤ s.val ∧ s.val < 37) : Sm (wv s) := ⟨_, by omega, wv_eq s h.1⟩
theorem Sm_q {s : Fin 41} (h : 9 ≤ s.val) : Sm (wq s) := ⟨_, by omega, wq_eq s h⟩
theorem lt4 {s : Fin 41} (h : cnd1 s = 1#1) : ∃ n, n < 4 ∧ w0 s = BitVec.ofNat 32 n := ⟨_, (cnd1_iff s).1 h, rfl⟩

/-! The branches, one for each condition. -/

def b1 (s : Fin 41) (h : cnd1 s = 1#1) : Prog (SEff F) PUnit := (dequant (w0 s) (lt4 h)).bind fun _ => codes (wp s) (Sm_p s)
def b2 (s : Fin 41) (h : cnd2 s = 1#1) : Prog (SEff F) PUnit :=
  (forward (wu s) (Sm_u (by have := (cnd2_iff s).1 h; omega))).bind fun _ => codes (wp s) (Sm_p s)
def b3 (s : Fin 41) (h : cnd3 s = 1#1) : Prog (SEff F) PUnit :=
  (forward (wu s) (Sm_u (by have := (cnd3_iff s).1 h; omega))).bind fun _ =>
    (backward (wv s) (Sm_v (by have := (cnd3_iff s).1 h; omega))).bind fun _ => codes (wp s) (Sm_p s)
def b4 (s : Fin 41) (h : cnd4 s = 1#1) : Prog (SEff F) PUnit :=
  (forward (wu s) (Sm_u (by have := (cnd4_iff s).1 h; omega))).bind fun _ =>
    (backward (wv s) (Sm_v (by have := (cnd4_iff s).1 h; omega))).bind fun _ =>
      (weights (wq s) (Sm_q (by have := (cnd4_iff s).1 h; omega))).bind fun _ => codes (wp s) (Sm_p s)
def b5 (s : Fin 41) (h : cnd5 s = 1#1) : Prog (SEff F) PUnit :=
  (backward (wv s) (Sm_v (by have := (cnd5_iff s).1 h; omega))).bind fun _ =>
    weights (wq s) (Sm_q (by have := (cnd5_iff s).1 h; omega))
def b6 (s : Fin 41) (h : cnd6 s = 1#1) : Prog (SEff F) PUnit :=
  weights (wq s) (Sm_q (by have := (cnd6_iff s).1 h; omega))

/-- A step. -/
def body (s : Fin 41) : Prog (SEff F) PUnit :=
  if h : cnd1 s = 1#1 then b1 s h else if h : cnd2 s = 1#1 then b2 s h else if h : cnd3 s = 1#1 then b3 s h
  else if h : cnd4 s = 1#1 then b4 s h else if h : cnd5 s = 1#1 then b5 s h
  else if h : cnd6 s = 1#1 then (if cnd7 s = 1#1 then (b6 s h).bind fun _ => final else b6 s h) else .ret ⟨⟩

end Cert.K
-- ==== Proof.K.Step1P.lean ====
/- The first four steps of the grid: the printed body is the one written here. -/
module

public import proofs.«01_k».proof.Proof.K.Body
public import proofs.«01_k».proof.Proof.Gen.Kernel

@[expose] public section

set_option maxRecDepth 100000

noncomputable section

namespace Cert.K.P

open Idealize.ShloMosaic Idealize.SL.Sem
open Cert.Kernel Cert.Kernel.Facts₀

variable {F : FTy → Type} [FloatOps F]
variable [Cert.Kernel.Facts] [Cert.KernelIdeal.Facts]

theorem step1 (i : grid0.Coords) (arg : (b : B) → Memref sig .tc .vmem (shp b) (elt b)) (harg : ∀ b, (arg b).IsWhole)
    (h1 : k0_cond1 i = 1#1) (h2 : ¬ k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) :
    cc0_flexround_step (F := F) i (arg .xc) (harg .xc) (arg .xsc) (harg .xsc) (arg .w) (harg .w) (arg .s2) (harg .s2) (arg .s1) (harg .s1) (arg .r) (harg .r) (arg .c) (harg .c) (arg .yt) (harg .yt) (arg .rlo) (harg .rlo) (arg .ds2) (harg .ds2) (arg .dr) (harg .dr) (arg .dc) (harg .dc) (arg .ds1) (harg .ds1) (arg .cd) (harg .cd) (arg .xs) (harg .xs) (arg .z) (harg .z) (arg .cbf) (harg .cbf) (arg .s1c) (harg .s1c) (arg .e) (harg .e) (arg .g) (harg .g) (arg .rl) (harg .rl) (arg .dcp) (harg .dcp)
      = toProg arg harg (b1 (i 0) h1) := by
  unfold cc0_flexround_step
  simp only [dif_pos h1, dif_neg h2, dif_neg h3, dif_neg h4, dif_neg h5, dif_neg h6, dif_neg h7]
  rfl

end Cert.K.P
-- ==== Proof.K.Step2P.lean ====
/- The later steps of the grid: the printed body is the one written here. -/
module

public import proofs.«01_k».proof.Proof.K.Body
public import proofs.«01_k».proof.Proof.Gen.Kernel

@[expose] public section

set_option maxRecDepth 100000

noncomputable section

namespace Cert.K.P

open Idealize.ShloMosaic Idealize.SL.Sem
open Cert.Kernel Cert.Kernel.Facts₀

variable {F : FTy → Type} [FloatOps F]
variable [Cert.Kernel.Facts] [Cert.KernelIdeal.Facts]

theorem step2 (i : grid0.Coords) (arg : (b : B) → Memref sig .tc .vmem (shp b) (elt b)) (harg : ∀ b, (arg b).IsWhole)
    (h1 : ¬ k0_cond1 i = 1#1) (h2 : k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) :
    cc0_flexround_step (F := F) i (arg .xc) (harg .xc) (arg .xsc) (harg .xsc) (arg .w) (harg .w) (arg .s2) (harg .s2) (arg .s1) (harg .s1) (arg .r) (harg .r) (arg .c) (harg .c) (arg .yt) (harg .yt) (arg .rlo) (harg .rlo) (arg .ds2) (harg .ds2) (arg .dr) (harg .dr) (arg .dc) (harg .dc) (arg .ds1) (harg .ds1) (arg .cd) (harg .cd) (arg .xs) (harg .xs) (arg .z) (harg .z) (arg .cbf) (harg .cbf) (arg .s1c) (harg .s1c) (arg .e) (harg .e) (arg .g) (harg .g) (arg .rl) (harg .rl) (arg .dcp) (harg .dcp)
      = toProg arg harg (b2 (i 0) h2) := by
  unfold cc0_flexround_step
  simp only [dif_neg h1, dif_pos h2, dif_neg h3, dif_neg h4, dif_neg h5, dif_neg h6, dif_neg h7]
  rfl

theorem step3 (i : grid0.Coords) (arg : (b : B) → Memref sig .tc .vmem (shp b) (elt b)) (harg : ∀ b, (arg b).IsWhole)
    (h1 : ¬ k0_cond1 i = 1#1) (h2 : ¬ k0_cond2 i = 1#1) (h3 : k0_cond3 i = 1#1) (h4 : ¬ k0_cond4 i = 1#1) (h5 : ¬ k0_cond5 i = 1#1) (h6 : ¬ k0_cond6 i = 1#1) (h7 : ¬ k0_cond7 i = 1#1) :
    cc0_flexround_step (F := F) i (arg .xc) (harg .xc) (arg .xsc) (harg .xsc) (arg .w) (harg .w) (arg .s2) (harg .s2) (arg .s1) (harg .s1) (arg .r) (harg .r) (arg .c) (harg .c) (arg .yt) (harg .yt) (arg .rlo) (harg .rlo) (arg .ds2) (harg .ds2) (arg .dr) (harg .dr) (arg .dc) (harg .dc) (arg .ds1) (harg .ds1) (arg .cd) (harg .cd) (arg .xs) (harg .xs) (arg .z) (harg .z) (arg .cbf) (harg .cbf) (arg .s1c) (harg .s1c) (arg .e) (harg .e) (arg .g) (harg .g) (arg .rl) (harg .rl) (arg .dcp) (harg .dcp)
      = toProg arg harg (b3 (i 0) h3) := by
  unfold cc0_flexround_step
  simp only [dif_neg h1, dif_neg h2, dif_pos h3, dif_neg h4, dif_neg h5, dif_neg h6, dif_neg h7]
  rfl

theorem step4 (i : grid0.Coords) (arg : (b : B) → Memref sig .tc .vmem (shp b) (elt b)) (harg : ∀ b, (arg b).IsWhole)
    (h1 : ¬ k0_cond1 i = 1#1) (h2 : ¬ k0_cond2 i = 1#1) (h3 : ¬ k0_cond3 i = 1#1) (h4 : k0_cond4 i = 1#1) (h5 : ¬ k0_cond5 i = 1#1) (h6 : ¬ k0_cond6 i = 1#1) (h7 : ¬ k0_cond7 i = 1#1) :
    cc0_flexround_step (F := F) i (arg .xc) (harg .xc) (arg .xsc) (harg .xsc) (arg .w) (harg .w) (arg .s2) (harg .s2) (arg .s1) (harg .s1) (arg .r) (harg .r) (arg .c) (harg .c) (arg .yt) (harg .yt) (arg .rlo) (harg .rlo) (arg .ds2) (harg .ds2) (arg .dr) (harg .dr) (arg .dc) (harg .dc) (arg .ds1) (harg .ds1) (arg .cd) (harg .cd) (arg .xs) (harg .xs) (arg .z) (harg .z) (arg .cbf) (harg .cbf) (arg .s1c) (harg .s1c) (arg .e) (harg .e) (arg .g) (harg .g) (arg .rl) (harg .rl) (arg .dcp) (harg .dcp)
      = toProg arg harg (b4 (i 0) h4) := by
  unfold cc0_flexround_step
  simp only [dif_neg h1, dif_neg h2, dif_neg h3, dif_pos h4, dif_neg h5, dif_neg h6, dif_neg h7]
  rfl

theorem step5 (i : grid0.Coords) (arg : (b : B) → Memref sig .tc .vmem (shp b) (elt b)) (harg : ∀ b, (arg b).IsWhole)
    (h1 : ¬ k0_cond1 i = 1#1) (h2 : ¬ k0_cond2 i = 1#1) (h3 : ¬ k0_cond3 i = 1#1) (h4 : ¬ k0_cond4 i = 1#1) (h5 : k0_cond5 i = 1#1) (h6 : ¬ k0_cond6 i = 1#1) (h7 : ¬ k0_cond7 i = 1#1) :
    cc0_flexround_step (F := F) i (arg .xc) (harg .xc) (arg .xsc) (harg .xsc) (arg .w) (harg .w) (arg .s2) (harg .s2) (arg .s1) (harg .s1) (arg .r) (harg .r) (arg .c) (harg .c) (arg .yt) (harg .yt) (arg .rlo) (harg .rlo) (arg .ds2) (harg .ds2) (arg .dr) (harg .dr) (arg .dc) (harg .dc) (arg .ds1) (harg .ds1) (arg .cd) (harg .cd) (arg .xs) (harg .xs) (arg .z) (harg .z) (arg .cbf) (harg .cbf) (arg .s1c) (harg .s1c) (arg .e) (harg .e) (arg .g) (harg .g) (arg .rl) (harg .rl) (arg .dcp) (harg .dcp)
      = toProg arg harg (b5 (i 0) h5) := by
  unfold cc0_flexround_step
  simp only [dif_neg h1, dif_neg h2, dif_neg h3, dif_neg h4, dif_pos h5, dif_neg h6, dif_neg h7]
  rfl

theorem step6 (i : grid0.Coords) (arg : (b : B) → Memref sig .tc .vmem (shp b) (elt b)) (harg : ∀ b, (arg b).IsWhole)
    (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1) (h7 : ¬ k0_cond7 i = 1#1) :
    cc0_flexround_step (F := F) i (arg .xc) (harg .xc) (arg .xsc) (harg .xsc) (arg .w) (harg .w) (arg .s2) (harg .s2) (arg .s1) (harg .s1) (arg .r) (harg .r) (arg .c) (harg .c) (arg .yt) (harg .yt) (arg .rlo) (harg .rlo) (arg .ds2) (harg .ds2) (arg .dr) (harg .dr) (arg .dc) (harg .dc) (arg .ds1) (harg .ds1) (arg .cd) (harg .cd) (arg .xs) (harg .xs) (arg .z) (harg .z) (arg .cbf) (harg .cbf) (arg .s1c) (harg .s1c) (arg .e) (harg .e) (arg .g) (harg .g) (arg .rl) (harg .rl) (arg .dcp) (harg .dcp)
      = toProg arg harg (b6 (i 0) h6) := by
  unfold cc0_flexround_step
  simp only [dif_neg h1, dif_neg h2, dif_neg h3, dif_neg h4, dif_neg h5, dif_pos h6, dif_neg h7]
  rfl

theorem step7 (i : grid0.Coords) (arg : (b : B) → Memref sig .tc .vmem (shp b) (elt b)) (harg : ∀ b, (arg b).IsWhole)
    (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1) (h7 : k0_cond7 i = 1#1) :
    cc0_flexround_step (F := F) i (arg .xc) (harg .xc) (arg .xsc) (harg .xsc) (arg .w) (harg .w) (arg .s2) (harg .s2) (arg .s1) (harg .s1) (arg .r) (harg .r) (arg .c) (harg .c) (arg .yt) (harg .yt) (arg .rlo) (harg .rlo) (arg .ds2) (harg .ds2) (arg .dr) (harg .dr) (arg .dc) (harg .dc) (arg .ds1) (harg .ds1) (arg .cd) (harg .cd) (arg .xs) (harg .xs) (arg .z) (harg .z) (arg .cbf) (harg .cbf) (arg .s1c) (harg .s1c) (arg .e) (harg .e) (arg .g) (harg .g) (arg .rl) (harg .rl) (arg .dcp) (harg .dcp)
      = toProg arg harg ((b6 (i 0) h6).bind fun _ => final) := by
  unfold cc0_flexround_step
  simp only [dif_neg h1, dif_neg h2, dif_neg h3, dif_neg h4, dif_neg h5, dif_pos h6, dif_pos h7]
  rfl

end Cert.K.P
-- ==== Proof.K.StepP.lean ====
/- Every step of the grid: the printed body is the one written here. -/
module

public import proofs.«01_k».proof.Proof.K.Step1P
public import proofs.«01_k».proof.Proof.K.Step2P

@[expose] public section

set_option maxRecDepth 100000

noncomputable section

namespace Cert.K.P

open Idealize.ShloMosaic Idealize.SL.Sem
open Cert.Kernel Cert.Kernel.Facts₀

variable {F : FTy → Type} [FloatOps F]
variable [Cert.Kernel.Facts] [Cert.KernelIdeal.Facts]

theorem step (i : grid0.Coords) (arg : (b : B) → Memref sig .tc .vmem (shp b) (elt b)) (harg : ∀ b, (arg b).IsWhole) :
    cc0_flexround_step (F := F) i (arg .xc) (harg .xc) (arg .xsc) (harg .xsc) (arg .w) (harg .w) (arg .s2) (harg .s2) (arg .s1) (harg .s1) (arg .r) (harg .r) (arg .c) (harg .c) (arg .yt) (harg .yt) (arg .rlo) (harg .rlo) (arg .ds2) (harg .ds2) (arg .dr) (harg .dr) (arg .dc) (harg .dc) (arg .ds1) (harg .ds1) (arg .cd) (harg .cd) (arg .xs) (harg .xs) (arg .z) (harg .z) (arg .cbf) (harg .cbf) (arg .s1c) (harg .s1c) (arg .e) (harg .e) (arg .g) (harg .g) (arg .rl) (harg .rl) (arg .dcp) (harg .dcp)
      = toProg arg harg (body (i 0)) := by
  have e1 := cnd1_iff (i 0)
  have e2 := cnd2_iff (i 0)
  have e3 := cnd3_iff (i 0)
  have e4 := cnd4_iff (i 0)
  have e5 := cnd5_iff (i 0)
  have e6 := cnd6_iff (i 0)
  have e7 := cnd7_iff (i 0)
  unfold body
  by_cases h1 : cnd1 (i 0) = 1#1
  · rw [dif_pos h1]
    exact step1 i arg harg h1 (fun h => by have := e1.1 h1; have := e2.1 h; omega) (fun h => by have := e1.1 h1; have := e3.1 h; omega)
      (fun h => by have := e1.1 h1; have := e4.1 h; omega) (fun h => by have := e1.1 h1; have := e5.1 h; omega)
      (fun h => by have := e1.1 h1; have := e6.1 h; omega) (fun h => by have := e1.1 h1; have := e7.1 h; omega)
  rw [dif_neg h1]
  by_cases h2 : cnd2 (i 0) = 1#1
  · rw [dif_pos h2]
    exact step2 i arg harg h1 h2 (fun h => by have := e2.1 h2; have := e3.1 h; omega)
      (fun h => by have := e2.1 h2; have := e4.1 h; omega) (fun h => by have := e2.1 h2; have := e5.1 h; omega)
      (fun h => by have := e2.1 h2; have := e6.1 h; omega) (fun h => by have := e2.1 h2; have := e7.1 h; omega)
  rw [dif_neg h2]
  by_cases h3 : cnd3 (i 0) = 1#1
  · rw [dif_pos h3]
    exact step3 i arg harg h1 h2 h3
      (fun h => by have := e3.1 h3; have := e4.1 h; omega) (fun h => by have := e3.1 h3; have := e5.1 h; omega)
      (fun h => by have := e3.1 h3; have := e6.1 h; omega) (fun h => by have := e3.1 h3; have := e7.1 h; omega)
  rw [dif_neg h3]
  by_cases h4 : cnd4 (i 0) = 1#1
  · rw [dif_pos h4]
    exact step4 i arg harg h1 h2 h3 h4 (fun h => by have := e4.1 h4; have := e5.1 h; omega)
      (fun h => by have := e4.1 h4; have := e6.1 h; omega) (fun h => by have := e4.1 h4; have := e7.1 h; omega)
  rw [dif_neg h4]
  by_cases h5 : cnd5 (i 0) = 1#1
  · rw [dif_pos h5]
    exact step5 i arg harg h1 h2 h3 h4 h5
      (fun h => by have := e5.1 h5; have := e6.1 h; omega) (fun h => by have := e5.1 h5; have := e7.1 h; omega)
  rw [dif_neg h5]
  have h6 : cnd6 (i 0) = 1#1 := e6.2 (by
    have : ¬ _ := fun h => h1 (e1.2 h)
    have : ¬ _ := fun h => h2 (e2.2 h)
    have : ¬ _ := fun h => h3 (e3.2 h)
    have : ¬ _ := fun h => h4 (e4.2 h)
    have : ¬ _ := fun h => h5 (e5.2 h)
    omega)
  rw [dif_pos h6]
  by_cases h7 : cnd7 (i 0) = 1#1
  · rw [if_pos h7]; exact step7 i arg harg h1 h2 h3 h4 h5 h6 h7
  · rw [if_neg h7]; exact step6 i arg harg h1 h2 h3 h4 h5 h6 h7

end Cert.K.P
-- ==== Proof.K.Step1.lean ====
/- The first four steps of the grid: the printed body is the one written here. -/
module

public import proofs.«01_k».proof.Proof.K.Body

@[expose] public section

set_option maxRecDepth 100000

noncomputable section

namespace Cert.K

open Idealize.ShloMosaic Idealize.SL.Sem
open Cert.KernelIdeal Cert.KernelIdeal.Facts₀

variable {F : FTy → Type} [FloatOps F]
variable [Cert.KernelIdeal.Facts]

theorem step1 (i : grid0.Coords) (arg : (b : B) → Memref sig .tc .vmem (shp b) (elt b)) (harg : ∀ b, (arg b).IsWhole)
    (h1 : k0_cond1 i = 1#1) (h2 : ¬ k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) :
    cc0_flexround_step (F := F) i (arg .xc) (harg .xc) (arg .xsc) (harg .xsc) (arg .w) (harg .w) (arg .s2) (harg .s2) (arg .s1) (harg .s1) (arg .r) (harg .r) (arg .c) (harg .c) (arg .yt) (harg .yt) (arg .rlo) (harg .rlo) (arg .ds2) (harg .ds2) (arg .dr) (harg .dr) (arg .dc) (harg .dc) (arg .ds1) (harg .ds1) (arg .cd) (harg .cd) (arg .xs) (harg .xs) (arg .z) (harg .z) (arg .cbf) (harg .cbf) (arg .s1c) (harg .s1c) (arg .e) (harg .e) (arg .g) (harg .g) (arg .rl) (harg .rl) (arg .dcp) (harg .dcp)
      = toProg arg harg (b1 (i 0) h1) := by
  unfold cc0_flexround_step
  simp only [dif_pos h1, dif_neg h2, dif_neg h3, dif_neg h4, dif_neg h5, dif_neg h6, dif_neg h7]
  rfl

end Cert.K
-- ==== Proof.K.Step2.lean ====
/- The later steps of the grid: the printed body is the one written here. -/
module

public import proofs.«01_k».proof.Proof.K.Body

@[expose] public section

set_option maxRecDepth 100000

noncomputable section

namespace Cert.K

open Idealize.ShloMosaic Idealize.SL.Sem
open Cert.KernelIdeal Cert.KernelIdeal.Facts₀

variable {F : FTy → Type} [FloatOps F]
variable [Cert.KernelIdeal.Facts]

theorem step2 (i : grid0.Coords) (arg : (b : B) → Memref sig .tc .vmem (shp b) (elt b)) (harg : ∀ b, (arg b).IsWhole)
    (h1 : ¬ k0_cond1 i = 1#1) (h2 : k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) :
    cc0_flexround_step (F := F) i (arg .xc) (harg .xc) (arg .xsc) (harg .xsc) (arg .w) (harg .w) (arg .s2) (harg .s2) (arg .s1) (harg .s1) (arg .r) (harg .r) (arg .c) (harg .c) (arg .yt) (harg .yt) (arg .rlo) (harg .rlo) (arg .ds2) (harg .ds2) (arg .dr) (harg .dr) (arg .dc) (harg .dc) (arg .ds1) (harg .ds1) (arg .cd) (harg .cd) (arg .xs) (harg .xs) (arg .z) (harg .z) (arg .cbf) (harg .cbf) (arg .s1c) (harg .s1c) (arg .e) (harg .e) (arg .g) (harg .g) (arg .rl) (harg .rl) (arg .dcp) (harg .dcp)
      = toProg arg harg (b2 (i 0) h2) := by
  unfold cc0_flexround_step
  simp only [dif_neg h1, dif_pos h2, dif_neg h3, dif_neg h4, dif_neg h5, dif_neg h6, dif_neg h7]
  rfl

theorem step3 (i : grid0.Coords) (arg : (b : B) → Memref sig .tc .vmem (shp b) (elt b)) (harg : ∀ b, (arg b).IsWhole)
    (h1 : ¬ k0_cond1 i = 1#1) (h2 : ¬ k0_cond2 i = 1#1) (h3 : k0_cond3 i = 1#1) (h4 : ¬ k0_cond4 i = 1#1) (h5 : ¬ k0_cond5 i = 1#1) (h6 : ¬ k0_cond6 i = 1#1) (h7 : ¬ k0_cond7 i = 1#1) :
    cc0_flexround_step (F := F) i (arg .xc) (harg .xc) (arg .xsc) (harg .xsc) (arg .w) (harg .w) (arg .s2) (harg .s2) (arg .s1) (harg .s1) (arg .r) (harg .r) (arg .c) (harg .c) (arg .yt) (harg .yt) (arg .rlo) (harg .rlo) (arg .ds2) (harg .ds2) (arg .dr) (harg .dr) (arg .dc) (harg .dc) (arg .ds1) (harg .ds1) (arg .cd) (harg .cd) (arg .xs) (harg .xs) (arg .z) (harg .z) (arg .cbf) (harg .cbf) (arg .s1c) (harg .s1c) (arg .e) (harg .e) (arg .g) (harg .g) (arg .rl) (harg .rl) (arg .dcp) (harg .dcp)
      = toProg arg harg (b3 (i 0) h3) := by
  unfold cc0_flexround_step
  simp only [dif_neg h1, dif_neg h2, dif_pos h3, dif_neg h4, dif_neg h5, dif_neg h6, dif_neg h7]
  rfl

theorem step4 (i : grid0.Coords) (arg : (b : B) → Memref sig .tc .vmem (shp b) (elt b)) (harg : ∀ b, (arg b).IsWhole)
    (h1 : ¬ k0_cond1 i = 1#1) (h2 : ¬ k0_cond2 i = 1#1) (h3 : ¬ k0_cond3 i = 1#1) (h4 : k0_cond4 i = 1#1) (h5 : ¬ k0_cond5 i = 1#1) (h6 : ¬ k0_cond6 i = 1#1) (h7 : ¬ k0_cond7 i = 1#1) :
    cc0_flexround_step (F := F) i (arg .xc) (harg .xc) (arg .xsc) (harg .xsc) (arg .w) (harg .w) (arg .s2) (harg .s2) (arg .s1) (harg .s1) (arg .r) (harg .r) (arg .c) (harg .c) (arg .yt) (harg .yt) (arg .rlo) (harg .rlo) (arg .ds2) (harg .ds2) (arg .dr) (harg .dr) (arg .dc) (harg .dc) (arg .ds1) (harg .ds1) (arg .cd) (harg .cd) (arg .xs) (harg .xs) (arg .z) (harg .z) (arg .cbf) (harg .cbf) (arg .s1c) (harg .s1c) (arg .e) (harg .e) (arg .g) (harg .g) (arg .rl) (harg .rl) (arg .dcp) (harg .dcp)
      = toProg arg harg (b4 (i 0) h4) := by
  unfold cc0_flexround_step
  simp only [dif_neg h1, dif_neg h2, dif_neg h3, dif_pos h4, dif_neg h5, dif_neg h6, dif_neg h7]
  rfl

theorem step5 (i : grid0.Coords) (arg : (b : B) → Memref sig .tc .vmem (shp b) (elt b)) (harg : ∀ b, (arg b).IsWhole)
    (h1 : ¬ k0_cond1 i = 1#1) (h2 : ¬ k0_cond2 i = 1#1) (h3 : ¬ k0_cond3 i = 1#1) (h4 : ¬ k0_cond4 i = 1#1) (h5 : k0_cond5 i = 1#1) (h6 : ¬ k0_cond6 i = 1#1) (h7 : ¬ k0_cond7 i = 1#1) :
    cc0_flexround_step (F := F) i (arg .xc) (harg .xc) (arg .xsc) (harg .xsc) (arg .w) (harg .w) (arg .s2) (harg .s2) (arg .s1) (harg .s1) (arg .r) (harg .r) (arg .c) (harg .c) (arg .yt) (harg .yt) (arg .rlo) (harg .rlo) (arg .ds2) (harg .ds2) (arg .dr) (harg .dr) (arg .dc) (harg .dc) (arg .ds1) (harg .ds1) (arg .cd) (harg .cd) (arg .xs) (harg .xs) (arg .z) (harg .z) (arg .cbf) (harg .cbf) (arg .s1c) (harg .s1c) (arg .e) (harg .e) (arg .g) (harg .g) (arg .rl) (harg .rl) (arg .dcp) (harg .dcp)
      = toProg arg harg (b5 (i 0) h5) := by
  unfold cc0_flexround_step
  simp only [dif_neg h1, dif_neg h2, dif_neg h3, dif_neg h4, dif_pos h5, dif_neg h6, dif_neg h7]
  rfl

theorem step6 (i : grid0.Coords) (arg : (b : B) → Memref sig .tc .vmem (shp b) (elt b)) (harg : ∀ b, (arg b).IsWhole)
    (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1) (h7 : ¬ k0_cond7 i = 1#1) :
    cc0_flexround_step (F := F) i (arg .xc) (harg .xc) (arg .xsc) (harg .xsc) (arg .w) (harg .w) (arg .s2) (harg .s2) (arg .s1) (harg .s1) (arg .r) (harg .r) (arg .c) (harg .c) (arg .yt) (harg .yt) (arg .rlo) (harg .rlo) (arg .ds2) (harg .ds2) (arg .dr) (harg .dr) (arg .dc) (harg .dc) (arg .ds1) (harg .ds1) (arg .cd) (harg .cd) (arg .xs) (harg .xs) (arg .z) (harg .z) (arg .cbf) (harg .cbf) (arg .s1c) (harg .s1c) (arg .e) (harg .e) (arg .g) (harg .g) (arg .rl) (harg .rl) (arg .dcp) (harg .dcp)
      = toProg arg harg (b6 (i 0) h6) := by
  unfold cc0_flexround_step
  simp only [dif_neg h1, dif_neg h2, dif_neg h3, dif_neg h4, dif_neg h5, dif_pos h6, dif_neg h7]
  rfl

theorem step7 (i : grid0.Coords) (arg : (b : B) → Memref sig .tc .vmem (shp b) (elt b)) (harg : ∀ b, (arg b).IsWhole)
    (h1 : ¬ k0_cond1 i = 1#1) (h2 : ¬ k0_cond2 i = 1#1) (h3 : ¬ k0_cond3 i = 1#1) (h4 : ¬ k0_cond4 i = 1#1) (h5 : ¬ k0_cond5 i = 1#1) (h6 : k0_cond6 i = 1#1) (h7 : k0_cond7 i = 1#1) :
    cc0_flexround_step (F := F) i (arg .xc) (harg .xc) (arg .xsc) (harg .xsc) (arg .w) (harg .w) (arg .s2) (harg .s2) (arg .s1) (harg .s1) (arg .r) (harg .r) (arg .c) (harg .c) (arg .yt) (harg .yt) (arg .rlo) (harg .rlo) (arg .ds2) (harg .ds2) (arg .dr) (harg .dr) (arg .dc) (harg .dc) (arg .ds1) (harg .ds1) (arg .cd) (harg .cd) (arg .xs) (harg .xs) (arg .z) (harg .z) (arg .cbf) (harg .cbf) (arg .s1c) (harg .s1c) (arg .e) (harg .e) (arg .g) (harg .g) (arg .rl) (harg .rl) (arg .dcp) (harg .dcp)
      = toProg arg harg ((b6 (i 0) h6).bind fun _ => final) := by
  unfold cc0_flexround_step
  simp only [dif_neg h1, dif_neg h2, dif_neg h3, dif_neg h4, dif_neg h5, dif_pos h6, dif_pos h7]
  rfl

end Cert.K
-- ==== Proof.K.Step.lean ====
/- Every step of the grid: the printed body is the one written here. -/
module

public import proofs.«01_k».proof.Proof.K.Step1
public import proofs.«01_k».proof.Proof.K.Step2

@[expose] public section

set_option maxRecDepth 100000

noncomputable section

namespace Cert.K

open Idealize.ShloMosaic Idealize.SL.Sem
open Cert.KernelIdeal Cert.KernelIdeal.Facts₀

variable {F : FTy → Type} [FloatOps F]
variable [Cert.KernelIdeal.Facts]

theorem step (i : grid0.Coords) (arg : (b : B) → Memref sig .tc .vmem (shp b) (elt b)) (harg : ∀ b, (arg b).IsWhole) :
    cc0_flexround_step (F := F) i (arg .xc) (harg .xc) (arg .xsc) (harg .xsc) (arg .w) (harg .w) (arg .s2) (harg .s2) (arg .s1) (harg .s1) (arg .r) (harg .r) (arg .c) (harg .c) (arg .yt) (harg .yt) (arg .rlo) (harg .rlo) (arg .ds2) (harg .ds2) (arg .dr) (harg .dr) (arg .dc) (harg .dc) (arg .ds1) (harg .ds1) (arg .cd) (harg .cd) (arg .xs) (harg .xs) (arg .z) (harg .z) (arg .cbf) (harg .cbf) (arg .s1c) (harg .s1c) (arg .e) (harg .e) (arg .g) (harg .g) (arg .rl) (harg .rl) (arg .dcp) (harg .dcp)
      = toProg arg harg (body (i 0)) := by
  have e1 := cnd1_iff (i 0)
  have e2 := cnd2_iff (i 0)
  have e3 := cnd3_iff (i 0)
  have e4 := cnd4_iff (i 0)
  have e5 := cnd5_iff (i 0)
  have e6 := cnd6_iff (i 0)
  have e7 := cnd7_iff (i 0)
  unfold body
  by_cases h1 : cnd1 (i 0) = 1#1
  · rw [dif_pos h1]
    exact step1 i arg harg h1 (fun h => by have := e1.1 h1; have := e2.1 h; omega) (fun h => by have := e1.1 h1; have := e3.1 h; omega)
      (fun h => by have := e1.1 h1; have := e4.1 h; omega) (fun h => by have := e1.1 h1; have := e5.1 h; omega)
      (fun h => by have := e1.1 h1; have := e6.1 h; omega) (fun h => by have := e1.1 h1; have := e7.1 h; omega)
  rw [dif_neg h1]
  by_cases h2 : cnd2 (i 0) = 1#1
  · rw [dif_pos h2]
    exact step2 i arg harg h1 h2 (fun h => by have := e2.1 h2; have := e3.1 h; omega)
      (fun h => by have := e2.1 h2; have := e4.1 h; omega) (fun h => by have := e2.1 h2; have := e5.1 h; omega)
      (fun h => by have := e2.1 h2; have := e6.1 h; omega) (fun h => by have := e2.1 h2; have := e7.1 h; omega)
  rw [dif_neg h2]
  by_cases h3 : cnd3 (i 0) = 1#1
  · rw [dif_pos h3]
    exact step3 i arg harg h1 h2 h3
      (fun h => by have := e3.1 h3; have := e4.1 h; omega) (fun h => by have := e3.1 h3; have := e5.1 h; omega)
      (fun h => by have := e3.1 h3; have := e6.1 h; omega) (fun h => by have := e3.1 h3; have := e7.1 h; omega)
  rw [dif_neg h3]
  by_cases h4 : cnd4 (i 0) = 1#1
  · rw [dif_pos h4]
    exact step4 i arg harg h1 h2 h3 h4 (fun h => by have := e4.1 h4; have := e5.1 h; omega)
      (fun h => by have := e4.1 h4; have := e6.1 h; omega) (fun h => by have := e4.1 h4; have := e7.1 h; omega)
  rw [dif_neg h4]
  by_cases h5 : cnd5 (i 0) = 1#1
  · rw [dif_pos h5]
    exact step5 i arg harg h1 h2 h3 h4 h5
      (fun h => by have := e5.1 h5; have := e6.1 h; omega) (fun h => by have := e5.1 h5; have := e7.1 h; omega)
  rw [dif_neg h5]
  have h6 : cnd6 (i 0) = 1#1 := e6.2 (by
    have : ¬ _ := fun h => h1 (e1.2 h)
    have : ¬ _ := fun h => h2 (e2.2 h)
    have : ¬ _ := fun h => h3 (e3.2 h)
    have : ¬ _ := fun h => h4 (e4.2 h)
    have : ¬ _ := fun h => h5 (e5.2 h)
    omega)
  rw [dif_pos h6]
  by_cases h7 : cnd7 (i 0) = 1#1
  · rw [if_pos h7]; exact step7 i arg harg h1 h2 h3 h4 h5 h6 h7
  · rw [if_neg h7]; exact step6 i arg harg h1 h2 h3 h4 h5 h6 h7

end Cert.K
-- ==== Proof.K.Launch.lean ====
/- The launch of the kernel's one region from a statement about `run`: if a step, run on contents the
   pipeline may hand it and scratch in the invariant, leaves contents in the relation stated and scratch in
   the next invariant, then the program runs to the arrays those relations describe. -/
module

public import proofs.«01_k».proof.Proof.K.Step
public import proofs.«01_k».proof.Proof.Gen.KernelIdeal.Frame
public import Idealize.ShloMosaic.Lib.Pipeline.ArrRel

@[expose] public section

noncomputable section

namespace Cert.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (RDat Dat)

variable {F : FTy → Type} [FloatOps F]

local notation "𝕄" => MT nD τ sig Unit (Elt F) ℕ (UR sig nD τ) ℕ

/-- The buffers the body is called with at a point. -/
def arg (t : Fin cfg0.N) : (b : B) → Memref sig .tc .vmem (shp b) (elt b)
  | .xc => win0_0.stage (cfg0.slots t 0)
  | .xsc => win0_1.stage (cfg0.slots t 1)
  | .w => win0_2.stage (cfg0.slots t 2)
  | .s2 => win0_3.stage (cfg0.slots t 3)
  | .s1 => win0_4.stage (cfg0.slots t 4)
  | .r => win0_5.stage (cfg0.slots t 5)
  | .c => win0_6.stage (cfg0.slots t 6)
  | .yt => win0_7.stage (cfg0.slots t 7)
  | .rlo => win0_8.stage (cfg0.slots t 8)
  | .ds2 => win0_9.stage (cfg0.slots t 9)
  | .dr => win0_10.stage (cfg0.slots t 10)
  | .dc => win0_11.stage (cfg0.slots t 11)
  | .ds1 => win0_12.stage (cfg0.slots t 12)
  | .cd => win0_13.stage (cfg0.slots t 13)
  | .xs => Memref.whole cc0_scratch0
  | .z => Memref.whole cc0_scratch1
  | .cbf => Memref.whole cc0_scratch2
  | .s1c => Memref.whole cc0_scratch3
  | .e => Memref.whole cc0_scratch4
  | .g => Memref.whole cc0_scratch5
  | .rl => Memref.whole cc0_scratch6
  | .dcp => Memref.whole cc0_scratch7

theorem harg (t : Fin cfg0.N) : ∀ b, (arg t b).IsWhole
  | .xc => hstage0_0 ((cfg0.slots t 0).cast nbuf0_0)
  | .xsc => hstage0_1 ((cfg0.slots t 1).cast nbuf0_1)
  | .w => hstage0_2 ((cfg0.slots t 2).cast nbuf0_2)
  | .s2 => hstage0_3 ((cfg0.slots t 3).cast nbuf0_3)
  | .s1 => hstage0_4 ((cfg0.slots t 4).cast nbuf0_4)
  | .r => hstage0_5 ((cfg0.slots t 5).cast nbuf0_5)
  | .c => hstage0_6 ((cfg0.slots t 6).cast nbuf0_6)
  | .yt => hstage0_7 ((cfg0.slots t 7).cast nbuf0_7)
  | .rlo => hstage0_8 ((cfg0.slots t 8).cast nbuf0_8)
  | .ds2 => hstage0_9 ((cfg0.slots t 9).cast nbuf0_9)
  | .dr => hstage0_10 ((cfg0.slots t 10).cast nbuf0_10)
  | .dc => hstage0_11 ((cfg0.slots t 11).cast nbuf0_11)
  | .ds1 => hstage0_12 ((cfg0.slots t 12).cast nbuf0_12)
  | .cd => hstage0_13 ((cfg0.slots t 13).cast nbuf0_13)
  | .xs => Memref.isWhole_whole _
  | .z => Memref.isWhole_whole _
  | .cbf => Memref.isWhole_whole _
  | .s1c => Memref.isWhole_whole _
  | .e => Memref.isWhole_whole _
  | .g => Memref.isWhole_whole _
  | .rl => Memref.isWhole_whole _
  | .dcp => Memref.isWhole_whole _

theorem body_eq (t : Fin cfg0.N) :
    (bodyAt0 t : Prog (TpuEff nD τ sig (Elt F) Λ₀ .tc) PUnit) = toProg (arg t) (harg t) (body (grid0.coords t 0)) :=
  step (grid0.coords t) (arg t) (harg t)

/-- The scratch part of a state. -/
structure Scr (F : FTy → Type) where
  xs : (shp .xs).Idx → Elt F (elt .xs)
  z : (shp .z).Idx → Elt F (elt .z)
  cbf : (shp .cbf).Idx → Elt F (elt .cbf)
  s1c : (shp .s1c).Idx → Elt F (elt .s1c)
  e : (shp .e).Idx → Elt F (elt .e)
  g : (shp .g).Idx → Elt F (elt .g)
  rl : (shp .rl).Idx → Elt F (elt .rl)
  dcp : (shp .dcp).Idx → Elt F (elt .dcp)

/-- A state's scratch part. -/
def State.scr (σ : State F) : Scr F := ⟨σ .xs, σ .z, σ .cbf, σ .s1c, σ .e, σ .g, σ .rl, σ .dcp⟩

/-- What the windows' buffers hold in a state. -/
def wins (σ : State F) : (w : Fin 14) → (win0 w).block.Idx → Elt F (win0 w).elt
  | 0 => σ .xc
  | 1 => σ .xsc
  | 2 => σ .w
  | 3 => σ .s2
  | 4 => σ .s1
  | 5 => σ .r
  | 6 => σ .c
  | 7 => σ .yt
  | 8 => σ .rlo
  | 9 => σ .ds2
  | 10 => σ .dr
  | 11 => σ .dc
  | 12 => σ .ds1
  | 13 => σ .cd

/-- The state of windows' contents and scratch contents. -/
def join (Y : (w : Fin 14) → (win0 w).block.Idx → Elt F (win0 w).elt) (s : Scr F) : State F
  | .xc => Y 0
  | .xsc => Y 1
  | .w => Y 2
  | .s2 => Y 3
  | .s1 => Y 4
  | .r => Y 5
  | .c => Y 6
  | .yt => Y 7
  | .rlo => Y 8
  | .ds2 => Y 9
  | .dr => Y 10
  | .dc => Y 11
  | .ds1 => Y 12
  | .cd => Y 13
  | .xs => s.xs
  | .z => s.z
  | .cbf => s.cbf
  | .s1c => s.s1c
  | .e => s.e
  | .g => s.g
  | .rl => s.rl
  | .dcp => s.dcp

/-- The scratch buffers, held at contents. -/
def scrOwn (c : Dev nD) (s : Scr F) : sProp 𝕄 :=
  iprop(((c : Thread nD τ).loc cc0_scratch0 ↦{fullShare} s.xs) ∗ ((c : Thread nD τ).loc cc0_scratch1 ↦{fullShare} s.z) ∗ ((c : Thread nD τ).loc cc0_scratch2 ↦{fullShare} s.cbf) ∗ ((c : Thread nD τ).loc cc0_scratch3 ↦{fullShare} s.s1c) ∗ ((c : Thread nD τ).loc cc0_scratch4 ↦{fullShare} s.e) ∗ ((c : Thread nD τ).loc cc0_scratch5 ↦{fullShare} s.g) ∗ ((c : Thread nD τ).loc cc0_scratch6 ↦{fullShare} s.rl) ∗ ((c : Thread nD τ).loc cc0_scratch7 ↦{fullShare} s.dcp))

/-- The proof's data on one core: the relation each window's contents keep, the scratch in an invariant. -/
def rdat (m : (ℓ : Loc nD τ sig) → Buf (Elt F) ℓ)
    (aft : (w : Fin 14) → Fin cfg0.N → ((win0 w).block.Idx → Elt F (win0 w).elt) → ((win0 w).block.Idx → Elt F (win0 w).elt) → Prop)
    (I : ℕ → Scr F → Prop) (c : Dev nD) : RDat τ (Elt F) Unit ℕ (UR sig nD τ) ℕ cfg0 c where
  A := fun w => V m c (Pipeline.arrRef spec0 w)
  after := aft
  Φ := fun t => iprop((∃ s : Scr F, ⌜I t.val s⌝ ∗ scrOwn c s) ∗ ∃ r, prngReg c r)
  q := fun _ => fullShare
  owed := fun _ => 0

theorem bigSep_B (Φ : B → sProp 𝕄) : bigSep Finset.univ Φ = iprop(Φ .xc ∗ Φ .xsc ∗ Φ .w ∗ Φ .s2 ∗ Φ .s1 ∗ Φ .r ∗ Φ .c ∗ Φ .yt ∗ Φ .rlo ∗ Φ .ds2 ∗ Φ .dr ∗ Φ .dc ∗ Φ .ds1 ∗ Φ .cd ∗ Φ .xs ∗ Φ .z ∗ Φ .cbf ∗ Φ .s1c ∗ Φ .e ∗ Φ .g ∗ Φ .rl ∗ Φ .dcp) :=
  bigSep_univ_eq_bigSepL B.all (by decide) (by decide) Φ

theorem wins_join (Y : (w : Fin 14) → (win0 w).block.Idx → Elt F (win0 w).elt) (s : Scr F) : wins (join Y s) = Y := by
  funext w; fin_cases w <;> rfl

theorem of_bufs (t : Fin cfg0.N) (c : Dev nD) (σ : State F) :
    (bigSep Finset.univ fun b => owns (c : Thread nD τ) (arg t b) fullShare (σ b) : sProp 𝕄)
      ⊢ iprop((bigSep Finset.univ fun w : Fin 14 => owns (c : Thread nD τ) ((win0 w).stage (cfg0.slots t w)) fullShare (wins σ w))
        ∗ scrOwn c σ.scr) := by
  rw [bigSep_B, bigSep_W0]
  iintro ⟨H0, H1, H2, H3, H4, H5, H6, H7, H8, H9, H10, H11, H12, H13, S⟩
  isplitr [S]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · have e : scrOwn (F := F) c σ.scr = iprop(owns (c : Thread nD τ) (Memref.whole cc0_scratch0) fullShare (σ .xs) ∗ owns (c : Thread nD τ) (Memref.whole cc0_scratch1) fullShare (σ .z) ∗ owns (c : Thread nD τ) (Memref.whole cc0_scratch2) fullShare (σ .cbf) ∗ owns (c : Thread nD τ) (Memref.whole cc0_scratch3) fullShare (σ .s1c) ∗ owns (c : Thread nD τ) (Memref.whole cc0_scratch4) fullShare (σ .e) ∗ owns (c : Thread nD τ) (Memref.whole cc0_scratch5) fullShare (σ .g) ∗ owns (c : Thread nD τ) (Memref.whole cc0_scratch6) fullShare (σ .rl) ∗ owns (c : Thread nD τ) (Memref.whole cc0_scratch7) fullShare (σ .dcp)) := by
      simp only [owns_whole]; rfl
    rw [e]
    iexact S

theorem bufs_of (t : Fin cfg0.N) (c : Dev nD) (σ : State F) :
    iprop((bigSep Finset.univ fun w : Fin 14 => owns (c : Thread nD τ) ((win0 w).stage (cfg0.slots t w)) fullShare (wins σ w))
        ∗ scrOwn c σ.scr)
      ⊢ (bigSep Finset.univ fun b => owns (c : Thread nD τ) (arg t b) fullShare (σ b) : sProp 𝕄) := by
  have e : scrOwn (F := F) c σ.scr = iprop(owns (c : Thread nD τ) (Memref.whole cc0_scratch0) fullShare (σ .xs) ∗ owns (c : Thread nD τ) (Memref.whole cc0_scratch1) fullShare (σ .z) ∗ owns (c : Thread nD τ) (Memref.whole cc0_scratch2) fullShare (σ .cbf) ∗ owns (c : Thread nD τ) (Memref.whole cc0_scratch3) fullShare (σ .s1c) ∗ owns (c : Thread nD τ) (Memref.whole cc0_scratch4) fullShare (σ .e) ∗ owns (c : Thread nD τ) (Memref.whole cc0_scratch5) fullShare (σ .g) ∗ owns (c : Thread nD τ) (Memref.whole cc0_scratch6) fullShare (σ .rl) ∗ owns (c : Thread nD τ) (Memref.whole cc0_scratch7) fullShare (σ .dcp)) := by
    simp only [owns_whole]; rfl
  rw [bigSep_B, bigSep_W0, e]
  iintro ⟨⟨H0, H1, H2, H3, H4, H5, H6, H7, H8, H9, H10, H11, H12, H13⟩, S⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact S

theorem aft_intro (t : Fin cfg0.N) (c : Dev nD)
    (aft : (w : Fin 14) → Fin cfg0.N → ((win0 w).block.Idx → Elt F (win0 w).elt) → ((win0 w).block.Idx → Elt F (win0 w).elt) → Prop)
    (Y : (w : Fin 14) → (win0 w).block.Idx → Elt F (win0 w).elt) (σ : State F) (h : ∀ w, aft w t (Y w) (wins σ w)) (w : Fin 14) :
    (owns (c : Thread nD τ) ((win0 w).stage (cfg0.slots t w)) fullShare (wins σ w) : sProp 𝕄)
      ⊢ iprop(∃ X, ⌜aft w t (Y w) X⌝ ∗ owns (c : Thread nD τ) ((win0 w).stage (cfg0.slots t w)) fullShare X) := by
  iintro H
  iexists wins σ w
  isplitr [H]
  · ipureintro; exact h w
  · iexact H

theorem aft_all (t : Fin cfg0.N) (c : Dev nD)
    (aft : (w : Fin 14) → Fin cfg0.N → ((win0 w).block.Idx → Elt F (win0 w).elt) → ((win0 w).block.Idx → Elt F (win0 w).elt) → Prop)
    (Y : (w : Fin 14) → (win0 w).block.Idx → Elt F (win0 w).elt) (σ : State F) (h : ∀ w, aft w t (Y w) (wins σ w)) :
    (bigSep Finset.univ fun w : Fin 14 => owns (c : Thread nD τ) ((win0 w).stage (cfg0.slots t w)) fullShare (wins σ w) : sProp 𝕄)
      ⊢ bigSep Finset.univ fun w : Fin 14 => iprop(∃ X, ⌜aft w t (Y w) X⌝ ∗ owns (c : Thread nD τ) ((win0 w).stage (cfg0.slots t w)) fullShare X) :=
  bigSep_mono fun w _ => aft_intro t c aft Y σ h w

/-- A body obligation from the statement about `run`. -/
theorem obligation (m : (ℓ : Loc nD τ sig) → Buf (Elt F) ℓ)
    (aft : (w : Fin 14) → Fin cfg0.N → ((win0 w).block.Idx → Elt F (win0 w).elt) → ((win0 w).block.Idx → Elt F (win0 w).elt) → Prop)
    (I : ℕ → Scr F → Prop) (𝒱 : Variants) (c : Dev nD)
    (H : ∀ (t : Fin cfg0.N) (σ : State F), (∀ w, (rdat m aft I c).Finds w t (wins σ w)) → I t.val σ.scr →
      I (t.val + 1) (run (body (grid0.coords t 0)) σ).2.scr
        ∧ ∀ w, aft w t (wins σ w) (wins (run (body (grid0.coords t 0)) σ).2 w)) :
    (rdat m aft I c).BodyObligation defs₀ 𝒱 () Set.univ := by
  intro t Y hY
  have e : (defs₀ .tc cfg0.body (cfg0.bodyArgs t (cfg0.slots t)) : Prog (TpuEff nD τ sig (Elt F) Λ₀ .tc) PUnit)
      = toProg (arg t) (harg t) (body (grid0.coords t 0)) := by
    rw [← body_eq]; unfold defs₀; rw [Defs.onTc_tc]
  refine triple_restated (P := iprop((∃ s : Scr F, ⌜I t.val s⌝ ∗ scrOwn c s) ∗ (∃ r, prngReg c r) ∗ (rdat m aft I c).owesAt () t.castSucc
      ∗ (bigSep Finset.univ fun w => owns (c : Thread nD τ) ((win0 w).stage (cfg0.slots t w)) fullShare (Y w))))
    (Q := fun _ => iprop((∃ s : Scr F, ⌜I (t.val + 1) s⌝ ∗ scrOwn c s) ∗ (∃ r, prngReg c r) ∗ (rdat m aft I c).owesAt () t.succ
      ∗ (bigSep Finset.univ fun w => iprop(∃ X, ⌜aft w t (Y w) X⌝ ∗ owns (c : Thread nD τ) ((win0 w).stage (cfg0.slots t w)) fullShare X))))
    (W := Idealize.SL.Sem.wp frame (wpE defs₀ 𝒱 (c : Thread nD τ) none) Set.univ (toProg (arg t) (harg t) (body (grid0.coords t 0))))
    ?_ (congrArg _ e.symm) ?_ ?_
  · iintro ⟨⟨%s, %hs, S⟩, R, O, W⟩
    have h := H t (join Y s) (fun w => by rw [wins_join]; exact hY w) hs
    iapply (sound 𝒱 c Set.univ (arg t) (harg t) (body (grid0.coords t 0)) _ (join Y s))
    generalize (run (body (grid0.coords t 0)) (join Y s)).2 = σ' at h ⊢
    isplitl [S W]
    · iapply (bufs_of t c (join Y s))
      rw [wins_join]
      isplitl [W]
      · iexact W
      · iexact S
    · iintro K
      ihave K := of_bufs t c σ' $$ K
      icases K with ⟨W, S⟩
      isplitl [S]
      · iexists σ'.scr
        isplitr [S]
        · ipureintro; exact h.1
        · iexact S
      isplitl [R]; · iexact R
      isplitl [O]; · iexact O
      iapply (aft_all t c aft Y σ' (fun w => by have := h.2 w; rw [wins_join] at this; exact this))
      iexact W
  · show iprop(((∃ s : Scr F, ⌜I t.val s⌝ ∗ scrOwn c s) ∗ ∃ r, prngReg c r) ∗ (rdat m aft I c).owesAt () t.castSucc
      ∗ (bigSep Finset.univ fun w => owns (c : Thread nD τ) ((win0 w).stage (cfg0.slots t w)) fullShare (Y w))) ⊢ _
    iintro ⟨⟨S, R⟩, O, W⟩
    isplitl [S]; · iexact S
    isplitl [R]; · iexact R
    isplitl [O]; · iexact O
    iexact W
  · intro _
    show _ ⊢ iprop(((∃ s : Scr F, ⌜I (t.val + 1) s⌝ ∗ scrOwn c s) ∗ ∃ r, prngReg c r) ∗ (rdat m aft I c).owesAt () t.succ
      ∗ (bigSep Finset.univ fun w => iprop(∃ X, ⌜aft w t (Y w) X⌝ ∗ owns (c : Thread nD τ) ((win0 w).stage (cfg0.slots t w)) fullShare X)))
    iintro ⟨S, R, O, W⟩
    isplitl [S R]
    · isplitl [S]; · iexact S
      iexact R
    isplitl [O]; · iexact O
    iexact W

theorem scopedRest_some (c : Dev nD) :
    (Pipeline.scopedRest (Ix := Unit) (Name := ℕ) (U := UR sig nD τ) (Lvl := ℕ) (Val := Elt F) spec0 c : sProp 𝕄)
      ⊢ iprop(∃ s : Scr F, scrOwn c s) := by
  rw [scopedRest0_eq]
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iexists (⟨f0, f1, f2, f3, f4, f5, f6, f7⟩ : Scr F)
  unfold scrOwn
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem scopedRest_of (c : Dev nD) (s : Scr F) :
    (scrOwn c s : sProp 𝕄) ⊢ Pipeline.scopedRest (Ix := Unit) (Name := ℕ) (U := UR sig nD τ) (Lvl := ℕ) (Val := Elt F) spec0 c := by
  rw [scopedRest0_eq]
  unfold scrOwn
  iintro ⟨H0, H1, H2, H3, H4, H5, H6, H7⟩
  isplitl [H0]; · iexists s.xs; iexact H0
  isplitl [H1]; · iexists s.z; iexact H1
  isplitl [H2]; · iexists s.cbf; iexact H2
  isplitl [H3]; · iexists s.s1c; iexact H3
  isplitl [H4]; · iexists s.e; iexact H4
  isplitl [H5]; · iexists s.g; iexact H5
  isplitl [H6]; · iexists s.rl; iexact H6
  iexists s.dcp; iexact H7

/-- The program's run, from the statement about `run`. -/
theorem launch (m : (ℓ : Loc nD τ sig) → Buf (Elt F) ℓ) (ρ : Dev nD → PrngReg)
    (aft : Dev nD → (w : Fin 14) → Fin cfg0.N → ((win0 w).block.Idx → Elt F (win0 w).elt) → ((win0 w).block.Idx → Elt F (win0 w).elt) → Prop)
    (I : Dev nD → ℕ → Scr F → Prop) (h0 : ∀ c s, I c 0 s)
    (H : ∀ (c : Dev nD) (t : Fin cfg0.N) (σ : State F), (∀ w, (rdat m (aft c) (I c) c).Finds w t (wins σ w)) → I c t.val σ.scr →
      I c (t.val + 1) (run (body (grid0.coords t 0)) σ).2.scr
        ∧ ∀ w, aft c w t (wins σ w) (wins (run (body (grid0.coords t 0)) σ).2 w)) :
    θ_run defs (onTc (τ := τ) (main (F := F))) ⟨m, fun _ => 0, ρ⟩ (fun r =>
      RDat.FramePost cfg0 (fun c => rdat m (aft c) (I c) c) (V m) r ∧ r.2.sem = fun _ => 0) :=
  RDat.θ_run_frame_track cfgs 0 launch0 defs₀ Variants.none (fun c => rdat m (aft c) (I c) c) m ρ main
    (fun c => obligation m (aft c) (I c) Variants.none c (H c))
    (fun c w => by unfold RDat.share; split <;> rfl) (fun _ _ => rfl) (V m) (hmain m Variants.none) (fun _ _ => rfl)
    (fun c => by
      show iprop(Pipeline.scopedRest spec0 c ∗ ∃ r, prngReg c r) ⊢ iprop((∃ s : Scr F, ⌜I c 0 s⌝ ∗ scrOwn c s) ∗ ∃ r, prngReg c r)
      iintro ⟨S, R⟩
      isplitl [S]
      · ihave S := scopedRest_some c $$ S
        icases S with ⟨%s, S⟩
        iexists s
        isplitr [S]
        · ipureintro; exact h0 c s
        · iexact S
      · iexact R)
    (fun c => by
      show iprop((∃ s : Scr F, ⌜I c (Fin.last cfg0.N).val s⌝ ∗ scrOwn c s) ∗ ∃ r, prngReg c r) ⊢ iprop(Pipeline.scopedRest spec0 c ∗ ∃ r, prngReg c r)
      iintro ⟨⟨%s, %_, S⟩, R⟩
      isplitl [S]
      · iapply (scopedRest_of c s)
        iexact S
      · iexact R)
    _ (fun _ h => h)

/-- The argument arrays end as they were launched. -/
theorem args_kept (m : (ℓ : Loc nD τ sig) → Buf (Elt F) ℓ)
    (aft : Dev nD → (w : Fin 14) → Fin cfg0.N → ((win0 w).block.Idx → Elt F (win0 w).elt) → ((win0 w).block.Idx → Elt F (win0 w).elt) → Prop)
    (I : Dev nD → ℕ → Scr F → Prop) (r : PUnit × MemSt nD τ sig (Elt F))
    (h : RDat.FramePost cfg0 (fun c => rdat m (aft c) (I c) c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   (show r.2.mem _ = (rdat m (aft c) (I c) c).A 2 from Eq.mp (congrFun ((rdat m (aft c) (I c) c).ArrAt_in 2 rfl _) _) ((h c).1 2)).trans (V_main_arg2 m c),
   ((h c).2 main_arg3 (Pipeline.mem_restRefs_of main_arg3 (by decide) (by decide))).trans (V_main_arg3 m c),
   (show r.2.mem _ = (rdat m (aft c) (I c) c).A 3 from Eq.mp (congrFun ((rdat m (aft c) (I c) c).ArrAt_in 3 rfl _) _) ((h c).1 3)).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c)⟩

/-- The program runs, its arguments kept and its semaphores at zero. -/
theorem framed (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨args_kept m (fun _ _ _ _ _ => True) (fun _ _ _ => True) r h.1, h.2⟩)
    (launch m ρ (fun _ _ _ _ _ => True) (fun _ _ _ => True) (fun _ _ => trivial) (fun _ _ _ _ _ => ⟨trivial, fun _ => trivial⟩))

end Cert.K
-- ==== Proof.K.LaunchP.lean ====
/- The launch of the kernel's one region from a statement about `run`: if a step, run on contents the
   pipeline may hand it and scratch in the invariant, leaves contents in the relation stated and scratch in
   the next invariant, then the program runs to the arrays those relations describe. -/
module

public import proofs.«01_k».proof.Proof.K.StepP
public import proofs.«01_k».proof.Proof.K.Launch
public import proofs.«01_k».proof.Proof.Gen.Kernel.Frame
public import Idealize.ShloMosaic.Lib.Pipeline.ArrRel

@[expose] public section

noncomputable section

namespace Cert.K.P

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.Pipeline (RDat Dat)

variable {F : FTy → Type} [FloatOps F]

local notation "𝕄" => MT nD τ sig Unit (Elt F) ℕ (UR sig nD τ) ℕ

/-- The buffers the body is called with at a point. -/
def arg (t : Fin cfg0.N) : (b : B) → Memref sig .tc .vmem (shp b) (elt b)
  | .xc => win0_0.stage (cfg0.slots t 0)
  | .xsc => win0_1.stage (cfg0.slots t 1)
  | .w => win0_2.stage (cfg0.slots t 2)
  | .s2 => win0_3.stage (cfg0.slots t 3)
  | .s1 => win0_4.stage (cfg0.slots t 4)
  | .r => win0_5.stage (cfg0.slots t 5)
  | .c => win0_6.stage (cfg0.slots t 6)
  | .yt => win0_7.stage (cfg0.slots t 7)
  | .rlo => win0_8.stage (cfg0.slots t 8)
  | .ds2 => win0_9.stage (cfg0.slots t 9)
  | .dr => win0_10.stage (cfg0.slots t 10)
  | .dc => win0_11.stage (cfg0.slots t 11)
  | .ds1 => win0_12.stage (cfg0.slots t 12)
  | .cd => win0_13.stage (cfg0.slots t 13)
  | .xs => Memref.whole cc0_scratch0
  | .z => Memref.whole cc0_scratch1
  | .cbf => Memref.whole cc0_scratch2
  | .s1c => Memref.whole cc0_scratch3
  | .e => Memref.whole cc0_scratch4
  | .g => Memref.whole cc0_scratch5
  | .rl => Memref.whole cc0_scratch6
  | .dcp => Memref.whole cc0_scratch7

theorem harg (t : Fin cfg0.N) : ∀ b, (arg t b).IsWhole
  | .xc => hstage0_0 ((cfg0.slots t 0).cast nbuf0_0)
  | .xsc => hstage0_1 ((cfg0.slots t 1).cast nbuf0_1)
  | .w => hstage0_2 ((cfg0.slots t 2).cast nbuf0_2)
  | .s2 => hstage0_3 ((cfg0.slots t 3).cast nbuf0_3)
  | .s1 => hstage0_4 ((cfg0.slots t 4).cast nbuf0_4)
  | .r => hstage0_5 ((cfg0.slots t 5).cast nbuf0_5)
  | .c => hstage0_6 ((cfg0.slots t 6).cast nbuf0_6)
  | .yt => hstage0_7 ((cfg0.slots t 7).cast nbuf0_7)
  | .rlo => hstage0_8 ((cfg0.slots t 8).cast nbuf0_8)
  | .ds2 => hstage0_9 ((cfg0.slots t 9).cast nbuf0_9)
  | .dr => hstage0_10 ((cfg0.slots t 10).cast nbuf0_10)
  | .dc => hstage0_11 ((cfg0.slots t 11).cast nbuf0_11)
  | .ds1 => hstage0_12 ((cfg0.slots t 12).cast nbuf0_12)
  | .cd => hstage0_13 ((cfg0.slots t 13).cast nbuf0_13)
  | .xs => Memref.isWhole_whole _
  | .z => Memref.isWhole_whole _
  | .cbf => Memref.isWhole_whole _
  | .s1c => Memref.isWhole_whole _
  | .e => Memref.isWhole_whole _
  | .g => Memref.isWhole_whole _
  | .rl => Memref.isWhole_whole _
  | .dcp => Memref.isWhole_whole _

theorem body_eq (t : Fin cfg0.N) :
    (bodyAt0 t : Prog (TpuEff nD τ sig (Elt F) Λ₀ .tc) PUnit) = toProg (arg t) (harg t) (body (grid0.coords t 0)) :=
  step (grid0.coords t) (arg t) (harg t)

/-- What the windows' buffers hold in a state. -/
def wins (σ : State F) : (w : Fin 14) → (win0 w).block.Idx → Elt F (win0 w).elt
  | 0 => σ .xc
  | 1 => σ .xsc
  | 2 => σ .w
  | 3 => σ .s2
  | 4 => σ .s1
  | 5 => σ .r
  | 6 => σ .c
  | 7 => σ .yt
  | 8 => σ .rlo
  | 9 => σ .ds2
  | 10 => σ .dr
  | 11 => σ .dc
  | 12 => σ .ds1
  | 13 => σ .cd

/-- The state of windows' contents and scratch contents. -/
def join (Y : (w : Fin 14) → (win0 w).block.Idx → Elt F (win0 w).elt) (s : Scr F) : State F
  | .xc => Y 0
  | .xsc => Y 1
  | .w => Y 2
  | .s2 => Y 3
  | .s1 => Y 4
  | .r => Y 5
  | .c => Y 6
  | .yt => Y 7
  | .rlo => Y 8
  | .ds2 => Y 9
  | .dr => Y 10
  | .dc => Y 11
  | .ds1 => Y 12
  | .cd => Y 13
  | .xs => s.xs
  | .z => s.z
  | .cbf => s.cbf
  | .s1c => s.s1c
  | .e => s.e
  | .g => s.g
  | .rl => s.rl
  | .dcp => s.dcp

/-- The scratch buffers, held at contents. -/
def scrOwn (c : Dev nD) (s : Scr F) : sProp 𝕄 :=
  iprop(((c : Thread nD τ).loc cc0_scratch0 ↦{fullShare} s.xs) ∗ ((c : Thread nD τ).loc cc0_scratch1 ↦{fullShare} s.z) ∗ ((c : Thread nD τ).loc cc0_scratch2 ↦{fullShare} s.cbf) ∗ ((c : Thread nD τ).loc cc0_scratch3 ↦{fullShare} s.s1c) ∗ ((c : Thread nD τ).loc cc0_scratch4 ↦{fullShare} s.e) ∗ ((c : Thread nD τ).loc cc0_scratch5 ↦{fullShare} s.g) ∗ ((c : Thread nD τ).loc cc0_scratch6 ↦{fullShare} s.rl) ∗ ((c : Thread nD τ).loc cc0_scratch7 ↦{fullShare} s.dcp))

/-- The proof's data on one core: the relation each window's contents keep, the scratch in an invariant. -/
def rdat (m : (ℓ : Loc nD τ sig) → Buf (Elt F) ℓ)
    (aft : (w : Fin 14) → Fin cfg0.N → ((win0 w).block.Idx → Elt F (win0 w).elt) → ((win0 w).block.Idx → Elt F (win0 w).elt) → Prop)
    (I : ℕ → Scr F → Prop) (c : Dev nD) : RDat τ (Elt F) Unit ℕ (UR sig nD τ) ℕ cfg0 c where
  A := fun w => V m c (Pipeline.arrRef spec0 w)
  after := aft
  Φ := fun t => iprop((∃ s : Scr F, ⌜I t.val s⌝ ∗ scrOwn c s) ∗ ∃ r, prngReg c r)
  q := fun _ => fullShare
  owed := fun _ => 0

theorem bigSep_B (Φ : B → sProp 𝕄) : bigSep Finset.univ Φ = iprop(Φ .xc ∗ Φ .xsc ∗ Φ .w ∗ Φ .s2 ∗ Φ .s1 ∗ Φ .r ∗ Φ .c ∗ Φ .yt ∗ Φ .rlo ∗ Φ .ds2 ∗ Φ .dr ∗ Φ .dc ∗ Φ .ds1 ∗ Φ .cd ∗ Φ .xs ∗ Φ .z ∗ Φ .cbf ∗ Φ .s1c ∗ Φ .e ∗ Φ .g ∗ Φ .rl ∗ Φ .dcp) :=
  bigSep_univ_eq_bigSepL B.all (by decide) (by decide) Φ

theorem wins_join (Y : (w : Fin 14) → (win0 w).block.Idx → Elt F (win0 w).elt) (s : Scr F) : wins (join Y s) = Y := by
  funext w; fin_cases w <;> rfl

theorem of_bufs (t : Fin cfg0.N) (c : Dev nD) (σ : State F) :
    (bigSep Finset.univ fun b => owns (c : Thread nD τ) (arg t b) fullShare (σ b) : sProp 𝕄)
      ⊢ iprop((bigSep Finset.univ fun w : Fin 14 => owns (c : Thread nD τ) ((win0 w).stage (cfg0.slots t w)) fullShare (wins σ w))
        ∗ scrOwn c σ.scr) := by
  rw [bigSep_B, bigSep_W0]
  iintro ⟨H0, H1, H2, H3, H4, H5, H6, H7, H8, H9, H10, H11, H12, H13, S⟩
  isplitr [S]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · have e : scrOwn (F := F) c σ.scr = iprop(owns (c : Thread nD τ) (Memref.whole cc0_scratch0) fullShare (σ .xs) ∗ owns (c : Thread nD τ) (Memref.whole cc0_scratch1) fullShare (σ .z) ∗ owns (c : Thread nD τ) (Memref.whole cc0_scratch2) fullShare (σ .cbf) ∗ owns (c : Thread nD τ) (Memref.whole cc0_scratch3) fullShare (σ .s1c) ∗ owns (c : Thread nD τ) (Memref.whole cc0_scratch4) fullShare (σ .e) ∗ owns (c : Thread nD τ) (Memref.whole cc0_scratch5) fullShare (σ .g) ∗ owns (c : Thread nD τ) (Memref.whole cc0_scratch6) fullShare (σ .rl) ∗ owns (c : Thread nD τ) (Memref.whole cc0_scratch7) fullShare (σ .dcp)) := by
      simp only [owns_whole]; rfl
    rw [e]
    iexact S

theorem bufs_of (t : Fin cfg0.N) (c : Dev nD) (σ : State F) :
    iprop((bigSep Finset.univ fun w : Fin 14 => owns (c : Thread nD τ) ((win0 w).stage (cfg0.slots t w)) fullShare (wins σ w))
        ∗ scrOwn c σ.scr)
      ⊢ (bigSep Finset.univ fun b => owns (c : Thread nD τ) (arg t b) fullShare (σ b) : sProp 𝕄) := by
  have e : scrOwn (F := F) c σ.scr = iprop(owns (c : Thread nD τ) (Memref.whole cc0_scratch0) fullShare (σ .xs) ∗ owns (c : Thread nD τ) (Memref.whole cc0_scratch1) fullShare (σ .z) ∗ owns (c : Thread nD τ) (Memref.whole cc0_scratch2) fullShare (σ .cbf) ∗ owns (c : Thread nD τ) (Memref.whole cc0_scratch3) fullShare (σ .s1c) ∗ owns (c : Thread nD τ) (Memref.whole cc0_scratch4) fullShare (σ .e) ∗ owns (c : Thread nD τ) (Memref.whole cc0_scratch5) fullShare (σ .g) ∗ owns (c : Thread nD τ) (Memref.whole cc0_scratch6) fullShare (σ .rl) ∗ owns (c : Thread nD τ) (Memref.whole cc0_scratch7) fullShare (σ .dcp)) := by
    simp only [owns_whole]; rfl
  rw [bigSep_B, bigSep_W0, e]
  iintro ⟨⟨H0, H1, H2, H3, H4, H5, H6, H7, H8, H9, H10, H11, H12, H13⟩, S⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact S

theorem aft_intro (t : Fin cfg0.N) (c : Dev nD)
    (aft : (w : Fin 14) → Fin cfg0.N → ((win0 w).block.Idx → Elt F (win0 w).elt) → ((win0 w).block.Idx → Elt F (win0 w).elt) → Prop)
    (Y : (w : Fin 14) → (win0 w).block.Idx → Elt F (win0 w).elt) (σ : State F) (h : ∀ w, aft w t (Y w) (wins σ w)) (w : Fin 14) :
    (owns (c : Thread nD τ) ((win0 w).stage (cfg0.slots t w)) fullShare (wins σ w) : sProp 𝕄)
      ⊢ iprop(∃ X, ⌜aft w t (Y w) X⌝ ∗ owns (c : Thread nD τ) ((win0 w).stage (cfg0.slots t w)) fullShare X) := by
  iintro H
  iexists wins σ w
  isplitr [H]
  · ipureintro; exact h w
  · iexact H

theorem aft_all (t : Fin cfg0.N) (c : Dev nD)
    (aft : (w : Fin 14) → Fin cfg0.N → ((win0 w).block.Idx → Elt F (win0 w).elt) → ((win0 w).block.Idx → Elt F (win0 w).elt) → Prop)
    (Y : (w : Fin 14) → (win0 w).block.Idx → Elt F (win0 w).elt) (σ : State F) (h : ∀ w, aft w t (Y w) (wins σ w)) :
    (bigSep Finset.univ fun w : Fin 14 => owns (c : Thread nD τ) ((win0 w).stage (cfg0.slots t w)) fullShare (wins σ w) : sProp 𝕄)
      ⊢ bigSep Finset.univ fun w : Fin 14 => iprop(∃ X, ⌜aft w t (Y w) X⌝ ∗ owns (c : Thread nD τ) ((win0 w).stage (cfg0.slots t w)) fullShare X) :=
  bigSep_mono fun w _ => aft_intro t c aft Y σ h w

/-- A body obligation from the statement about `run`. -/
theorem obligation (m : (ℓ : Loc nD τ sig) → Buf (Elt F) ℓ)
    (aft : (w : Fin 14) → Fin cfg0.N → ((win0 w).block.Idx → Elt F (win0 w).elt) → ((win0 w).block.Idx → Elt F (win0 w).elt) → Prop)
    (I : ℕ → Scr F → Prop) (𝒱 : Variants) (c : Dev nD)
    (H : ∀ (t : Fin cfg0.N) (σ : State F), (∀ w, (rdat m aft I c).Finds w t (wins σ w)) → I t.val σ.scr →
      I (t.val + 1) (run (body (grid0.coords t 0)) σ).2.scr
        ∧ ∀ w, aft w t (wins σ w) (wins (run (body (grid0.coords t 0)) σ).2 w)) :
    (rdat m aft I c).BodyObligation defs₀ 𝒱 () Set.univ := by
  intro t Y hY
  have e : (defs₀ .tc cfg0.body (cfg0.bodyArgs t (cfg0.slots t)) : Prog (TpuEff nD τ sig (Elt F) Λ₀ .tc) PUnit)
      = toProg (arg t) (harg t) (body (grid0.coords t 0)) := by
    rw [← body_eq]; unfold defs₀; rw [Defs.onTc_tc]
  refine triple_restated (P := iprop((∃ s : Scr F, ⌜I t.val s⌝ ∗ scrOwn c s) ∗ (∃ r, prngReg c r) ∗ (rdat m aft I c).owesAt () t.castSucc
      ∗ (bigSep Finset.univ fun w => owns (c : Thread nD τ) ((win0 w).stage (cfg0.slots t w)) fullShare (Y w))))
    (Q := fun _ => iprop((∃ s : Scr F, ⌜I (t.val + 1) s⌝ ∗ scrOwn c s) ∗ (∃ r, prngReg c r) ∗ (rdat m aft I c).owesAt () t.succ
      ∗ (bigSep Finset.univ fun w => iprop(∃ X, ⌜aft w t (Y w) X⌝ ∗ owns (c : Thread nD τ) ((win0 w).stage (cfg0.slots t w)) fullShare X))))
    (W := Idealize.SL.Sem.wp frame (wpE defs₀ 𝒱 (c : Thread nD τ) none) Set.univ (toProg (arg t) (harg t) (body (grid0.coords t 0))))
    ?_ (congrArg _ e.symm) ?_ ?_
  · iintro ⟨⟨%s, %hs, S⟩, R, O, W⟩
    have h := H t (join Y s) (fun w => by rw [wins_join]; exact hY w) hs
    iapply (sound 𝒱 c Set.univ (arg t) (harg t) (body (grid0.coords t 0)) _ (join Y s))
    generalize (run (body (grid0.coords t 0)) (join Y s)).2 = σ' at h ⊢
    isplitl [S W]
    · iapply (bufs_of t c (join Y s))
      rw [wins_join]
      isplitl [W]
      · iexact W
      · iexact S
    · iintro K
      ihave K := of_bufs t c σ' $$ K
      icases K with ⟨W, S⟩
      isplitl [S]
      · iexists σ'.scr
        isplitr [S]
        · ipureintro; exact h.1
        · iexact S
      isplitl [R]; · iexact R
      isplitl [O]; · iexact O
      iapply (aft_all t c aft Y σ' (fun w => by have := h.2 w; rw [wins_join] at this; exact this))
      iexact W
  · show iprop(((∃ s : Scr F, ⌜I t.val s⌝ ∗ scrOwn c s) ∗ ∃ r, prngReg c r) ∗ (rdat m aft I c).owesAt () t.castSucc
      ∗ (bigSep Finset.univ fun w => owns (c : Thread nD τ) ((win0 w).stage (cfg0.slots t w)) fullShare (Y w))) ⊢ _
    iintro ⟨⟨S, R⟩, O, W⟩
    isplitl [S]; · iexact S
    isplitl [R]; · iexact R
    isplitl [O]; · iexact O
    iexact W
  · intro _
    show _ ⊢ iprop(((∃ s : Scr F, ⌜I (t.val + 1) s⌝ ∗ scrOwn c s) ∗ ∃ r, prngReg c r) ∗ (rdat m aft I c).owesAt () t.succ
      ∗ (bigSep Finset.univ fun w => iprop(∃ X, ⌜aft w t (Y w) X⌝ ∗ owns (c : Thread nD τ) ((win0 w).stage (cfg0.slots t w)) fullShare X)))
    iintro ⟨S, R, O, W⟩
    isplitl [S R]
    · isplitl [S]; · iexact S
      iexact R
    isplitl [O]; · iexact O
    iexact W

theorem scopedRest_some (c : Dev nD) :
    (Pipeline.scopedRest (Ix := Unit) (Name := ℕ) (U := UR sig nD τ) (Lvl := ℕ) (Val := Elt F) spec0 c : sProp 𝕄)
      ⊢ iprop(∃ s : Scr F, scrOwn c s) := by
  rw [scopedRest0_eq]
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iexists (⟨f0, f1, f2, f3, f4, f5, f6, f7⟩ : Scr F)
  unfold scrOwn
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem scopedRest_of (c : Dev nD) (s : Scr F) :
    (scrOwn c s : sProp 𝕄) ⊢ Pipeline.scopedRest (Ix := Unit) (Name := ℕ) (U := UR sig nD τ) (Lvl := ℕ) (Val := Elt F) spec0 c := by
  rw [scopedRest0_eq]
  unfold scrOwn
  iintro ⟨H0, H1, H2, H3, H4, H5, H6, H7⟩
  isplitl [H0]; · iexists s.xs; iexact H0
  isplitl [H1]; · iexists s.z; iexact H1
  isplitl [H2]; · iexists s.cbf; iexact H2
  isplitl [H3]; · iexists s.s1c; iexact H3
  isplitl [H4]; · iexists s.e; iexact H4
  isplitl [H5]; · iexists s.g; iexact H5
  isplitl [H6]; · iexists s.rl; iexact H6
  iexists s.dcp; iexact H7

/-- The program's run, from the statement about `run`. -/
theorem launch (m : (ℓ : Loc nD τ sig) → Buf (Elt F) ℓ) (ρ : Dev nD → PrngReg)
    (aft : Dev nD → (w : Fin 14) → Fin cfg0.N → ((win0 w).block.Idx → Elt F (win0 w).elt) → ((win0 w).block.Idx → Elt F (win0 w).elt) → Prop)
    (I : Dev nD → ℕ → Scr F → Prop) (h0 : ∀ c s, I c 0 s)
    (H : ∀ (c : Dev nD) (t : Fin cfg0.N) (σ : State F), (∀ w, (rdat m (aft c) (I c) c).Finds w t (wins σ w)) → I c t.val σ.scr →
      I c (t.val + 1) (run (body (grid0.coords t 0)) σ).2.scr
        ∧ ∀ w, aft c w t (wins σ w) (wins (run (body (grid0.coords t 0)) σ).2 w)) :
    θ_run defs (onTc (τ := τ) (main (F := F))) ⟨m, fun _ => 0, ρ⟩ (fun r =>
      RDat.FramePost cfg0 (fun c => rdat m (aft c) (I c) c) (V m) r ∧ r.2.sem = fun _ => 0) :=
  RDat.θ_run_frame_track cfgs 0 launch0 defs₀ Variants.none (fun c => rdat m (aft c) (I c) c) m ρ main
    (fun c => obligation m (aft c) (I c) Variants.none c (H c))
    (fun c w => by unfold RDat.share; split <;> rfl) (fun _ _ => rfl) (V m) (hmain m Variants.none) (fun _ _ => rfl)
    (fun c => by
      show iprop(Pipeline.scopedRest spec0 c ∗ ∃ r, prngReg c r) ⊢ iprop((∃ s : Scr F, ⌜I c 0 s⌝ ∗ scrOwn c s) ∗ ∃ r, prngReg c r)
      iintro ⟨S, R⟩
      isplitl [S]
      · ihave S := scopedRest_some c $$ S
        icases S with ⟨%s, S⟩
        iexists s
        isplitr [S]
        · ipureintro; exact h0 c s
        · iexact S
      · iexact R)
    (fun c => by
      show iprop((∃ s : Scr F, ⌜I c (Fin.last cfg0.N).val s⌝ ∗ scrOwn c s) ∗ ∃ r, prngReg c r) ⊢ iprop(Pipeline.scopedRest spec0 c ∗ ∃ r, prngReg c r)
      iintro ⟨⟨%s, %_, S⟩, R⟩
      isplitl [S]
      · iapply (scopedRest_of c s)
        iexact S
      · iexact R)
    _ (fun _ h => h)

/-- The argument arrays end as they were launched. -/
theorem args_kept (m : (ℓ : Loc nD τ sig) → Buf (Elt F) ℓ)
    (aft : Dev nD → (w : Fin 14) → Fin cfg0.N → ((win0 w).block.Idx → Elt F (win0 w).elt) → ((win0 w).block.Idx → Elt F (win0 w).elt) → Prop)
    (I : Dev nD → ℕ → Scr F → Prop) (r : PUnit × MemSt nD τ sig (Elt F))
    (h : RDat.FramePost cfg0 (fun c => rdat m (aft c) (I c) c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   (show r.2.mem _ = (rdat m (aft c) (I c) c).A 2 from Eq.mp (congrFun ((rdat m (aft c) (I c) c).ArrAt_in 2 rfl _) _) ((h c).1 2)).trans (V_main_arg2 m c),
   ((h c).2 main_arg3 (Pipeline.mem_restRefs_of main_arg3 (by decide) (by decide))).trans (V_main_arg3 m c),
   (show r.2.mem _ = (rdat m (aft c) (I c) c).A 3 from Eq.mp (congrFun ((rdat m (aft c) (I c) c).ArrAt_in 3 rfl _) _) ((h c).1 3)).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c)⟩

/-- The program runs, its arguments kept and its semaphores at zero. -/
theorem framed (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨args_kept m (fun _ _ _ _ _ => True) (fun _ _ _ => True) r h.1, h.2⟩)
    (launch m ρ (fun _ _ _ _ _ => True) (fun _ _ _ => True) (fun _ _ => trivial) (fun _ _ _ _ _ => ⟨trivial, fun _ => trivial⟩))

end Cert.K.P
-- ==== Proof.K.Pay.lean ====
/- What the payloads of the body compute over the extended reals, element by element. -/
module

public import proofs.«01_k».proof.Proof.K.Body
public import Idealize.ShloMosaic.Lib.Pointwise
public import Idealize.ShloMosaic.PureOps.Ideal.Laws

@[expose] public section

noncomputable section

namespace Cert.K

open Idealize.ShloMosaic Idealize.SL.Sem
open Cert.KernelIdeal Cert.KernelIdeal.Facts₀

/-! ## Scalars -/

/-- The quotient the codes round. -/
def zf (w s1 s2 r c : EReal) : EReal := Ideal.div w (s1 * Ideal.exp (s2 + r + c))
/-- Rounded and clipped to [-8, 7]. -/
def qf (z : EReal) : EReal :=
  min ((((7#32 : BitVec 32).toInt : ℤ) : ℝ) : EReal) (max ((((4294967288#32 : BitVec 32).toInt : ℤ) : ℝ) : EReal)
    (Ideal.liftRound Ideal.roundHalfEven z))
/-- The quotient inside the clipping range, zero elsewhere. -/
def mf (z : EReal) : EReal :=
  Scalar.select (IntOp.andi (BitVec.ofBool (decide (Ideal.ofBits .f32 0xC1080000#32 ≤ z)))
    (BitVec.ofBool (decide (z < Ideal.ofBits .f32 0x40F00000#32)))) z 0

theorem spread_at (x : Vec Ideal S1x128 .f32) (a b : Fin 128) : spread x (ix2 a b) = x (ix2 0 a) := by
  pointwise [spread]

theorem zval_at (s1 r s2 : FVec Ideal S128x128 .f32) (c : Vec Ideal S1x128 .f32) (w : FVec Ideal S128x128 .f32) (a b : Fin 128) :
    zval s1 r s2 c w (ix2 a b) = zf (w (ix2 a b)) (s1 (ix2 a b)) (s2 (ix2 a b)) (r (ix2 a b)) (c (ix2 0 b)) := by
  pointwise [zval, zf]

theorem rclip_at (z : FVec Ideal S128x128 .f32) (a b : Fin 128) : rclip z (ix2 a b) = qf (z (ix2 a b)) := by
  pointwise [rclip, qf]

theorem up3_at (z : FVec Ideal S128x128 .f32) (o : Fin 1) (a b : Fin 128) : up3 z (ix3 o a b) = z (ix2 a b) := by
  pointwise [up3]
theorem cbfv_at (z : FVec Ideal S128x128 .f32) (o : Fin 1) (a b : Fin 128) : cbfv z (ix3 o a b) = qf (z (ix2 a b)) := by
  pointwise [cbfv, ← rclip_at]
theorem down_at (z : Vec Ideal S1x128x128 .f32) (a b : Fin 128) : down z (ix2 a b) = z (ix3 0 a b) := by
  pointwise [down]

theorem mzv_at (z : FVec Ideal S128x128 .f32) (a b : Fin 128) : mzv z (ix2 a b) = mf (z (ix2 a b)) := by
  pointwise [mzv, mf]

theorem ds2v_at (s1 z g : FVec Ideal S128x128 .f32) (a b : Fin 128) :
    ds2v s1 z g (ix2 a b) = (0 - s1 (ix2 a b)) * mf (z (ix2 a b)) * g (ix2 a b) := by
  pointwise [ds2v, mzv_at]
theorem ds1v_at (z g : FVec Ideal S128x128 .f32) (a b : Fin 128) :
    ds1v z g (ix2 a b) = g (ix2 a b) * (qf (z (ix2 a b)) - mf (z (ix2 a b))) := by
  pointwise [ds1v, mzv_at, rclip_at]

theorem rowsum_at (x : FVec Ideal S128x128 .f32) (o : Fin 1) (a : Fin 128) : rowsum x (ix2 o a) = ∑ k : Fin 128, x (ix2 a k) := by
  pointwise [rowsum]

theorem dcv_at (first : BitVec 1) (d : FVec Ideal S128x128 .f32) (old : Vec Ideal S8x128 .f32) (a : Fin 8) (b : Fin 128) :
    dcv first d old (ix2 a b) = Scalar.select first 0 (old (ix2 a b)) + ∑ k : Fin 16, d (ix2 ⟨k.val * 8 + a.val, by omega⟩ b) := by
  pointwise [dcv]

theorem gv_at (keep : BitVec 1) (e : Vec Ideal S1x512x1536 .bf16) (xs : Vec Ideal S1536x1536 .bf16) (old : Vec Ideal S1x512x1536 .f32)
    (o : Fin 1) (a : Fin 512) (b : Fin 1536) :
    gv keep e xs old (ix3 o a b) = Scalar.select keep (old (ix3 0 a b)) 0 + ∑ k : Fin 1536, e (ix3 0 a k) * xs (ix2 k b) := by
  pointwise [gv]

theorem resv_at (xs : Vec Ideal S256x1536 .bf16) (cbf : Vec Ideal S1x512x1536 .bf16) (yt : Vec Ideal S256x512 .bf16)
    (s1c : Vec Ideal S1x512x128 .f32) (a : Fin 512) (b : Fin 256) :
    resv xs cbf yt s1c (ix2 a b) = (∑ k : Fin 1536, cbf (ix3 0 a k) * xs (ix2 b k)) * s1c (ix3 0 a ⟨b.val % 128, by omega⟩) - yt (ix2 b a) := by
  pointwise [resv]
  split
  · simp only [Nat.mod_eq_of_lt ‹b.val < 128›]
  · have : b.val - 128 = b.val % 128 := by omega
    simp only [this]

theorem ev_at (res : FVec Ideal S512x256 .f32) (o : Fin 1) (a : Fin 512) (b : Fin 256) :
    ev res (ix3 o a b) = res (ix2 a b) * Ideal.ofBits .f32 0x33AAAAAB#32 := by
  pointwise [ev]

theorem rlv_at (first : BitVec 1) (old : Vec Ideal S1x8x256 .f32) (res : FVec Ideal S512x256 .f32) (o : Fin 1) (a : Fin 8) (b : Fin 256) :
    rlv first old res (ix3 o a b) = Scalar.select first 0 (old (ix3 0 a b))
      + ∑ k : Fin 64, res (ix2 ⟨k.val * 8 + a.val, by omega⟩ b) * res (ix2 ⟨k.val * 8 + a.val, by omega⟩ b) := by
  pointwise [rlv]

theorem dcfin_at (x : Vec Ideal S8x1536 .f32) (o : Fin 1) (b : Fin 1536) : dcfin x (ix2 o b) = ∑ k : Fin 8, x (ix2 k b) := by
  pointwise [dcfin]

theorem rlfin_at (x : Vec Ideal S4x8x1536 .f32) (a : Fin 4) (b : Fin 1536) :
    rlfin x (ix2 a b) = (∑ k : Fin 8, x (ix3 a k b)) * Ideal.ofBits .f32 0x39800000#32 := by
  pointwise [rlfin]

theorem gidx_at : ∀ (j : Fin 12) (a b : Fin 128), (gidx j.val (ix2 a b)).toNat = 4 * j.val + b.val / 32 := by
  intro j a b
  pointwise [gidx, lanes]
  revert j b
  decide +kernel

theorem deq_at (x : Vec Ideal S128x48 .f32) (j : Fin 12) (y : Vec Ideal S128x128 .fp8e4m3) (a b : Fin 128) :
    deq (scales x) j.val y (ix2 a b) = y (ix2 a b) * x (ix2 a ⟨4 * j.val + b.val / 32, by omega⟩) := by
  have hj := j.isLt
  have hb := b.isLt
  have e : (gidx j.val (ix2 a b)).toNat % 128 = 4 * j.val + b.val / 32 := by rw [gidx_at]; omega
  pointwise [deq, scales]
  rw [dif_pos (by omega)]
  simp only [e]

/-- The code of a quotient, as a byte. -/
def cf (z : EReal) : BitVec 8 := FloatOps.fptosi (F := Ideal) (φ := .f32) 8 (qf z)

theorem code_at (z : FVec Ideal S128x128 .f32) (a b : Fin 128) : fptosi 8 (rclip z) (ix2 a b) = cf (z (ix2 a b)) := by
  rw [cf, ← rclip_at]; rfl

end Cert.K
-- ==== Proof.K.Run.lean ====
/- Running a piece of the body: what a box write leaves at an index, and what a loop over blocks keeps. -/
module

public import proofs.«01_k».proof.Proof.K.Pay

@[expose] public section

noncomputable section

namespace Cert.K

open Idealize.ShloMosaic Idealize.SL.Sem
open Cert.KernelIdeal Cert.KernelIdeal.Facts₀

variable {F : FTy → Type} [FloatOps F]

theorem run_bind {α β : Type} (p : Prog (SEff F) α) (f : α → Prog (SEff F) β) (σ : State F) :
    run (p.bind f) σ = run (f (run p σ).1) (run p σ).2 := by
  induction p generalizing σ with
  | ret a => rfl
  | op e k ih => exact ih _ _

/-- What holds before the first block and is carried over each holds after the last. -/
theorem run_seqs12 (f : Fin 12 → Prog (SEff F) PUnit) (I : ℕ → State F → Prop) (σ : State F) (h0 : I 0 σ)
    (h : ∀ (j : Fin 12) σ, I j.val σ → I (j.val + 1) (run (f j) σ).2) : I 12 (run (seqs f ten2) σ).2 := by
  simp only [ten2, seqs, run_bind, run]
  exact h 11 _ (h 10 _ (h 9 _ (h 8 _ (h 7 _ (h 6 _ (h 5 _ (h 4 _ (h 3 _ (h 2 _ (h 1 _ (h 0 _ h0)))))))))))

theorem run_seqs6 (f : Fin 6 → Prog (SEff F) PUnit) (I : ℕ → State F → Prop) (σ : State F) (h0 : I 0 σ)
    (h : ∀ (j : Fin 6) σ, I j.val σ → I (j.val + 1) (run (f j) σ).2) : I 6 (run (seqs f six) σ).2 := by
  simp only [six, seqs, run_bind, run]
  exact h 5 _ (h 4 _ (h 3 _ (h 2 _ (h 1 _ (h 0 _ h0)))))

/-- A box write, at an index: the written value inside the box, the old one outside. -/
theorem ov2 {α : Type} {A B m n o p : ℕ} {off : Fin 2 → ℕ} (ho : off = ![o, p])
    (inb : ∀ a, off a + (![m, n] : Fin 2 → ℕ) a ≤ (⟨2, ![A, B]⟩ : Shape).size a)
    (f : (⟨2, ![A, B]⟩ : Shape).Idx → α) (w : (⟨2, ![m, n]⟩ : Shape).Idx → α) (a : Fin A) (b : Fin B) :
    (Rect.unit (s := ⟨2, ![A, B]⟩) off ![m, n] inb).overlay f w (ix2 a b)
      = if h : (o ≤ a.val ∧ a.val < o + m) ∧ (p ≤ b.val ∧ b.val < p + n)
        then w (ix2 ⟨a.val - o, by omega⟩ ⟨b.val - p, by omega⟩) else f (ix2 a b) := by
  subst ho
  split
  · rename_i h
    have e : ix2 a b = (Rect.unit (s := ⟨2, ![A, B]⟩) ![o, p] ![m, n] inb).emb
        (ix2 (n0 := m) (n1 := n) ⟨a.val - o, by omega⟩ ⟨b.val - p, by omega⟩) := by
      funext i; apply Fin.ext
      match i with
      | ⟨0, _⟩ => show a.val = o + 1 * (a.val - o); omega
      | ⟨1, _⟩ => show b.val = p + 1 * (b.val - p); omega
    rw [e]
    exact Rect.overlay_emb _ f _ _
  · rename_i h
    refine Rect.overlay_of_not_mem _ f _ fun hm => h ?_
    have := Rect.mem_set_unit.1 hm
    exact ⟨this 0, this 1⟩

theorem ov3 {α : Type} {A B C l m n o p q : ℕ} {off : Fin 3 → ℕ} (ho : off = ![o, p, q])
    (inb : ∀ a, off a + (![l, m, n] : Fin 3 → ℕ) a ≤ (⟨3, ![A, B, C]⟩ : Shape).size a)
    (f : (⟨3, ![A, B, C]⟩ : Shape).Idx → α) (w : (⟨3, ![l, m, n]⟩ : Shape).Idx → α) (a : Fin A) (b : Fin B) (c : Fin C) :
    (Rect.unit (s := ⟨3, ![A, B, C]⟩) off ![l, m, n] inb).overlay f w (ix3 a b c)
      = if h : (o ≤ a.val ∧ a.val < o + l) ∧ (p ≤ b.val ∧ b.val < p + m) ∧ (q ≤ c.val ∧ c.val < q + n)
        then w (ix3 ⟨a.val - o, by omega⟩ ⟨b.val - p, by omega⟩ ⟨c.val - q, by omega⟩) else f (ix3 a b c) := by
  subst ho
  split
  · rename_i h
    have e : ix3 a b c = (Rect.unit (s := ⟨3, ![A, B, C]⟩) ![o, p, q] ![l, m, n] inb).emb
        (ix3 (n0 := l) (n1 := m) (n2 := n) ⟨a.val - o, by omega⟩ ⟨b.val - p, by omega⟩ ⟨c.val - q, by omega⟩) := by
      funext i; apply Fin.ext
      match i with
      | ⟨0, _⟩ => show a.val = o + 1 * (a.val - o); omega
      | ⟨1, _⟩ => show b.val = p + 1 * (b.val - p); omega
      | ⟨2, _⟩ => show c.val = q + 1 * (c.val - q); omega
    rw [e]
    exact Rect.overlay_emb _ f _ _
  · rename_i h
    refine Rect.overlay_of_not_mem _ f _ fun hm => h ?_
    have := Rect.mem_set_unit.1 hm
    exact ⟨this 0, this 1, this 2⟩

/-- What a box load reads at an index. -/
def rd {s : Shape} {α : Type} (f : s.Idx → α) (off size : Fin s.rank → ℕ) (inb : ∀ a, off a + size a ≤ s.size a) :
    (⟨s.rank, size⟩ : Shape).Idx → α := fun x => f ((Rect.unit (s := s) off size inb).idx x)

theorem rd2 {α : Type} {A B m n o p : ℕ} {off : Fin 2 → ℕ} (ho : off = ![o, p])
    (inb : ∀ a, off a + (![m, n] : Fin 2 → ℕ) a ≤ (⟨2, ![A, B]⟩ : Shape).size a)
    (f : (⟨2, ![A, B]⟩ : Shape).Idx → α) (G : ℕ → ℕ → α) (a : Fin m) (b : Fin n)
    (h : ∀ (a' : Fin A) (b' : Fin B), a'.val = o + a.val → b'.val = p + b.val → f (ix2 a' b') = G a'.val b'.val) :
    rd (s := ⟨2, ![A, B]⟩) f off ![m, n] inb (ix2 a b) = G (o + a.val) (p + b.val) := by
  subst ho
  have h0 := inb 0
  have h1 := inb 1
  have ea : o + a.val < A := by have : o + m ≤ A := h0; omega
  have eb : p + b.val < B := by have : p + n ≤ B := h1; omega
  rw [← h ⟨_, ea⟩ ⟨_, eb⟩ rfl rfl]
  refine congrArg f (funext fun i => Fin.ext ?_)
  match i with
  | ⟨0, _⟩ => show o + 1 * a.val = o + a.val; omega
  | ⟨1, _⟩ => show p + 1 * b.val = p + b.val; omega

theorem rd3 {α : Type} {A B C l m n o p q : ℕ} {off : Fin 3 → ℕ} (ho : off = ![o, p, q])
    (inb : ∀ a, off a + (![l, m, n] : Fin 3 → ℕ) a ≤ (⟨3, ![A, B, C]⟩ : Shape).size a)
    (f : (⟨3, ![A, B, C]⟩ : Shape).Idx → α) (G : ℕ → ℕ → ℕ → α) (a : Fin l) (b : Fin m) (c : Fin n)
    (h : ∀ (a' : Fin A) (b' : Fin B) (c' : Fin C), a'.val = o + a.val → b'.val = p + b.val → c'.val = q + c.val →
      f (ix3 a' b' c') = G a'.val b'.val c'.val) :
    rd (s := ⟨3, ![A, B, C]⟩) f off ![l, m, n] inb (ix3 a b c) = G (o + a.val) (p + b.val) (q + c.val) := by
  subst ho
  have ea : o + a.val < A := by have : o + l ≤ A := inb 0; omega
  have eb : p + b.val < B := by have : p + m ≤ B := inb 1; omega
  have ec : q + c.val < C := by have : q + n ≤ C := inb 2; omega
  rw [← h ⟨_, ea⟩ ⟨_, eb⟩ ⟨_, ec⟩ rfl rfl rfl]
  refine congrArg f (funext fun i => Fin.ext ?_)
  match i with
  | ⟨0, _⟩ => show o + 1 * a.val = o + a.val; omega
  | ⟨1, _⟩ => show p + 1 * b.val = p + b.val; omega
  | ⟨2, _⟩ => show q + 1 * c.val = q + c.val; omega

/-! ## The arguments, and what is computed of them, at plain numbers -/

/-- The arguments as functions of row and column numbers. -/
structure Args where
  X : ℕ → ℕ → EReal
  XS : ℕ → ℕ → EReal
  W : ℕ → ℕ → EReal
  S2 : ℕ → ℕ → EReal
  S1 : ℕ → EReal
  R : ℕ → EReal
  C : ℕ → EReal
  YT : ℕ → ℕ → EReal

/-- The dequantised tokens. -/
def Args.xs (A : Args) (t i : ℕ) : EReal := A.X t i * A.XS t (i / 32)
/-- The quotient the codes round. -/
def Args.Z (A : Args) (o i : ℕ) : EReal := zf (A.W o i) (A.S1 o) (A.S2 o i) (A.R o) (A.C i)
/-- The codes as numbers. -/
def Args.Q (A : Args) (o i : ℕ) : EReal := qf (A.Z o i)
/-- The residual. -/
def Args.res (A : Args) (o t : ℕ) : EReal := (∑ k ∈ Finset.range 1536, A.Q o k * A.xs t k) * A.S1 o - A.YT t o
/-- The scaled residual. -/
def Args.E (A : Args) (o t : ℕ) : EReal := A.res o t * Ideal.ofBits .f32 0x33AAAAAB#32
/-- The gradient by the weights, summed over the first `n` tokens. -/
def Args.Gn (A : Args) (n o i : ℕ) : EReal := ∑ t ∈ Finset.range n, A.E o t * A.xs t i
/-- The gradient by the weights. -/
def Args.G (A : Args) (o i : ℕ) : EReal := A.Gn 6144 o i
/-- The gradient by the fine scales. -/
def Args.DS2 (A : Args) (o i : ℕ) : EReal := (0 - A.S1 o) * mf (A.Z o i) * A.G o i
/-- The terms of the gradient by the row scales. -/
def Args.T1 (A : Args) (o i : ℕ) : EReal := A.G o i * (A.Q o i - mf (A.Z o i))

end Cert.K
-- ==== Proof.K.Codes.lean ====
/- The codes piece: what it leaves in its four buffers, and that it keeps the others. -/
module

public import proofs.«01_k».proof.Proof.K.Run

@[expose] public section

noncomputable section

namespace Cert.K

open Idealize.ShloMosaic Idealize.SL.Sem
open Cert.KernelIdeal Cert.KernelIdeal.Facts₀

/-- After the first `k` column blocks of the codes of row block `n`. -/
structure CodesAt (σ : State Ideal) (n : ℕ) (Z : ℕ → ℕ → EReal) (k : ℕ) (τ : State Ideal) : Prop where
  keep : ∀ b, b ≠ .z → b ≠ .cbf → b ≠ .cd → τ b = σ b
  z : ∀ (o : Fin 10) (a : Fin 128) (b : Fin 1536), τ .z (ix3 o a b)
    = if o.val = n % 10 ∧ b.val < 128 * k then Z (128 * n + a.val) b.val else σ .z (ix3 o a b)
  cbf : ∀ (o : Fin 2) (a : Fin 512) (b : Fin 1536), τ .cbf (ix3 o a b)
    = if (o.val = n / 4 % 2 ∧ a.val / 128 = n % 4) ∧ b.val < 128 * k then qf (Z (512 * (n / 4) + a.val) b.val) else σ .cbf (ix3 o a b)
  cd : ∀ (a : Fin 128) (b : Fin 1536), τ .cd (ix2 a b)
    = if b.val < 128 * k then cf (Z (128 * n + a.val) b.val) else σ .cd (ix2 a b)

/-- The input buffers the codes of row block `n` read hold its part of the arguments. -/
structure CodesIn (A : Args) (n : ℕ) (σ : State Ideal) : Prop where
  w : ∀ (a : Fin 128) (b : Fin 1536), σ .w (ix2 a b) = A.W (128 * n + a.val) b.val
  s2 : ∀ (a : Fin 128) (b : Fin 1536), σ .s2 (ix2 a b) = A.S2 (128 * n + a.val) b.val
  s1 : ∀ (a : Fin 32) (b : Fin 128), σ .s1 (ix2 a b) = A.S1 (128 * a.val + b.val)
  r : ∀ (a : Fin 32) (b : Fin 128), σ .r (ix2 a b) = A.R (128 * a.val + b.val)
  c : ∀ (a : Fin 1) (b : Fin 1536), σ .c (ix2 a b) = A.C b.val

theorem codesCell_at (A : Args) (p : W) (hp : Sm p) (n : ℕ) (hn : n < 32) (e : p = BitVec.ofNat 32 n)
    (σ : State Ideal) (hI : CodesIn A n σ) (s1 r : FVec Ideal S128x128 .f32)
    (hs1 : ∀ a b : Fin 128, s1 (ix2 a b) = A.S1 (128 * n + a.val)) (hr : ∀ a b : Fin 128, r (ix2 a b) = A.R (128 * n + a.val))
    (j : Fin 12) (τ : State Ideal) (h : CodesAt σ n A.Z j.val τ) :
    CodesAt σ n A.Z (j.val + 1) (run (codesCell p hp s1 r j) τ).2 := by
  subst e
  have hj := j.isLt
  obtain ⟨z, hz⟩ : ∃ z, z = zval s1 r
      (rd (s := S128x1536) (τ .s2) ![0, 128 * j.val] S128x128.size (lt2 (by omega) (by omega)))
      (rd (s := S1x1536) (τ .c) ![0, 128 * j.val] S1x128.size (lt2 (by omega) (by omega)))
      (rd (s := S128x1536) (τ .w) ![0, 128 * j.val] S128x128.size (lt2 (by omega) (by omega))) := ⟨_, rfl⟩
  have hzz : ∀ a b : Fin 128, z (ix2 a b) = A.Z (128 * n + a.val) (128 * j.val + b.val) := by
    intro a b
    rw [hz, zval_at, h.keep .s2 (by decide) (by decide) (by decide), h.keep .c (by decide) (by decide) (by decide),
      h.keep .w (by decide) (by decide) (by decide),
      rd2 rfl _ _ (fun a b => A.W (128 * n + a) b) a b fun _ _ _ _ => hI.w _ _,
      rd2 rfl _ _ (fun a b => A.S2 (128 * n + a) b) a b fun _ _ _ _ => hI.s2 _ _,
      rd2 rfl _ _ (fun _ b => A.C b) 0 b fun _ _ _ _ => hI.c _ _, hs1, hr]
    simp only [Args.Z, Nat.zero_add]
  have hr : (run (codesCell (BitVec.ofNat 32 n) hp s1 r j) τ).2
      = Function.update (Function.update (Function.update τ .z
          ((Rect.unit (s := S10x128x1536) (oZ (BitVec.ofNat 32 n) j.val) S1x128x128.size (oZ_inb hp j)).overlay (τ .z) (up3 z))) .cbf
          ((Rect.unit (s := S2x512x1536) (oCol (BitVec.ofNat 32 n) j.val) S1x128x128.size (oCol_inb hp j)).overlay (τ .cbf) (cbfv z))) .cd
          ((Rect.unit (s := S128x1536) ![0, 128 * j.val] S128x128.size (lt2 (by omega) (by omega))).overlay (τ .cd) (fptosi 8 (rclip z))) := by
    subst hz; rfl
  rw [hr]
  refine ⟨?_, ?_, ?_, ?_⟩
  · intro b h1 h2 h3
    rw [Function.update_of_ne h3, Function.update_of_ne h2, Function.update_of_ne h1, h.keep b h1 h2 h3]
  · intro o a b
    rw [Function.update_of_ne (by decide), Function.update_of_ne (by decide), Function.update_self, ov3 (oZ_eq hn j.val)]
    have := h.z o a b
    split
    · rename_i hh
      rw [up3_at, hzz, if_pos (by omega)]
      congr 1 <;> simp only [] <;> omega
    · rename_i hh
      rw [h.z]
      congr 1
      have := a.isLt
      simp only [eq_iff_iff]
      omega
  · intro o a b
    rw [Function.update_of_ne (by decide), Function.update_self, ov3 (oCol_eq hn j.val)]
    split
    · rename_i hh
      rw [cbfv_at, hzz, if_pos (by omega)]
      congr 2 <;> simp only [] <;> omega
    · rename_i hh
      rw [h.cbf]
      congr 1
      have := a.isLt
      simp only [eq_iff_iff]
      omega
  · intro a b
    rw [Function.update_self, ov2 rfl]
    split
    · rename_i hh
      rw [code_at, hzz, if_pos (by omega)]
      congr 2 <;> simp only [] <;> omega
    · rename_i hh
      rw [h.cd]
      congr 1
      have := a.isLt
      simp only [eq_iff_iff]
      omega

/-- What the codes of row block `n` leave. -/
structure CodesDone (A : Args) (n : ℕ) (σ τ : State Ideal) : Prop where
  keep : ∀ b, b ≠ .z → b ≠ .cbf → b ≠ .s1c → b ≠ .cd → τ b = σ b
  z : ∀ (o : Fin 10) (a : Fin 128) (b : Fin 1536), τ .z (ix3 o a b)
    = if o.val = n % 10 then A.Z (128 * n + a.val) b.val else σ .z (ix3 o a b)
  cbf : ∀ (o : Fin 2) (a : Fin 512) (b : Fin 1536), τ .cbf (ix3 o a b)
    = if o.val = n / 4 % 2 ∧ a.val / 128 = n % 4 then A.Q (512 * (n / 4) + a.val) b.val else σ .cbf (ix3 o a b)
  s1c : ∀ (o : Fin 2) (a : Fin 512) (b : Fin 128), τ .s1c (ix3 o a b)
    = if o.val = n / 4 % 2 ∧ a.val / 128 = n % 4 then A.S1 (512 * (n / 4) + a.val) else σ .s1c (ix3 o a b)
  cd : ∀ (a : Fin 128) (b : Fin 1536), τ .cd (ix2 a b) = cf (A.Z (128 * n + a.val) b.val)

theorem codes_at (A : Args) (p : W) (hp : Sm p) (n : ℕ) (hn : n < 32) (e : p = BitVec.ofNat 32 n)
    (σ : State Ideal) (hI : CodesIn A n σ) : CodesDone A n σ (run (codes p hp) σ).2 := by
  subst e
  obtain ⟨s1, hs⟩ : ∃ s1, s1 = spread (rd (s := S32x128) (σ .s1) (oRow (BitVec.ofNat 32 n)) S1x128.size (oRow_inb hp)) := ⟨_, rfl⟩
  obtain ⟨r, hr⟩ : ∃ r, r = spread (rd (s := S32x128) (σ .r) (oRow (BitVec.ofNat 32 n)) S1x128.size (oRow_inb hp)) := ⟨_, rfl⟩
  have hs1 : ∀ a b : Fin 128, s1 (ix2 a b) = A.S1 (128 * n + a.val) := by
    intro a b
    rw [hs, spread_at, rd2 (oRow_eq hn) _ _ (fun x y => A.S1 (128 * x + y)) 0 a fun _ _ _ _ => hI.s1 _ _]
    simp only [Fin.val_zero, Nat.add_zero, Nat.zero_add]
  have hrr : ∀ a b : Fin 128, r (ix2 a b) = A.R (128 * n + a.val) := by
    intro a b
    rw [hr, spread_at, rd2 (oRow_eq hn) _ _ (fun x y => A.R (128 * x + y)) 0 a fun _ _ _ _ => hI.r _ _]
    simp only [Fin.val_zero, Nat.add_zero, Nat.zero_add]
  let σ' := Function.update σ .s1c
    ((Rect.unit (s := S2x512x128) (oCol (BitVec.ofNat 32 n) 0) S1x128x128.size (oCol_inb' hp)).overlay (σ .s1c) (up3 s1))
  have hrun : (run (codes (BitVec.ofNat 32 n) hp) σ).2 = (run (seqs (codesCell (BitVec.ofNat 32 n) hp s1 r) ten2) σ').2 := by
    subst hs hr; rfl
  have hI' : CodesIn A n σ' := ⟨hI.w, hI.s2, hI.s1, hI.r, hI.c⟩
  have h := run_seqs12 (codesCell (BitVec.ofNat 32 n) hp s1 r) (fun k τ => CodesAt σ' n A.Z k τ) σ'
    ⟨fun _ _ _ _ => rfl, fun _ _ _ => (if_neg (by omega)).symm, fun _ _ _ => (if_neg (by omega)).symm, fun _ _ => (if_neg (by omega)).symm⟩
    fun j τ hτ => codesCell_at A _ hp n hn rfl σ' hI' s1 r hs1 hrr j τ hτ
  rw [hrun]
  refine ⟨?_, ?_, ?_, ?_, ?_⟩
  · intro b h1 h2 h3 h4
    exact (h.keep b h1 h2 h4).trans (Function.update_of_ne h3 _ _)
  · intro o a b
    rw [h.z]
    have : σ' .z = σ .z := rfl
    rw [this]
    congr 1; simp only [eq_iff_iff]; omega
  · intro o a b
    rw [h.cbf]
    have : σ' .cbf = σ .cbf := rfl
    rw [this]
    congr 1; simp only [eq_iff_iff]; omega
  · intro o a b
    have e : σ' .s1c = _ := Function.update_self _ _ _
    rw [h.keep .s1c (by decide) (by decide) (by decide), e, ov3 (oCol_eq hn 0)]
    have := o.isLt
    have := a.isLt
    split
    · rename_i hh
      rw [up3_at, hs1, if_pos (by omega)]
      congr 1; simp only []; omega
    · rename_i hh
      rw [if_neg (by omega)]
  · intro a b
    rw [h.cd, if_pos (by omega)]

end Cert.K
-- ==== Proof.K.Deq.lean ====
/- The dequantising piece: what it leaves in the token buffer. -/
module

public import proofs.«01_k».proof.Proof.K.Run

@[expose] public section

noncomputable section

namespace Cert.K

open Idealize.ShloMosaic Idealize.SL.Sem
open Cert.KernelIdeal Cert.KernelIdeal.Facts₀

/-- The input buffers of the dequantisation of token tile `n` hold its part of the arguments. -/
structure DeqIn (A : Args) (n : ℕ) (σ : State Ideal) : Prop where
  xc : ∀ a b : Fin 1536, σ .xc (ix2 a b) = A.X (1536 * n + a.val) b.val
  xsc : ∀ (a : Fin 1536) (b : Fin 48), σ .xsc (ix2 a b) = A.XS (1536 * n + a.val) b.val

/-- After the first `k` column blocks of row block `r`. -/
structure DeqCell (A : Args) (n r : ℕ) (σ : State Ideal) (k : ℕ) (τ : State Ideal) : Prop where
  keep : ∀ b, b ≠ .xs → τ b = σ b
  xs : ∀ (a : Fin 6144) (b : Fin 1536), τ .xs (ix2 a b)
    = if a.val / 128 = 12 * n + r ∧ b.val < 128 * k then A.xs a.val b.val else σ .xs (ix2 a b)

/-- After the first `k` row blocks. -/
structure DeqRow (A : Args) (n : ℕ) (σ : State Ideal) (k : ℕ) (τ : State Ideal) : Prop where
  keep : ∀ b, b ≠ .xs → τ b = σ b
  xs : ∀ (a : Fin 6144) (b : Fin 1536), τ .xs (ix2 a b)
    = if 1536 * n ≤ a.val ∧ a.val < 1536 * n + 128 * k then A.xs a.val b.val else σ .xs (ix2 a b)

theorem dequantCell_at (A : Args) (s : W) (hs : ∃ n, n < 4 ∧ s = BitVec.ofNat 32 n) (n : ℕ) (hn : n < 4) (e : s = BitVec.ofNat 32 n)
    (σ : State Ideal) (hI : DeqIn A n σ) (r : Fin 12) (x : Vec Ideal S128x48 .f32)
    (hx : ∀ (a : Fin 128) (b : Fin 48), x (ix2 a b) = A.XS (1536 * n + 128 * r.val + a.val) b.val)
    (j : Fin 12) (τ : State Ideal) (h : DeqCell A n r.val σ j.val τ) :
    DeqCell A n r.val σ (j.val + 1) (run (dequantCell s hs r (scales x) j) τ).2 := by
  subst e
  have hj := j.isLt
  have hr := r.isLt
  obtain ⟨y, hy⟩ : ∃ y, y = deq (scales x) j.val
      (rd (s := S1536x1536) (τ .xc) ![128 * r.val, 128 * j.val] S128x128.size (lt2 (by omega) (by omega))) := ⟨_, rfl⟩
  have hyy : ∀ a b : Fin 128, y (ix2 a b) = A.xs (1536 * n + 128 * r.val + a.val) (128 * j.val + b.val) := by
    intro a b
    rw [hy, deq_at, h.keep .xc (by decide), rd2 rfl _ _ (fun a b => A.X (1536 * n + a) b) a b fun _ _ _ _ => hI.xc _ _, hx]
    simp only [Args.xs, ← Nat.add_assoc]
    congr 2; omega
  have hrun : (run (dequantCell (BitVec.ofNat 32 n) hs r (scales x) j) τ).2
      = Function.update τ .xs ((Rect.unit (s := S6144x1536) (oXs (BitVec.ofNat 32 n) r j) S128x128.size (oXs_inb hs r j)).overlay (τ .xs) y) := by
    subst hy; rfl
  rw [hrun]
  refine ⟨?_, ?_⟩
  · intro b h1
    rw [Function.update_of_ne h1, h.keep b h1]
  · intro a b
    rw [Function.update_self, ov2 (oXs_eq hn hr j.val)]
    split
    · rename_i hh
      rw [hyy, if_pos (by omega)]
      congr 1 <;> simp only [] <;> omega
    · rename_i hh
      rw [h.xs]
      congr 1
      simp only [eq_iff_iff]
      omega

theorem dequantRow_at (A : Args) (s : W) (hs : ∃ n, n < 4 ∧ s = BitVec.ofNat 32 n) (n : ℕ) (hn : n < 4) (e : s = BitVec.ofNat 32 n)
    (σ : State Ideal) (hI : DeqIn A n σ) (r : Fin 12) (τ : State Ideal) (h : DeqRow A n σ r.val τ) :
    DeqRow A n σ (r.val + 1) (run (dequantRow s hs r) τ).2 := by
  have hr := r.isLt
  obtain ⟨x, hx⟩ : ∃ x, x = rd (s := S1536x48) (τ .xsc) ![128 * r.val, 0] S128x48.size (lt2 (by omega) (by omega)) := ⟨_, rfl⟩
  have hxx : ∀ (a : Fin 128) (b : Fin 48), x (ix2 a b) = A.XS (1536 * n + 128 * r.val + a.val) b.val := by
    intro a b
    rw [hx, h.keep .xsc (by decide), rd2 rfl _ _ (fun a b => A.XS (1536 * n + a) b) a b fun _ _ _ _ => hI.xsc _ _]
    simp only [← Nat.add_assoc, Nat.zero_add]
  have hrun : (run (dequantRow s hs r) τ).2 = (run (seqs (dequantCell s hs r (scales x)) ten2) τ).2 := by
    rw [hx]
    show (run (Prog.bind _ _) τ).2 = _
    rw [run_bind]
    congr 1
  have hI' : DeqIn A n τ := ⟨fun a b => by rw [h.keep .xc (by decide)]; exact hI.xc a b,
    fun a b => by rw [h.keep .xsc (by decide)]; exact hI.xsc a b⟩
  have hc := run_seqs12 (dequantCell s hs r (scales x)) (fun k ρ => DeqCell A n r.val τ k ρ) τ
    ⟨fun _ _ => rfl, fun _ _ => (if_neg (by omega)).symm⟩
    fun j ρ hρ => dequantCell_at A s hs n hn e τ hI' r x hxx j ρ hρ
  rw [hrun]
  refine ⟨fun b hb => (hc.keep b hb).trans (h.keep b hb), fun a b => ?_⟩
  rw [hc.xs, h.xs]
  have := b.isLt
  split <;> (try split) <;> (try split) <;> first | rfl | omega

/-- The dequantised rows of token tile `n` are in place, the others as they were. -/
theorem dequant_at (A : Args) (s : W) (hs : ∃ n, n < 4 ∧ s = BitVec.ofNat 32 n) (n : ℕ) (hn : n < 4) (e : s = BitVec.ofNat 32 n)
    (σ : State Ideal) (hI : DeqIn A n σ) : DeqRow A n σ 12 (run (dequant s hs) σ).2 :=
  run_seqs12 (dequantRow s hs) (fun k ρ => DeqRow A n σ k ρ) σ
    ⟨fun _ _ => rfl, fun _ _ => (if_neg (by omega)).symm⟩ fun j ρ hρ => dequantRow_at A s hs n hn e σ hI j ρ hρ

end Cert.K
-- ==== Proof.K.Fwd.lean ====
/- The forward and the backward piece: residuals, their squares, and the gradient by the weights. -/
module

public import proofs.«01_k».proof.Proof.K.Run

@[expose] public section

noncomputable section

namespace Cert.K

open Idealize.ShloMosaic Idealize.SL.Sem
open Cert.KernelIdeal Cert.KernelIdeal.Facts₀

/-- The buffers that the forward piece of token tile `n % 4` and output block `n / 4` reads. -/
structure FwdIn (A : Args) (n : ℕ) (σ : State Ideal) : Prop where
  xs : ∀ (a : Fin 6144) (b : Fin 1536), a.val / 1536 = n % 4 → σ .xs (ix2 a b) = A.xs a.val b.val
  cbf : ∀ (o : Fin 2) (a : Fin 512) (b : Fin 1536), o.val = n / 4 % 2 → σ .cbf (ix3 o a b) = A.Q (512 * (n / 4) + a.val) b.val
  s1c : ∀ (o : Fin 2) (a : Fin 512) (b : Fin 128), o.val = n / 4 % 2 → σ .s1c (ix3 o a b) = A.S1 (512 * (n / 4) + a.val)
  yt : ∀ (a : Fin 1536) (b : Fin 512), σ .yt (ix2 a b) = A.YT (1536 * (n % 4) + a.val) (512 * (n / 4) + b.val)

/-- After the first `k` token blocks of the forward piece. -/
structure FwdAt (A : Args) (n : ℕ) (σ : State Ideal) (k : ℕ) (τ : State Ideal) : Prop where
  keep : ∀ b, b ≠ .e → b ≠ .rl → τ b = σ b
  e : ∀ (o : Fin 2) (a : Fin 512) (b : Fin 1536), τ .e (ix3 o a b)
    = if o.val = n % 2 ∧ b.val < 256 * k then A.E (512 * (n / 4) + a.val) (1536 * (n % 4) + b.val) else σ .e (ix3 o a b)
  rl : ∀ (o : Fin 4) (a : Fin 8) (b : Fin 1536), τ .rl (ix3 o a b)
    = if o.val = n % 4 ∧ b.val < 256 * k then (if n / 4 = 0 then 0 else σ .rl (ix3 o a b))
        + ∑ x ∈ Finset.range 64, A.res (512 * (n / 4) + (x * 8 + a.val)) (1536 * (n % 4) + b.val)
            * A.res (512 * (n / 4) + (x * 8 + a.val)) (1536 * (n % 4) + b.val)
      else σ .rl (ix3 o a b)

theorem first4 : ∀ n : Fin 32, Scalar.cmpi .eq (Scalar.divsi (BitVec.ofNat 32 n.val) 4#32) 0#32 = if n.val / 4 = 0 then 1#1 else 0#1 := by
  decide +kernel
theorem keep4 : ∀ n : Fin 32, Scalar.cmpi .ne (Scalar.remsi (BitVec.ofNat 32 n.val) 4#32) 0#32 = if n.val % 4 = 0 then 0#1 else 1#1 := by
  decide +kernel
theorem first0 : ∀ n : Fin 32, Scalar.cmpi .eq (BitVec.ofNat 32 n.val) 0#32 = if n.val = 0 then 1#1 else 0#1 := by
  decide +kernel
theorem sel1 {α : Type} (x y : α) : Scalar.select 1#1 x y = x := rfl
theorem sel0 {α : Type} (x y : α) : Scalar.select 0#1 x y = y := rfl

theorem forwardCell_at (A : Args) (u : W) (hu : Sm u) (n : ℕ) (hn : n < 32) (e : u = BitVec.ofNat 32 n)
    (σ : State Ideal) (hI : FwdIn A n σ) (t : Fin 6) (τ : State Ideal) (h : FwdAt A n σ t.val τ) :
    FwdAt A n σ (t.val + 1) (run (forwardCell u hu t) τ).2 := by
  subst e
  have ht := t.isLt
  obtain ⟨y, hy⟩ : ∃ y, y = resv
      (rd (s := S6144x1536) (τ .xs) (oXsF (BitVec.ofNat 32 n) t) S256x1536.size (oXsF_inb hu t))
      (rd (s := S2x512x1536) (τ .cbf) (oSlab (BitVec.ofNat 32 n)) S1x512x1536.size (oSlab_inb hu))
      (rd (s := S1536x512) (τ .yt) ![256 * t.val, 0] S256x512.size (lt2 (by omega) (by omega)))
      (rd (s := S2x512x128) (τ .s1c) (oSlab (BitVec.ofNat 32 n)) S1x512x128.size (oSlab_inb' hu)) := ⟨_, rfl⟩
  have hyy : ∀ (a : Fin 512) (b : Fin 256), y (ix2 a b) = A.res (512 * (n / 4) + a.val) (1536 * (n % 4) + 256 * t.val + b.val) := by
    intro a b
    rw [hy, resv_at, h.keep .xs (by decide) (by decide), h.keep .cbf (by decide) (by decide), h.keep .yt (by decide) (by decide),
      h.keep .s1c (by decide) (by decide),
      rd2 rfl _ _ (fun a b => A.YT (1536 * (n % 4) + a) (512 * (n / 4) + b)) b a fun _ _ _ _ => hI.yt _ _,
      rd3 (oSlab_eq hn) _ _ (fun _ a _ => A.S1 (512 * (n / 4) + a)) 0 a ⟨b.val % 128, by omega⟩ fun _ _ _ h _ _ =>
        hI.s1c _ _ _ (h.trans (by simp)), Args.res, Finset.sum_range]
    simp only [Nat.zero_add, Nat.add_assoc]
    congr 2
    refine Finset.sum_congr rfl fun k _ => ?_
    rw [rd3 (oSlab_eq hn) _ _ (fun _ a b => A.Q (512 * (n / 4) + a) b) 0 a k fun _ _ _ h _ _ =>
        hI.cbf _ _ _ (h.trans (by simp)),
      rd2 (oXsF_eq hn ht) _ _ (fun a b => A.xs a b) b k fun a' _ h _ => hI.xs _ _ (by have := b.isLt; omega)]
    simp only [Nat.zero_add, Nat.add_assoc]
  have hrun : (run (forwardCell (BitVec.ofNat 32 n) hu t) τ).2
      = Function.update (Function.update τ .e
          ((Rect.unit (s := S2x512x1536) (oE (BitVec.ofNat 32 n) t) S1x512x256.size (oE_inb hu t)).overlay (τ .e) (ev y))) .rl
          ((Rect.unit (s := S4x8x1536) (oRl (BitVec.ofNat 32 n) t) S1x8x256.size (oRl_inb hu t)).overlay (τ .rl)
            (rlv (Scalar.cmpi .eq (Scalar.divsi (BitVec.ofNat 32 n) 4#32) 0#32)
              (rd (s := S4x8x1536) (τ .rl) (oRl (BitVec.ofNat 32 n) t) S1x8x256.size (oRl_inb hu t)) y)) := by
    subst hy; rfl
  rw [hrun]
  refine ⟨?_, ?_, ?_⟩
  · intro b h1 h2
    rw [Function.update_of_ne h2, Function.update_of_ne h1, h.keep b h1 h2]
  · intro o a b
    rw [Function.update_of_ne (by decide), Function.update_self, ov3 (oE_eq hn t.val)]
    have := a.isLt
    split
    · rename_i hh
      rw [ev_at, hyy, if_pos (by omega), Args.E]
      congr 2; simp only []; omega
    · rename_i hh
      rw [h.e]
      congr 1
      simp only [eq_iff_iff]
      omega
  · intro o a b
    rw [Function.update_self, ov3 (oRl_eq hn t.val)]
    have := a.isLt
    split
    · rename_i hh
      rw [rlv_at, if_pos (by omega), first4 ⟨n, hn⟩, Finset.sum_range]
      congr 1
      · by_cases h0 : n / 4 = 0
        · simp only [h0, if_true]; exact sel1 _ _
        · simp only [h0, if_false]; rw [sel0]
          have hold := h.rl o a b
          rw [if_neg (by omega)] at hold
          rw [← hold]
          refine congrArg (τ .rl) (funext fun i => Fin.ext ?_)
          have e := oRl_eq hn t.val
          match i with
          | ⟨0, _⟩ => show (oRl (BitVec.ofNat 32 n) t) 0 + 1 * 0 = o.val; rw [e]; show n % 4 + 1 * 0 = _; omega
          | ⟨1, _⟩ => show (oRl (BitVec.ofNat 32 n) t) 1 + 1 * (a.val - 0) = a.val; rw [e]; show 0 + 1 * (a.val - 0) = _; omega
          | ⟨2, _⟩ => show (oRl (BitVec.ofNat 32 n) t) 2 + 1 * (b.val - 256 * t.val) = b.val; rw [e]; show 256 * t.val + 1 * (b.val - 256 * t.val) = _; omega
      · refine Finset.sum_congr rfl fun x _ => ?_
        rw [hyy]
        simp only [Nat.sub_zero]
        have : 1536 * (n % 4) + 256 * t.val + (b.val - 256 * t.val) = 1536 * (n % 4) + b.val := by omega
        rw [this]
    · rename_i hh
      rw [h.rl]
      congr 1
      simp only [eq_iff_iff]
      omega

/-- What the forward piece leaves. -/
theorem forward_at (A : Args) (u : W) (hu : Sm u) (n : ℕ) (hn : n < 32) (e : u = BitVec.ofNat 32 n)
    (σ : State Ideal) (hI : FwdIn A n σ) : FwdAt A n σ 6 (run (forward u hu) σ).2 :=
  run_seqs6 (forwardCell u hu) (fun k ρ => FwdAt A n σ k ρ) σ
    ⟨fun _ _ _ => rfl, fun _ _ _ => (if_neg (by omega)).symm, fun _ _ _ => (if_neg (by omega)).symm⟩
    fun j ρ hρ => forwardCell_at A u hu n hn e σ hI j ρ hρ

/-- The buffers that the backward piece reads. -/
structure BwdIn (A : Args) (n : ℕ) (σ : State Ideal) : Prop where
  xs : ∀ (a : Fin 6144) (b : Fin 1536), a.val / 1536 = n % 4 → σ .xs (ix2 a b) = A.xs a.val b.val
  e : ∀ (o : Fin 2) (a : Fin 512) (b : Fin 1536), o.val = n % 2 →
    σ .e (ix3 o a b) = A.E (512 * (n / 4) + a.val) (1536 * (n % 4) + b.val)
  g : n % 4 ≠ 0 → ∀ (o : Fin 2) (a : Fin 512) (b : Fin 1536), o.val = n / 4 % 2 →
    σ .g (ix3 o a b) = A.Gn (1536 * (n % 4)) (512 * (n / 4) + a.val) b.val

/-- What the backward piece leaves: the sum over one token tile more. -/
structure BwdDone (A : Args) (n : ℕ) (σ τ : State Ideal) : Prop where
  keep : ∀ b, b ≠ .g → τ b = σ b
  g : ∀ (o : Fin 2) (a : Fin 512) (b : Fin 1536), τ .g (ix3 o a b)
    = if o.val = n / 4 % 2 then A.Gn (1536 * (n % 4 + 1)) (512 * (n / 4) + a.val) b.val else σ .g (ix3 o a b)

theorem backward_at (A : Args) (v : W) (hv : Sm v) (n : ℕ) (hn : n < 32) (e : v = BitVec.ofNat 32 n)
    (σ : State Ideal) (hI : BwdIn A n σ) : BwdDone A n σ (run (backward v hv) σ).2 := by
  subst e
  have hrun : (run (backward (BitVec.ofNat 32 n) hv) σ).2 = Function.update σ .g
      ((Rect.unit (s := S2x512x1536) (oSlab (BitVec.ofNat 32 n)) S1x512x1536.size (oSlab_inb hv)).overlay (σ .g)
        (gv (Scalar.cmpi .ne (Scalar.remsi (BitVec.ofNat 32 n) 4#32) 0#32)
          (rd (s := S2x512x1536) (σ .e) (oE (BitVec.ofNat 32 n) 0) S1x512x1536.size (oE_inb' hv))
          (rd (s := S6144x1536) (σ .xs) (oXsB (BitVec.ofNat 32 n)) S1536x1536.size (oXsB_inb hv))
          (rd (s := S2x512x1536) (σ .g) (oSlab (BitVec.ofNat 32 n)) S1x512x1536.size (oSlab_inb hv)))) := rfl
  rw [hrun]
  refine ⟨fun b hb => Function.update_of_ne hb _ _, fun o a b => ?_⟩
  rw [Function.update_self, ov3 (oSlab_eq hn)]
  have := a.isLt
  have := b.isLt
  split
  · rename_i hh
    rw [gv_at, if_pos (by omega), keep4 ⟨n, hn⟩, Args.Gn, Nat.mul_add, Finset.sum_range_add]
    congr 1
    · by_cases h0 : n % 4 = 0
      · simp only [h0, if_true, sel0, Nat.mul_zero, Finset.range_zero, Finset.sum_empty]
      · simp only [h0, if_false]; rw [sel1,
          rd3 (oSlab_eq hn) _ _ (fun _ a b => A.Gn (1536 * (n % 4)) (512 * (n / 4) + a) b) 0 _ _ fun _ _ _ h _ _ =>
            hI.g h0 _ _ _ (h.trans (by simp))]
        simp only [Nat.zero_add, Nat.sub_zero, Args.Gn]
    · rw [Finset.sum_range]
      refine Finset.sum_congr rfl fun k _ => ?_
      rw [rd3 (oE_eq hn 0) _ _ (fun _ a b => A.E (512 * (n / 4) + a) (1536 * (n % 4) + b)) 0 _ k fun _ _ _ h _ _ =>
          hI.e _ _ _ (h.trans (by simp)),
        rd2 (oXsB_eq hn) _ _ (fun a b => A.xs a b) k _ fun a' _ h _ => hI.xs _ _ (by have := k.isLt; omega)]
      simp only [Nat.zero_add, Nat.sub_zero, Nat.mul_zero]
  · rename_i hh
    rw [if_neg (by omega)]

end Cert.K
-- ==== Proof.K.Wts.lean ====
/- The weights piece and the last writes: the gradients by fine scales, rows, columns and row scales. -/
module

public import proofs.«01_k».proof.Proof.K.Fwd

@[expose] public section

noncomputable section

namespace Cert.K

open Idealize.ShloMosaic Idealize.SL.Sem
open Cert.KernelIdeal Cert.KernelIdeal.Facts₀

/-- The buffers that the weights piece of row block `n` reads. -/
structure WtsIn (A : Args) (n : ℕ) (σ : State Ideal) : Prop where
  s1 : ∀ (a : Fin 32) (b : Fin 128), σ .s1 (ix2 a b) = A.S1 (128 * a.val + b.val)
  z : ∀ (o : Fin 10) (a : Fin 128) (b : Fin 1536), o.val = n % 10 → σ .z (ix3 o a b) = A.Z (128 * n + a.val) b.val
  g : ∀ (o : Fin 2) (a : Fin 512) (b : Fin 1536), o.val = n / 4 % 2 → σ .g (ix3 o a b) = A.G (512 * (n / 4) + a.val) b.val

/-- After the first `k` column blocks of the weights piece, with the two running sums. -/
structure WtsAt (A : Args) (n : ℕ) (σ : State Ideal) (k : ℕ) (dr ds1 : FVec Ideal S128x128 .f32) (τ : State Ideal) : Prop where
  keep : ∀ b, b ≠ .ds2 → b ≠ .dcp → τ b = σ b
  ds2 : ∀ (a : Fin 128) (b : Fin 1536), τ .ds2 (ix2 a b)
    = if b.val < 128 * k then A.DS2 (128 * n + a.val) b.val else σ .ds2 (ix2 a b)
  dcp : ∀ (a : Fin 8) (b : Fin 1536), τ .dcp (ix2 a b)
    = if b.val < 128 * k then (if n = 0 then 0 else σ .dcp (ix2 a b))
        + ∑ x ∈ Finset.range 16, A.DS2 (128 * n + (x * 8 + a.val)) b.val else σ .dcp (ix2 a b)
  dr : ∀ a l : Fin 128, dr (ix2 a l) = ∑ j ∈ Finset.range k, A.DS2 (128 * n + a.val) (128 * j + l.val)
  ds1 : ∀ a l : Fin 128, ds1 (ix2 a l) = ∑ j ∈ Finset.range k, A.T1 (128 * n + a.val) (128 * j + l.val)

theorem weightCell_at (A : Args) (q : W) (hq : Sm q) (n : ℕ) (hn : n < 32) (e : q = BitVec.ofNat 32 n)
    (σ : State Ideal) (hI : WtsIn A n σ) (s1 : FVec Ideal S128x128 .f32)
    (hs1 : ∀ a b : Fin 128, s1 (ix2 a b) = A.S1 (128 * n + a.val)) (j : Fin 12) (l : List (Fin 12))
    (dr ds1 : FVec Ideal S128x128 .f32) (τ : State Ideal) (h : WtsAt A n σ j.val dr ds1 τ) :
    ∃ dr' ds1' τ', run (weightCells q hq s1 (j :: l) dr ds1) τ = run (weightCells q hq s1 l dr' ds1') τ'
      ∧ WtsAt A n σ (j.val + 1) dr' ds1' τ' := by
  subst e
  have hj := j.isLt
  obtain ⟨z, hz⟩ : ∃ z, z = down (rd (s := S10x128x1536) (τ .z) (oZ (BitVec.ofNat 32 n) j) S1x128x128.size (oZ_inb hq j)) := ⟨_, rfl⟩
  obtain ⟨g, hg⟩ : ∃ g, g = down (rd (s := S2x512x1536) (τ .g) (oCol (BitVec.ofNat 32 n) j) S1x128x128.size (oCol_inb hq j)) := ⟨_, rfl⟩
  have hzz : ∀ a b : Fin 128, z (ix2 a b) = A.Z (128 * n + a.val) (128 * j.val + b.val) := by
    intro a b
    rw [hz, down_at, h.keep .z (by decide) (by decide),
      rd3 (oZ_eq hn j.val) _ _ (fun _ a b => A.Z (128 * n + a) b) 0 a b fun _ _ _ h _ _ => hI.z _ _ _ (h.trans (by simp))]
    simp only [Nat.zero_add]
  have hgg : ∀ a b : Fin 128, g (ix2 a b) = A.G (128 * n + a.val) (128 * j.val + b.val) := by
    intro a b
    rw [hg, down_at, h.keep .g (by decide) (by decide),
      rd3 (oCol_eq hn j.val) _ _ (fun _ a b => A.G (512 * (n / 4) + a) b) 0 a b fun _ _ _ h _ _ => hI.g _ _ _ (h.trans (by simp))]
    congr 1; omega
  obtain ⟨d, hd⟩ : ∃ d, d = ds2v s1 z g := ⟨_, rfl⟩
  have hdd : ∀ a b : Fin 128, d (ix2 a b) = A.DS2 (128 * n + a.val) (128 * j.val + b.val) := by
    intro a b
    rw [hd, ds2v_at, hzz, hgg, hs1, Args.DS2]
  refine ⟨addf dr d, addf ds1 (ds1v z g),
    Function.update (Function.update τ .ds2
      ((Rect.unit (s := S128x1536) ![0, 128 * j.val] S128x128.size (lt2 (by omega) (by omega))).overlay (τ .ds2) d)) .dcp
      ((Rect.unit (s := S8x1536) ![0, 128 * j.val] S8x128.size (lt2 (by omega) (by omega))).overlay (τ .dcp)
        (dcv (Scalar.cmpi .eq (BitVec.ofNat 32 n) 0#32) d
          (rd (s := S8x1536) (τ .dcp) ![0, 128 * j.val] S8x128.size (lt2 (by omega) (by omega))))), ?_, ?_⟩
  · subst hz hg hd; rfl
  refine ⟨?_, ?_, ?_, ?_, ?_⟩
  · intro b h1 h2
    rw [Function.update_of_ne h2, Function.update_of_ne h1, h.keep b h1 h2]
  · intro a b
    rw [Function.update_of_ne (by decide), Function.update_self, ov2 rfl]
    have := a.isLt
    split
    · rename_i hh
      rw [hdd, if_pos (by omega)]
      congr 1; simp only []; omega
    · rename_i hh
      rw [h.ds2]
      congr 1
      simp only [eq_iff_iff]
      omega
  · intro a b
    rw [Function.update_self, ov2 rfl]
    have := a.isLt
    split
    · rename_i hh
      rw [dcv_at, if_pos (by omega), first0 ⟨n, hn⟩, Finset.sum_range]
      congr 1
      · by_cases h0 : n = 0
        · simp only [h0, if_true]; exact sel1 _ _
        · simp only [h0, if_false]; rw [sel0]
          have hold := h.dcp a b
          rw [if_neg (by omega)] at hold
          rw [← hold]
          refine congrArg (τ .dcp) (funext fun i => Fin.ext ?_)
          match i with
          | ⟨0, _⟩ => show 0 + 1 * (a.val - 0) = a.val; omega
          | ⟨1, _⟩ => show 128 * j.val + 1 * (b.val - 128 * j.val) = b.val; omega
      · refine Finset.sum_congr rfl fun x _ => ?_
        rw [hdd]
        simp only [Nat.sub_zero]
        have : 128 * j.val + (b.val - 128 * j.val) = b.val := by omega
        rw [this]
    · rename_i hh
      rw [h.dcp]
      congr 1
      simp only [eq_iff_iff]
      omega
  · intro a l
    rw [Finset.sum_range_succ, ← h.dr, ← hdd]; rfl
  · intro a l
    rw [Finset.sum_range_succ, ← h.ds1]
    show _ + ds1v z g (ix2 a l) = _
    rw [ds1v_at, hzz, hgg]; rfl

/-- A sum over `m` blocks of `n`. -/
theorem sum_blocks (m n : ℕ) (f : ℕ → EReal) : ∑ i ∈ Finset.range (n * m), f i = ∑ j ∈ Finset.range m, ∑ l ∈ Finset.range n, f (n * j + l) := by
  induction m with
  | zero => simp
  | succ m ih => rw [Nat.mul_succ, Finset.sum_range_add, ih, Finset.sum_range_succ]

/-- What the weights of row block `n` leave. -/
structure WtsDone (A : Args) (n : ℕ) (σ τ : State Ideal) : Prop where
  keep : ∀ b, b ≠ .ds2 → b ≠ .dcp → b ≠ .dr → b ≠ .ds1 → τ b = σ b
  ds2 : ∀ (a : Fin 128) (b : Fin 1536), τ .ds2 (ix2 a b) = A.DS2 (128 * n + a.val) b.val
  dcp : ∀ (a : Fin 8) (b : Fin 1536), τ .dcp (ix2 a b)
    = (if n = 0 then 0 else σ .dcp (ix2 a b)) + ∑ x ∈ Finset.range 16, A.DS2 (128 * n + (x * 8 + a.val)) b.val
  dr : ∀ (a : Fin 32) (b : Fin 128), τ .dr (ix2 a b)
    = if a.val = n then ∑ i ∈ Finset.range 1536, A.DS2 (128 * n + b.val) i else σ .dr (ix2 a b)
  ds1 : ∀ (a : Fin 32) (b : Fin 128), τ .ds1 (ix2 a b)
    = if a.val = n then ∑ i ∈ Finset.range 1536, A.T1 (128 * n + b.val) i else σ .ds1 (ix2 a b)

theorem rowsum_blocks (x : FVec Ideal S128x128 .f32) (f : ℕ → ℕ → EReal)
    (h : ∀ a l : Fin 128, x (ix2 a l) = ∑ j ∈ Finset.range 12, f a.val (128 * j + l.val)) (o : Fin 1) (a : Fin 128) :
    rowsum x (ix2 o a) = ∑ i ∈ Finset.range 1536, f a.val i := by
  rw [rowsum_at, show 1536 = 128 * 12 from rfl, sum_blocks, Finset.sum_comm, Finset.sum_range]
  exact Finset.sum_congr rfl fun l _ => h a l

theorem weights_at (A : Args) (q : W) (hq : Sm q) (n : ℕ) (hn : n < 32) (e : q = BitVec.ofNat 32 n)
    (σ : State Ideal) (hI : WtsIn A n σ) : WtsDone A n σ (run (weights q hq) σ).2 := by
  subst e
  obtain ⟨s1, hs⟩ : ∃ s1, s1 = spread (rd (s := S32x128) (σ .s1) (oRow (BitVec.ofNat 32 n)) S1x128.size (oRow_inb hq)) := ⟨_, rfl⟩
  have hs1 : ∀ a b : Fin 128, s1 (ix2 a b) = A.S1 (128 * n + a.val) := by
    intro a b
    rw [hs, spread_at, rd2 (oRow_eq hn) _ _ (fun x y => A.S1 (128 * x + y)) 0 a fun _ _ _ _ => hI.s1 _ _]
    simp only [Fin.val_zero, Nat.add_zero, Nat.zero_add]
  have hc := weightCell_at A _ hq n hn rfl σ hI s1 hs1
  have hend : ∃ dr ds1 τ, run (weightCells (BitVec.ofNat 32 n) hq s1 ten2 zero128 zero128) σ = ((dr, ds1), τ) ∧ WtsAt A n σ 12 dr ds1 τ := by
    have hz : ∀ a l : Fin 128, (zero128 : FVec Ideal S128x128 .f32) (ix2 a l) = 0 := fun a l => by pointwise [zero128]
    have h0 : WtsAt A n σ 0 zero128 zero128 σ := ⟨fun _ _ _ => rfl, fun _ _ => (if_neg (by omega)).symm,
      fun _ _ => (if_neg (by omega)).symm, hz, hz⟩
    obtain ⟨d0, e0, τ0, r0, h0⟩ := hc 0 [1, 2, 3, 4, 5, 6, 7, 8, 9, 10, 11] _ _ _ h0
    obtain ⟨d1, e1, τ1, r1, h1⟩ := hc 1 [2, 3, 4, 5, 6, 7, 8, 9, 10, 11] _ _ _ h0
    obtain ⟨d2, e2, τ2, r2, h2⟩ := hc 2 [3, 4, 5, 6, 7, 8, 9, 10, 11] _ _ _ h1
    obtain ⟨d3, e3, τ3, r3, h3⟩ := hc 3 [4, 5, 6, 7, 8, 9, 10, 11] _ _ _ h2
    obtain ⟨d4, e4, τ4, r4, h4⟩ := hc 4 [5, 6, 7, 8, 9, 10, 11] _ _ _ h3
    obtain ⟨d5, e5, τ5, r5, h5⟩ := hc 5 [6, 7, 8, 9, 10, 11] _ _ _ h4
    obtain ⟨d6, e6, τ6, r6, h6⟩ := hc 6 [7, 8, 9, 10, 11] _ _ _ h5
    obtain ⟨d7, e7, τ7, r7, h7⟩ := hc 7 [8, 9, 10, 11] _ _ _ h6
    obtain ⟨d8, e8, τ8, r8, h8⟩ := hc 8 [9, 10, 11] _ _ _ h7
    obtain ⟨d9, e9, τ9, r9, h9⟩ := hc 9 [10, 11] _ _ _ h8
    obtain ⟨d10, e10, τ10, r10, h10⟩ := hc 10 [11] _ _ _ h9
    obtain ⟨d11, e11, τ11, r11, h11⟩ := hc 11 [] _ _ _ h10
    refine ⟨d11, e11, τ11, ?_, h11⟩
    show run (weightCells _ hq s1 [0, 1, 2, 3, 4, 5, 6, 7, 8, 9, 10, 11] zero128 zero128) σ = _
    rw [r0, r1, r2, r3, r4, r5, r6, r7, r8, r9, r10, r11]; rfl
  obtain ⟨dr, ds1, τ, hr, h⟩ := hend
  have hrun : (run (weights (BitVec.ofNat 32 n) hq) σ).2 = Function.update (Function.update τ .dr
      ((Rect.unit (s := S32x128) (oRow (BitVec.ofNat 32 n)) S1x128.size (oRow_inb hq)).overlay (τ .dr) (rowsum dr))) .ds1
      ((Rect.unit (s := S32x128) (oRow (BitVec.ofNat 32 n)) S1x128.size (oRow_inb hq)).overlay (τ .ds1) (rowsum ds1)) := by
    have : (run (weights (BitVec.ofNat 32 n) hq) σ).2
        = (run ((weightCells (BitVec.ofNat 32 n) hq s1 ten2 zero128 zero128).bind fun d => do
            let _ ← ld .dr (oRow (BitVec.ofNat 32 n)) S1x128.size (oRow_inb hq) h_S1x128
            st .dr (oRow (BitVec.ofNat 32 n)) S1x128.size (oRow_inb hq) h_S1x128 rfl (rowsum d.1)
            let _ ← ld .ds1 (oRow (BitVec.ofNat 32 n)) S1x128.size (oRow_inb hq) h_S1x128
            st .ds1 (oRow (BitVec.ofNat 32 n)) S1x128.size (oRow_inb hq) h_S1x128 rfl (rowsum d.2)) σ).2 := by
      rw [hs]
      show (run (Prog.bind _ _) σ).2 = _
      rw [run_bind]
      congr 1
    rw [this, run_bind, hr]; rfl
  rw [hrun]
  have hdr := rowsum_blocks dr (fun a i => A.DS2 (128 * n + a) i) h.dr
  have hds1 := rowsum_blocks ds1 (fun a i => A.T1 (128 * n + a) i) h.ds1
  refine ⟨?_, ?_, ?_, ?_, ?_⟩
  · intro b h1 h2 h3 h4
    rw [Function.update_of_ne h4, Function.update_of_ne h3, h.keep b h1 h2]
  · intro a b
    rw [Function.update_of_ne (by decide), Function.update_of_ne (by decide), h.ds2, if_pos (by omega)]
  · intro a b
    rw [Function.update_of_ne (by decide), Function.update_of_ne (by decide), h.dcp, if_pos (by omega)]
  · intro a b
    rw [Function.update_of_ne (by decide), Function.update_self, ov2 (oRow_eq hn), h.keep .dr (by decide) (by decide)]
    have := b.isLt
    split
    · rename_i hh
      rw [hdr, if_pos (by omega)]; rfl
    · rename_i hh
      rw [if_neg (by omega)]
  · intro a b
    rw [Function.update_self, ov2 (oRow_eq hn), h.keep .ds1 (by decide) (by decide)]
    have := b.isLt
    split
    · rename_i hh
      rw [hds1, if_pos (by omega)]; rfl
    · rename_i hh
      rw [if_neg (by omega)]

/-- What the last writes leave. -/
structure FinDone (σ τ : State Ideal) : Prop where
  keep : ∀ b, b ≠ .dc → b ≠ .rlo → τ b = σ b
  dc : ∀ (a : Fin 1) (b : Fin 1536), τ .dc (ix2 a b) = ∑ k : Fin 8, σ .dcp (ix2 k b)
  rlo : ∀ (a : Fin 4) (b : Fin 1536), τ .rlo (ix2 a b) = (∑ k : Fin 8, σ .rl (ix3 a k b)) * Ideal.ofBits .f32 0x39800000#32

theorem final_at (σ : State Ideal) : FinDone σ (run final σ).2 := by
  have hrun : (run final σ).2 = Function.update (Function.update σ .dc
      ((Rect.unit (s := S1x1536) ![0, 0] S1x1536.size inb_S1x1536_S1x1536_0_0).overlay (σ .dc)
        (dcfin (rd (s := S8x1536) (σ .dcp) ![0, 0] S8x1536.size inb_S8x1536_S8x1536_0_0)))) .rlo
      ((Rect.unit (s := S4x1536) ![0, 0] S4x1536.size inb_S4x1536_S4x1536_0_0).overlay (σ .rlo)
        (rlfin (rd (s := S4x8x1536) (σ .rl) ![0, 0, 0] S4x8x1536.size inb_S4x8x1536_S4x8x1536_0_0_0))) := rfl
  rw [hrun]
  refine ⟨fun b h1 h2 => by rw [Function.update_of_ne h2, Function.update_of_ne h1], fun a b => ?_, fun a b => ?_⟩
  · rw [Function.update_of_ne (by decide), Function.update_self, ov2 rfl, dif_pos (by omega), dcfin_at]
    refine Finset.sum_congr rfl fun k _ => congrArg (σ .dcp) (funext fun i => Fin.ext ?_)
    match i with
    | ⟨0, _⟩ => show 0 + 1 * k.val = k.val; omega
    | ⟨1, _⟩ => show 0 + 1 * (b.val - 0) = b.val; omega
  · rw [Function.update_self, ov2 rfl, dif_pos (by omega), rlfin_at]
    congr 1
    refine Finset.sum_congr rfl fun k _ => congrArg (σ .rl) (funext fun i => Fin.ext ?_)
    match i with
    | ⟨0, _⟩ => show 0 + 1 * (a.val - 0) = a.val; omega
    | ⟨1, _⟩ => show 0 + 1 * k.val = k.val; omega
    | ⟨2, _⟩ => show 0 + 1 * (b.val - 0) = b.val; omega

end Cert.K
-- ==== Proof.K.Inv.lean ====
/- What the scratch holds between the pieces of a step, with a count of the pieces of each kind done, and
   how each piece advances its count. -/
module

public import proofs.«01_k».proof.Proof.K.Codes
public import proofs.«01_k».proof.Proof.K.Deq
public import proofs.«01_k».proof.Proof.K.Wts

@[expose] public section

noncomputable section

namespace Cert.K

open Idealize.ShloMosaic Idealize.SL.Sem
open Cert.KernelIdeal Cert.KernelIdeal.Facts₀

/-- The buffers of the input windows. -/
def isIn : B → Prop
  | .xc | .xsc | .w | .s2 | .s1 | .r | .c | .yt => True
  | _ => False

/-- What the input windows' buffers hold at step `s`. -/
structure InOk (A : Args) (s : ℕ) (σ : State Ideal) : Prop where
  xc : s < 4 → ∀ a b : Fin 1536, σ .xc (ix2 a b) = A.X (1536 * s + a.val) b.val
  xsc : s < 4 → ∀ (a : Fin 1536) (b : Fin 48), σ .xsc (ix2 a b) = A.XS (1536 * s + a.val) b.val
  w : ∀ (a : Fin 128) (b : Fin 1536), σ .w (ix2 a b) = A.W (128 * min s 31 + a.val) b.val
  s2 : ∀ (a : Fin 128) (b : Fin 1536), σ .s2 (ix2 a b) = A.S2 (128 * min s 31 + a.val) b.val
  s1 : ∀ (a : Fin 32) (b : Fin 128), σ .s1 (ix2 a b) = A.S1 (128 * a.val + b.val)
  r : ∀ (a : Fin 32) (b : Fin 128), σ .r (ix2 a b) = A.R (128 * a.val + b.val)
  c : ∀ (a : Fin 1) (b : Fin 1536), σ .c (ix2 a b) = A.C b.val
  yt : 4 ≤ s → s < 36 → ∀ (a : Fin 1536) (b : Fin 512),
    σ .yt (ix2 a b) = A.YT (1536 * ((s - 4) % 4) + a.val) (512 * ((s - 4) / 4) + b.val)

theorem InOk.of_eq {A : Args} {s : ℕ} {σ τ : State Ideal} (h : InOk A s σ) (e : ∀ b, isIn b → τ b = σ b) : InOk A s τ := by
  refine ⟨?_, ?_, ?_, ?_, ?_, ?_, ?_, ?_⟩
  · rw [e .xc trivial]; exact h.xc
  · rw [e .xsc trivial]; exact h.xsc
  · rw [e .w trivial]; exact h.w
  · rw [e .s2 trivial]; exact h.s2
  · rw [e .s1 trivial]; exact h.s1
  · rw [e .r trivial]; exact h.r
  · rw [e .c trivial]; exact h.c
  · rw [e .yt trivial]; exact h.yt

/-- The square of a residual. -/
def Args.sq (A : Args) (o t : ℕ) : EReal := A.res o t * A.res o t

/-- The scratch after `x` token tiles dequantised, `c` row blocks of codes, `f` forward pieces, `v` backward
    pieces and `q` weights pieces. -/
structure Inv (A : Args) (x c f v q : ℕ) (σ : State Ideal) : Prop where
  xs : ∀ (a : Fin 6144) (b : Fin 1536), a.val < 1536 * x → σ .xs (ix2 a b) = A.xs a.val b.val
  z : ∀ p, p < c → c ≤ p + 10 → ∀ (o : Fin 10) (a : Fin 128) (b : Fin 1536), o.val = p % 10 →
    σ .z (ix3 o a b) = A.Z (128 * p + a.val) b.val
  cbf : ∀ p, p < c → c ≤ p + 8 → ∀ (o : Fin 2) (a : Fin 512) (b : Fin 1536), o.val = p / 4 % 2 → a.val / 128 = p % 4 →
    σ .cbf (ix3 o a b) = A.Q (512 * (p / 4) + a.val) b.val
  s1c : ∀ p, p < c → c ≤ p + 8 → ∀ (o : Fin 2) (a : Fin 512) (b : Fin 128), o.val = p / 4 % 2 → a.val / 128 = p % 4 →
    σ .s1c (ix3 o a b) = A.S1 (512 * (p / 4) + a.val)
  e : ∀ u, u < f → f ≤ u + 2 → ∀ (o : Fin 2) (a : Fin 512) (b : Fin 1536), o.val = u % 2 →
    σ .e (ix3 o a b) = A.E (512 * (u / 4) + a.val) (1536 * (u % 4) + b.val)
  g : ∀ m, 4 * m < v → v ≤ 4 * m + 8 → ∀ (o : Fin 2) (a : Fin 512) (b : Fin 1536), o.val = m % 2 →
    σ .g (ix3 o a b) = A.Gn (1536 * min 4 (v - 4 * m)) (512 * m + a.val) b.val
  rl : ∀ (o : Fin 4) (a : Fin 8) (b : Fin 1536), o.val < f → σ .rl (ix3 o a b)
    = ∑ m ∈ Finset.range ((f + 3 - o.val) / 4), ∑ x ∈ Finset.range 64, A.sq (512 * m + (x * 8 + a.val)) (1536 * o.val + b.val)
  dcp : 0 < q → ∀ (a : Fin 8) (b : Fin 1536), σ .dcp (ix2 a b)
    = ∑ p ∈ Finset.range q, ∑ x ∈ Finset.range 16, A.DS2 (128 * p + (x * 8 + a.val)) b.val

theorem deq_step (A : Args) (s : W) (hs : ∃ n, n < 4 ∧ s = BitVec.ofNat 32 n) (n : ℕ) (hn : n < 4) (e : s = BitVec.ofNat 32 n)
    {c f v q : ℕ} (σ : State Ideal) (hi : InOk A n σ) (h : Inv A n c f v q σ) :
    Inv A (n + 1) c f v q (run (dequant s hs) σ).2 ∧ ∀ b, b ≠ .xs → (run (dequant s hs) σ).2 b = σ b := by
  have hd := dequant_at A s hs n hn e σ ⟨hi.xc hn, hi.xsc hn⟩
  generalize (run (dequant s hs) σ).2 = τ at hd
  refine ⟨⟨?_, ?_, ?_, ?_, ?_, ?_, ?_, ?_⟩, hd.keep⟩
  · intro a b ha
    rw [hd.xs]
    split
    · rfl
    · exact h.xs a b (by omega)
  · rw [hd.keep .z (by decide)]; exact h.z
  · rw [hd.keep .cbf (by decide)]; exact h.cbf
  · rw [hd.keep .s1c (by decide)]; exact h.s1c
  · rw [hd.keep .e (by decide)]; exact h.e
  · rw [hd.keep .g (by decide)]; exact h.g
  · rw [hd.keep .rl (by decide)]; exact h.rl
  · rw [hd.keep .dcp (by decide)]; exact h.dcp

theorem codes_step (A : Args) (p : W) (hp : Sm p) (s : ℕ) (e : p = BitVec.ofNat 32 (min s 31))
    {x f v q : ℕ} (σ : State Ideal) (hi : InOk A s σ) (h : Inv A x (min s 32) f v q σ) :
    Inv A x (min (s + 1) 32) f v q (run (codes p hp) σ).2
      ∧ (∀ b, b ≠ .z → b ≠ .cbf → b ≠ .s1c → b ≠ .cd → (run (codes p hp) σ).2 b = σ b)
      ∧ ∀ (a : Fin 128) (b : Fin 1536), (run (codes p hp) σ).2 .cd (ix2 a b) = cf (A.Z (128 * min s 31 + a.val) b.val) := by
  have hd := codes_at A p hp (min s 31) (by omega) e σ ⟨hi.w, hi.s2, hi.s1, hi.r, hi.c⟩
  generalize (run (codes p hp) σ).2 = τ at hd
  refine ⟨⟨?_, ?_, ?_, ?_, ?_, ?_, ?_, ?_⟩, hd.keep, hd.cd⟩
  · rw [hd.keep .xs (by decide) (by decide) (by decide) (by decide)]; exact h.xs
  · intro p' h1 h2 o a b ho
    rw [hd.z]
    split
    · have : min s 31 = p' := by omega
      rw [this]
    · exact h.z p' (by omega) (by omega) o a b ho
  · intro p' h1 h2 o a b ho ha
    rw [hd.cbf]
    split
    · have : min s 31 = p' := by omega
      rw [this]
    · exact h.cbf p' (by omega) (by omega) o a b ho ha
  · intro p' h1 h2 o a b ho ha
    rw [hd.s1c]
    split
    · have : min s 31 = p' := by omega
      rw [this]
    · exact h.s1c p' (by omega) (by omega) o a b ho ha
  · rw [hd.keep .e (by decide) (by decide) (by decide) (by decide)]; exact h.e
  · rw [hd.keep .g (by decide) (by decide) (by decide) (by decide)]; exact h.g
  · rw [hd.keep .rl (by decide) (by decide) (by decide) (by decide)]; exact h.rl
  · rw [hd.keep .dcp (by decide) (by decide) (by decide) (by decide)]; exact h.dcp

theorem fwd_step (A : Args) (u : W) (hu : Sm u) (s : ℕ) (h4 : 4 ≤ s) (h36 : s < 36) (e : u = BitVec.ofNat 32 (s - 4))
    {v q : ℕ} (σ : State Ideal) (hi : InOk A s σ) (h : Inv A 4 (min s 32) (s - 4) v q σ) :
    Inv A 4 (min s 32) (s - 3) v q (run (forward u hu) σ).2
      ∧ ∀ b, b ≠ .e → b ≠ .rl → (run (forward u hu) σ).2 b = σ b := by
  have hd := forward_at A u hu (s - 4) (by omega) e σ ⟨fun a b ha => h.xs a b (by omega),
    fun o a b ho => by
      have := h.cbf (4 * ((s - 4) / 4) + a.val / 128) (by omega) (by omega) o a b (by omega) (by omega)
      rw [this]; congr 2; omega,
    fun o a b ho => by
      have := h.s1c (4 * ((s - 4) / 4) + a.val / 128) (by omega) (by omega) o a b (by omega) (by omega)
      rw [this]; congr 2; omega, hi.yt h4 h36⟩
  generalize (run (forward u hu) σ).2 = τ at hd
  refine ⟨⟨?_, ?_, ?_, ?_, ?_, ?_, ?_, ?_⟩, hd.keep⟩
  · rw [hd.keep .xs (by decide) (by decide)]; exact h.xs
  · rw [hd.keep .z (by decide) (by decide)]; exact h.z
  · rw [hd.keep .cbf (by decide) (by decide)]; exact h.cbf
  · rw [hd.keep .s1c (by decide) (by decide)]; exact h.s1c
  · intro u' h1 h2 o a b ho
    rw [hd.e]
    split
    · have : s - 4 = u' := by omega
      rw [this]
    · exact h.e u' (by omega) (by omega) o a b ho
  · rw [hd.keep .g (by decide) (by decide)]; exact h.g
  · intro o a b ho
    rw [hd.rl]
    split
    · rename_i hh
      have e1 : (s - 3 + 3 - o.val) / 4 = (s - 4) / 4 + 1 := by omega
      rw [e1, Finset.sum_range_succ _ ((s - 4) / 4), hh.1]
      congr 1
      split
      · rename_i h0; rw [h0]; rfl
      · rw [h.rl o a b (by omega)]
        have e2 : (s - 4 + 3 - o.val) / 4 = (s - 4) / 4 := by omega
        rw [e2, hh.1]
    · rename_i hh
      rw [h.rl o a b (by omega)]
      have e2 : (s - 4 + 3 - o.val) / 4 = (s - 3 + 3 - o.val) / 4 := by omega
      rw [e2]
  · rw [hd.keep .dcp (by decide) (by decide)]; exact h.dcp

theorem bwd_step (A : Args) (v : W) (hv : Sm v) (s : ℕ) (h5 : 5 ≤ s) (h37 : s < 37) (e : v = BitVec.ofNat 32 (s - 5))
    {c q : ℕ} (σ : State Ideal) (h : Inv A 4 c (min (s - 3) 32) (s - 5) q σ) :
    Inv A 4 c (min (s - 3) 32) (s - 4) q (run (backward v hv) σ).2
      ∧ ∀ b, b ≠ .g → (run (backward v hv) σ).2 b = σ b := by
  have hd := backward_at A v hv (s - 5) (by omega) e σ ⟨fun a b ha => h.xs a b (by omega),
    fun o a b ho => h.e (s - 5) (by omega) (by omega) o a b ho,
    fun h0 o a b ho => by
      rw [h.g ((s - 5) / 4) (by omega) (by omega) o a b ho]
      have : min 4 (s - 5 - 4 * ((s - 5) / 4)) = (s - 5) % 4 := by omega
      rw [this]⟩
  generalize (run (backward v hv) σ).2 = τ at hd
  refine ⟨⟨?_, ?_, ?_, ?_, ?_, ?_, ?_, ?_⟩, hd.keep⟩
  · rw [hd.keep .xs (by decide)]; exact h.xs
  · rw [hd.keep .z (by decide)]; exact h.z
  · rw [hd.keep .cbf (by decide)]; exact h.cbf
  · rw [hd.keep .s1c (by decide)]; exact h.s1c
  · rw [hd.keep .e (by decide)]; exact h.e
  · intro m h1 h2 o a b ho
    rw [hd.g]
    split
    · have e1 : (s - 5) / 4 = m := by omega
      have e2 : min 4 (s - 4 - 4 * m) = (s - 5) % 4 + 1 := by omega
      rw [e1, e2]
    · rw [h.g m (by omega) (by omega) o a b ho]
      have e2 : min 4 (s - 5 - 4 * m) = min 4 (s - 4 - 4 * m) := by omega
      rw [e2]
  · rw [hd.keep .rl (by decide)]; exact h.rl
  · rw [hd.keep .dcp (by decide)]; exact h.dcp

theorem wts_step (A : Args) (q : W) (hq : Sm q) (s : ℕ) (h9 : 9 ≤ s) (h41 : s < 41) (e : q = BitVec.ofNat 32 (s - 9))
    {f : ℕ} (σ : State Ideal) (hi : InOk A s σ) (h : Inv A 4 (min s 32) f (min (s - 4) 32) (s - 9) σ) :
    Inv A 4 (min s 32) f (min (s - 4) 32) (s - 8) (run (weights q hq) σ).2
      ∧ (∀ b, b ≠ .ds2 → b ≠ .dcp → b ≠ .dr → b ≠ .ds1 → (run (weights q hq) σ).2 b = σ b)
      ∧ WtsDone A (s - 9) σ (run (weights q hq) σ).2 := by
  have hd := weights_at A q hq (s - 9) (by omega) e σ ⟨hi.s1, h.z (s - 9) (by omega) (by omega),
    fun o a b ho => by
      rw [h.g ((s - 9) / 4) (by omega) (by omega) o a b ho]
      have : min 4 (min (s - 4) 32 - 4 * ((s - 9) / 4)) = 4 := by omega
      rw [this]; rfl⟩
  generalize (run (weights q hq) σ).2 = τ at hd
  refine ⟨⟨?_, ?_, ?_, ?_, ?_, ?_, ?_, ?_⟩, hd.keep, hd⟩
  · rw [hd.keep .xs (by decide) (by decide) (by decide) (by decide)]; exact h.xs
  · rw [hd.keep .z (by decide) (by decide) (by decide) (by decide)]; exact h.z
  · rw [hd.keep .cbf (by decide) (by decide) (by decide) (by decide)]; exact h.cbf
  · rw [hd.keep .s1c (by decide) (by decide) (by decide) (by decide)]; exact h.s1c
  · rw [hd.keep .e (by decide) (by decide) (by decide) (by decide)]; exact h.e
  · rw [hd.keep .g (by decide) (by decide) (by decide) (by decide)]; exact h.g
  · rw [hd.keep .rl (by decide) (by decide) (by decide) (by decide)]; exact h.rl
  · intro _ a b
    have e1 : s - 8 = s - 9 + 1 := by omega
    rw [hd.dcp, e1, Finset.sum_range_succ _ (s - 9)]
    congr 1
    split
    · rename_i h0; rw [h0]; rfl
    · exact h.dcp (by omega) a b

end Cert.K
-- ==== Proof.K.All.lean ====
/- A whole step: from the scratch counted before it and the input windows' buffers, the scratch counted
   after it and what the step leaves in the output windows' buffers. -/
module

public import proofs.«01_k».proof.Proof.K.Inv

@[expose] public section

noncomputable section

namespace Cert.K

open Idealize.ShloMosaic Idealize.SL.Sem
open Cert.KernelIdeal Cert.KernelIdeal.Facts₀

/-- The scratch before step `s`. -/
def InvAt (A : Args) (s : ℕ) (σ : State Ideal) : Prop := Inv A (min s 4) (min s 32) (min (s - 4) 32) (min (s - 5) 32) (s - 9) σ

/-- What step `s` leaves. -/
structure After (A : Args) (s : ℕ) (σ τ : State Ideal) : Prop where
  inv : InvAt A (s + 1) τ
  ins : ∀ b, isIn b → τ b = σ b
  cd : s < 36 → ∀ (a : Fin 128) (b : Fin 1536), τ .cd (ix2 a b) = cf (A.Z (128 * min s 31 + a.val) b.val)
  cdk : 36 ≤ s → τ .cd = σ .cd
  ds2 : 9 ≤ s → ∀ (a : Fin 128) (b : Fin 1536), τ .ds2 (ix2 a b) = A.DS2 (128 * (s - 9) + a.val) b.val
  dr : ∀ (a : Fin 32) (b : Fin 128), τ .dr (ix2 a b)
    = if a.val + 9 = s then ∑ i ∈ Finset.range 1536, A.DS2 (128 * a.val + b.val) i else σ .dr (ix2 a b)
  ds1 : ∀ (a : Fin 32) (b : Fin 128), τ .ds1 (ix2 a b)
    = if a.val + 9 = s then ∑ i ∈ Finset.range 1536, A.T1 (128 * a.val + b.val) i else σ .ds1 (ix2 a b)
  dc : s = 40 → ∀ (a : Fin 1) (b : Fin 1536), τ .dc (ix2 a b)
    = ∑ k : Fin 8, ∑ p ∈ Finset.range 32, ∑ x ∈ Finset.range 16, A.DS2 (128 * p + (x * 8 + k.val)) b.val
  rlo : s = 40 → ∀ (a : Fin 4) (b : Fin 1536), τ .rlo (ix2 a b)
    = (∑ k : Fin 8, ∑ m ∈ Finset.range 8, ∑ x ∈ Finset.range 64, A.sq (512 * m + (x * 8 + k.val)) (1536 * a.val + b.val))
      * Ideal.ofBits .f32 0x39800000#32

theorem Inv.cast {A : Args} {x c f v q x' c' f' v' q' : ℕ} {σ : State Ideal} (h : Inv A x c f v q σ)
    (e1 : x = x') (e2 : c = c') (e3 : f = f') (e4 : v = v') (e5 : q = q') : Inv A x' c' f' v' q' σ := by
  subst e1 e2 e3 e4 e5; exact h

theorem wdr {A : Args} {n : ℕ} {σ τ : State Ideal} (h : WtsDone A n σ τ) {s : ℕ} (e : s = n + 9) (a : Fin 32) (b : Fin 128) :
    τ .dr (ix2 a b) = if a.val + 9 = s then ∑ i ∈ Finset.range 1536, A.DS2 (128 * a.val + b.val) i else σ .dr (ix2 a b) := by
  rw [h.dr]
  by_cases ha : a.val = n
  · rw [if_pos ha, if_pos (by omega), ha]
  · rw [if_neg ha, if_neg (by omega)]

theorem wds1 {A : Args} {n : ℕ} {σ τ : State Ideal} (h : WtsDone A n σ τ) {s : ℕ} (e : s = n + 9) (a : Fin 32) (b : Fin 128) :
    τ .ds1 (ix2 a b) = if a.val + 9 = s then ∑ i ∈ Finset.range 1536, A.T1 (128 * a.val + b.val) i else σ .ds1 (ix2 a b) := by
  rw [h.ds1]
  by_cases ha : a.val = n
  · rw [if_pos ha, if_pos (by omega), ha]
  · rw [if_neg ha, if_neg (by omega)]

theorem in_ne {b d : B} (h : isIn b) (hd : ¬ isIn d) : b ≠ d := fun e => hd (e ▸ h)

theorem step_all (A : Args) (s : Fin 41) (σ : State Ideal) (hi : InOk A s.val σ) (h : InvAt A s.val σ) :
    After A s.val σ (run (body s) σ).2 := by
  have hlt := s.isLt
  unfold body
  split
  · rename_i h1
    have h1' := (cnd1_iff s).1 h1
    unfold b1
    rw [run_bind]
    obtain ⟨i1, k1⟩ := deq_step A (w0 s) (lt4 h1) s.val h1' rfl σ hi (h.cast (by omega) rfl rfl rfl rfl)
    generalize (run (dequant (w0 s) (lt4 h1)) σ).2 = σ1 at i1 k1 ⊢
    have hi1 : InOk A s.val σ1 := hi.of_eq fun b hb => k1 b (in_ne hb (fun h => h))
    obtain ⟨i2, k2, c2⟩ := codes_step A (wp s) (Sm_p s) s.val (wp_eq s) σ1 hi1 i1
    generalize (run (codes (wp s) (Sm_p s)) σ1).2 = τ at i2 k2 c2 ⊢
    exact ⟨i2.cast (by omega) rfl (by omega) (by omega) (by omega),
      fun b hb => (k2 b (in_ne hb id) (in_ne hb id) (in_ne hb id) (in_ne hb id)).trans (k1 b (in_ne hb id)),
      fun _ => c2, fun h => absurd h (by omega), fun h => absurd h (by omega),
      fun a b => by rw [if_neg (by omega), k2 .dr (by decide) (by decide) (by decide) (by decide), k1 .dr (by decide)],
      fun a b => by rw [if_neg (by omega), k2 .ds1 (by decide) (by decide) (by decide) (by decide), k1 .ds1 (by decide)],
      fun h => absurd h (by omega), fun h => absurd h (by omega)⟩
  split
  · rename_i h1 h2
    have h2' := (cnd2_iff s).1 h2
    unfold b2
    rw [run_bind]
    obtain ⟨i1, k1⟩ := fwd_step A (wu s) (Sm_u (by omega)) s.val (by omega) (by omega) (wu_eq s (by omega)) σ hi
      (h.cast (by omega) rfl (by omega) rfl rfl)
    generalize (run (forward (wu s) (Sm_u (by omega))) σ).2 = σ1 at i1 k1 ⊢
    have hi1 : InOk A s.val σ1 := hi.of_eq fun b hb => k1 b (in_ne hb (fun h => h)) (in_ne hb id)
    obtain ⟨i2, k2, c2⟩ := codes_step A (wp s) (Sm_p s) s.val (wp_eq s) σ1 hi1 i1
    generalize (run (codes (wp s) (Sm_p s)) σ1).2 = τ at i2 k2 c2 ⊢
    exact ⟨i2.cast (by omega) rfl (by omega) (by omega) (by omega),
      fun b hb => (k2 b (in_ne hb id) (in_ne hb id) (in_ne hb id) (in_ne hb id)).trans (k1 b (in_ne hb id) (in_ne hb id)),
      fun _ => c2, fun h => absurd h (by omega), fun h => absurd h (by omega),
      fun a b => by rw [if_neg (by omega), k2 .dr (by decide) (by decide) (by decide) (by decide), k1 .dr (by decide) (by decide)],
      fun a b => by rw [if_neg (by omega), k2 .ds1 (by decide) (by decide) (by decide) (by decide), k1 .ds1 (by decide) (by decide)],
      fun h => absurd h (by omega), fun h => absurd h (by omega)⟩
  split
  · rename_i h1 h2 h3
    have h3' := (cnd3_iff s).1 h3
    unfold b3
    rw [run_bind, run_bind]
    obtain ⟨i1, k1⟩ := fwd_step A (wu s) (Sm_u (by omega)) s.val (by omega) (by omega) (wu_eq s (by omega)) σ hi
      (h.cast (by omega) rfl (by omega) rfl rfl)
    generalize (run (forward (wu s) (Sm_u (by omega))) σ).2 = σ1 at i1 k1 ⊢
    have hi1 : InOk A s.val σ1 := hi.of_eq fun b hb => k1 b (in_ne hb (fun h => h)) (in_ne hb id)
    obtain ⟨i2, k2⟩ := bwd_step A (wv s) (Sm_v (by omega)) s.val (by omega) (by omega) (wv_eq s (by omega)) σ1
      (i1.cast rfl rfl (by omega) (by omega) rfl)
    generalize (run (backward (wv s) (Sm_v (by omega))) σ1).2 = σ2 at i2 k2 ⊢
    have hi2 : InOk A s.val σ2 := hi1.of_eq fun b hb => k2 b (in_ne hb (fun h => h))
    obtain ⟨i3, k3, c3⟩ := codes_step A (wp s) (Sm_p s) s.val (wp_eq s) σ2 hi2 i2
    generalize (run (codes (wp s) (Sm_p s)) σ2).2 = τ at i3 k3 c3 ⊢
    exact ⟨i3.cast (by omega) rfl (by omega) (by omega) (by omega),
      fun b hb => ((k3 b (in_ne hb id) (in_ne hb id) (in_ne hb id) (in_ne hb id)).trans (k2 b (in_ne hb id))).trans (k1 b (in_ne hb id) (in_ne hb id)),
      fun _ => c3, fun h => absurd h (by omega), fun h => absurd h (by omega),
      fun a b => by rw [if_neg (by omega), k3 .dr (by decide) (by decide) (by decide) (by decide), k2 .dr (by decide), k1 .dr (by decide) (by decide)],
      fun a b => by rw [if_neg (by omega), k3 .ds1 (by decide) (by decide) (by decide) (by decide), k2 .ds1 (by decide), k1 .ds1 (by decide) (by decide)],
      fun h => absurd h (by omega), fun h => absurd h (by omega)⟩
  split
  · rename_i h1 h2 h3 h4
    have h4' := (cnd4_iff s).1 h4
    unfold b4
    rw [run_bind, run_bind, run_bind]
    obtain ⟨i1, k1⟩ := fwd_step A (wu s) (Sm_u (by omega)) s.val (by omega) (by omega) (wu_eq s (by omega)) σ hi
      (h.cast (by omega) rfl (by omega) rfl rfl)
    generalize (run (forward (wu s) (Sm_u (by omega))) σ).2 = σ1 at i1 k1 ⊢
    have hi1 : InOk A s.val σ1 := hi.of_eq fun b hb => k1 b (in_ne hb (fun h => h)) (in_ne hb id)
    obtain ⟨i2, k2⟩ := bwd_step A (wv s) (Sm_v (by omega)) s.val (by omega) (by omega) (wv_eq s (by omega)) σ1
      (i1.cast rfl rfl (by omega) (by omega) rfl)
    generalize (run (backward (wv s) (Sm_v (by omega))) σ1).2 = σ2 at i2 k2 ⊢
    have hi2 : InOk A s.val σ2 := hi1.of_eq fun b hb => k2 b (in_ne hb (fun h => h))
    obtain ⟨iw, kw, dw⟩ := wts_step A (wq s) (Sm_q (by omega)) s.val (by omega) (by omega) (wq_eq s (by omega)) σ2 hi2
      (i2.cast rfl rfl rfl (by omega) rfl)
    generalize (run (weights (wq s) (Sm_q (by omega))) σ2).2 = σ3 at iw kw dw ⊢
    have hi3 : InOk A s.val σ3 := hi2.of_eq fun b hb => kw b (in_ne hb id) (in_ne hb id) (in_ne hb id) (in_ne hb id)
    obtain ⟨i3, k3, c3⟩ := codes_step A (wp s) (Sm_p s) s.val (wp_eq s) σ3 hi3 iw
    generalize (run (codes (wp s) (Sm_p s)) σ3).2 = τ at i3 k3 c3 ⊢
    exact ⟨i3.cast (by omega) rfl (by omega) (by omega) (by omega),
      fun b hb => (((k3 b (in_ne hb id) (in_ne hb id) (in_ne hb id) (in_ne hb id)).trans (kw b (in_ne hb id) (in_ne hb id) (in_ne hb id) (in_ne hb id))).trans (k2 b (in_ne hb id))).trans (k1 b (in_ne hb id) (in_ne hb id)),
      fun _ => c3, fun h => absurd h (by omega),
      fun _ a b => by rw [k3 .ds2 (by decide) (by decide) (by decide) (by decide), dw.ds2],
      fun a b => by rw [k3 .dr (by decide) (by decide) (by decide) (by decide), wdr dw (s := s.val) (by omega) a b, k2 .dr (by decide), k1 .dr (by decide) (by decide)],
      fun a b => by rw [k3 .ds1 (by decide) (by decide) (by decide) (by decide), wds1 dw (s := s.val) (by omega) a b, k2 .ds1 (by decide), k1 .ds1 (by decide) (by decide)],
      fun h => absurd h (by omega), fun h => absurd h (by omega)⟩
  split
  · rename_i h1 h2 h3 h4 h5
    have h5' := (cnd5_iff s).1 h5
    unfold b5
    rw [run_bind]
    obtain ⟨i2, k2⟩ := bwd_step A (wv s) (Sm_v (by omega)) s.val (by omega) (by omega) (wv_eq s (by omega)) σ
      (h.cast (by omega) rfl (by omega) (by omega) rfl)
    generalize (run (backward (wv s) (Sm_v (by omega))) σ).2 = σ2 at i2 k2 ⊢
    have hi2 : InOk A s.val σ2 := hi.of_eq fun b hb => k2 b (in_ne hb (fun h => h))
    obtain ⟨iw, kw, dw⟩ := wts_step A (wq s) (Sm_q (by omega)) s.val (by omega) (by omega) (wq_eq s (by omega)) σ2 hi2
      (i2.cast rfl rfl rfl (by omega) rfl)
    generalize (run (weights (wq s) (Sm_q (by omega))) σ2).2 = τ at iw kw dw ⊢
    exact ⟨iw.cast (by omega) (by omega) (by omega) (by omega) (by omega),
      fun b hb => (kw b (in_ne hb id) (in_ne hb id) (in_ne hb id) (in_ne hb id)).trans (k2 b (in_ne hb id)),
      fun h => absurd h (by omega), fun _ => by rw [kw .cd (by decide) (by decide) (by decide) (by decide), k2 .cd (by decide)],
      fun _ => dw.ds2,
      fun a b => by rw [wdr dw (s := s.val) (by omega) a b, k2 .dr (by decide)],
      fun a b => by rw [wds1 dw (s := s.val) (by omega) a b, k2 .ds1 (by decide)],
      fun h => absurd h (by omega), fun h => absurd h (by omega)⟩
  rename_i h1 h2 h3 h4 h5
  have h6 : 37 ≤ s.val := by
    have n1 : ¬ _ := fun h => h1 ((cnd1_iff s).2 h)
    have n2 : ¬ _ := fun h => h2 ((cnd2_iff s).2 h)
    have n3 : ¬ _ := fun h => h3 ((cnd3_iff s).2 h)
    have n4 : ¬ _ := fun h => h4 ((cnd4_iff s).2 h)
    have n5 : ¬ _ := fun h => h5 ((cnd5_iff s).2 h)
    omega
  rw [dif_pos ((cnd6_iff s).2 h6)]
  obtain ⟨iw, kw, dw⟩ := wts_step A (wq s) (Sm_q (by omega)) s.val (by omega) (by omega) (wq_eq s (by omega)) σ hi
      (h.cast (by omega) rfl rfl (by omega) rfl)
  split
  · rename_i h7
    have h7' := (cnd7_iff s).1 h7
    unfold b6
    rw [run_bind]
    generalize (run (weights (wq s) (Sm_q (by omega))) σ).2 = σ3 at iw kw dw ⊢
    have hf := final_at σ3
    generalize (run final σ3).2 = τ at hf ⊢
    refine ⟨⟨?_, ?_, ?_, ?_, ?_, ?_, ?_, ?_⟩,
      fun b hb => (hf.keep b (in_ne hb id) (in_ne hb id)).trans (kw b (in_ne hb id) (in_ne hb id) (in_ne hb id) (in_ne hb id)),
      fun h => absurd h (by omega), fun _ => by rw [hf.keep .cd (by decide) (by decide), kw .cd (by decide) (by decide) (by decide) (by decide)],
      fun _ a b => by rw [hf.keep .ds2 (by decide) (by decide), dw.ds2],
      fun a b => by rw [hf.keep .dr (by decide) (by decide), wdr dw (s := s.val) (by omega) a b],
      fun a b => by rw [hf.keep .ds1 (by decide) (by decide), wds1 dw (s := s.val) (by omega) a b],
      fun _ a b => ?_, fun _ a b => ?_⟩
    all_goals
      have iw' := iw.cast (x' := min (s.val + 1) 4) (c' := min (s.val + 1) 32) (f' := min (s.val + 1 - 4) 32) (v' := min (s.val + 1 - 5) 32)
        (q' := s.val + 1 - 9) (by omega) (by omega) (by omega) (by omega) (by omega)
    · rw [hf.keep .xs (by decide) (by decide)]; exact iw'.xs
    · rw [hf.keep .z (by decide) (by decide)]; exact iw'.z
    · rw [hf.keep .cbf (by decide) (by decide)]; exact iw'.cbf
    · rw [hf.keep .s1c (by decide) (by decide)]; exact iw'.s1c
    · rw [hf.keep .e (by decide) (by decide)]; exact iw'.e
    · rw [hf.keep .g (by decide) (by decide)]; exact iw'.g
    · rw [hf.keep .rl (by decide) (by decide)]; exact iw'.rl
    · rw [hf.keep .dcp (by decide) (by decide)]; exact iw'.dcp
    · rw [hf.dc]
      refine Finset.sum_congr rfl fun k _ => ?_
      rw [iw'.dcp (by omega)]
      have : s.val + 1 - 9 = 32 := by omega
      rw [this]
    · rw [hf.rlo]
      congr 1
      refine Finset.sum_congr rfl fun k _ => ?_
      rw [iw'.rl a k b (by omega)]
      have : (min (s.val + 1 - 4) 32 + 3 - a.val) / 4 = 8 := by omega
      rw [this]
  · rename_i h7
    have h7' : s.val ≠ 40 := fun h => h7 ((cnd7_iff s).2 h)
    unfold b6
    generalize (run (weights (wq s) (Sm_q (by omega))) σ).2 = τ at iw kw dw ⊢
    exact ⟨iw.cast (by omega) (by omega) (by omega) (by omega) (by omega),
      fun b hb => kw b (in_ne hb id) (in_ne hb id) (in_ne hb id) (in_ne hb id),
      fun h => absurd h (by omega), fun _ => kw .cd (by decide) (by decide) (by decide) (by decide),
      fun _ => dw.ds2, fun a b => wdr dw (s := s.val) (by omega) a b, fun a b => wds1 dw (s := s.val) (by omega) a b,
      fun h => absurd h (by omega), fun h => absurd h (by omega)⟩

end Cert.K
-- ==== Proof.K.ArgsOf.lean ====
/- The argument arrays as functions of natural numbers, and a code read back as the number it stores. -/
module

public import proofs.«01_k».proof.Proof.K.Run

@[expose] public section

noncomputable section

namespace Cert.K

open Idealize.ShloMosaic

/-- The arguments, zero outside their arrays. -/
def argsOf (a0 : (⟨3, ![24, 256, 1536]⟩ : Shape).Idx → EReal) (a1 : (⟨3, ![24, 256, 48]⟩ : Shape).Idx → EReal)
    (a2 : (⟨2, ![4096, 1536]⟩ : Shape).Idx → EReal) (a3 : (⟨1, ![4096]⟩ : Shape).Idx → EReal)
    (a4 : (⟨2, ![4096, 1536]⟩ : Shape).Idx → EReal) (a5 : (⟨1, ![4096]⟩ : Shape).Idx → EReal)
    (a6 : (⟨1, ![1536]⟩ : Shape).Idx → EReal) (a7 : (⟨3, ![24, 256, 4096]⟩ : Shape).Idx → EReal) : Args where
  X t i := if h : t < 6144 ∧ i < 1536 then a0 (ix3 ⟨t / 256, by omega⟩ ⟨t % 256, by omega⟩ ⟨i, h.2⟩) else 0
  XS t i := if h : t < 6144 ∧ i < 48 then a1 (ix3 ⟨t / 256, by omega⟩ ⟨t % 256, by omega⟩ ⟨i, h.2⟩) else 0
  W o i := if h : o < 4096 ∧ i < 1536 then a2 (ix2 ⟨o, h.1⟩ ⟨i, h.2⟩) else 0
  S2 o i := if h : o < 4096 ∧ i < 1536 then a4 (ix2 ⟨o, h.1⟩ ⟨i, h.2⟩) else 0
  S1 o := if h : o < 4096 then a3 (ix1 ⟨o, h⟩) else 0
  R o := if h : o < 4096 then a5 (ix1 ⟨o, h⟩) else 0
  C i := if h : i < 1536 then a6 (ix1 ⟨i, h⟩) else 0
  YT t o := if h : t < 6144 ∧ o < 4096 then a7 (ix3 ⟨t / 256, by omega⟩ ⟨t % 256, by omega⟩ ⟨o, h.2⟩) else 0

section
variable (a0 : (⟨3, ![24, 256, 1536]⟩ : Shape).Idx → EReal) (a1 : (⟨3, ![24, 256, 48]⟩ : Shape).Idx → EReal)
    (a2 : (⟨2, ![4096, 1536]⟩ : Shape).Idx → EReal) (a3 : (⟨1, ![4096]⟩ : Shape).Idx → EReal)
    (a4 : (⟨2, ![4096, 1536]⟩ : Shape).Idx → EReal) (a5 : (⟨1, ![4096]⟩ : Shape).Idx → EReal)
    (a6 : (⟨1, ![1536]⟩ : Shape).Idx → EReal) (a7 : (⟨3, ![24, 256, 4096]⟩ : Shape).Idx → EReal)

theorem X_of (t i : ℕ) (ht : t < 6144) (hi : i < 1536) :
    (argsOf a0 a1 a2 a3 a4 a5 a6 a7).X t i = a0 (ix3 ⟨t / 256, by omega⟩ ⟨t % 256, by omega⟩ ⟨i, hi⟩) := dif_pos ⟨ht, hi⟩
theorem XS_of (t i : ℕ) (ht : t < 6144) (hi : i < 48) :
    (argsOf a0 a1 a2 a3 a4 a5 a6 a7).XS t i = a1 (ix3 ⟨t / 256, by omega⟩ ⟨t % 256, by omega⟩ ⟨i, hi⟩) := dif_pos ⟨ht, hi⟩
theorem W_of (o i : ℕ) (ho : o < 4096) (hi : i < 1536) :
    (argsOf a0 a1 a2 a3 a4 a5 a6 a7).W o i = a2 (ix2 ⟨o, ho⟩ ⟨i, hi⟩) := dif_pos ⟨ho, hi⟩
theorem S2_of (o i : ℕ) (ho : o < 4096) (hi : i < 1536) :
    (argsOf a0 a1 a2 a3 a4 a5 a6 a7).S2 o i = a4 (ix2 ⟨o, ho⟩ ⟨i, hi⟩) := dif_pos ⟨ho, hi⟩
theorem S1_of (o : ℕ) (ho : o < 4096) : (argsOf a0 a1 a2 a3 a4 a5 a6 a7).S1 o = a3 (ix1 ⟨o, ho⟩) := dif_pos ho
theorem R_of (o : ℕ) (ho : o < 4096) : (argsOf a0 a1 a2 a3 a4 a5 a6 a7).R o = a5 (ix1 ⟨o, ho⟩) := dif_pos ho
theorem C_of (i : ℕ) (hi : i < 1536) : (argsOf a0 a1 a2 a3 a4 a5 a6 a7).C i = a6 (ix1 ⟨i, hi⟩) := dif_pos hi
theorem YT_of (t o : ℕ) (ht : t < 6144) (ho : o < 4096) :
    (argsOf a0 a1 a2 a3 a4 a5 a6 a7).YT t o = a7 (ix3 ⟨t / 256, by omega⟩ ⟨t % 256, by omega⟩ ⟨o, ho⟩) := dif_pos ⟨ht, ho⟩
end

/-- A rounded and clipped quotient is one of the integers from -8 to 7. -/
theorem qf_int (z : EReal) : ∃ n : ℤ, -8 ≤ n ∧ n ≤ 7 ∧ qf z = ((n : ℝ) : EReal) := by
  have e1 : (7#32 : BitVec 32).toInt = 7 := by decide
  have e2 : (4294967288#32 : BitVec 32).toInt = -8 := by decide
  unfold qf
  rw [e1, e2]
  induction z using EReal.rec with
  | bot =>
    refine ⟨-8, le_rfl, by norm_num, ?_⟩
    rw [Ideal.liftRound_bot, max_eq_left bot_le, min_eq_right (by exact_mod_cast (by norm_num : (-8 : ℤ) ≤ 7))]
  | top =>
    refine ⟨7, by norm_num, le_rfl, ?_⟩
    rw [Ideal.liftRound_top, max_eq_right le_top, min_eq_left le_top]
  | coe r =>
    refine ⟨min 7 (max (-8) (Ideal.roundHalfEven r)), by omega, by omega, ?_⟩
    rw [Ideal.liftRound_coe]
    have hm : Monotone fun n : ℤ => (((n : ℤ) : ℝ) : EReal) := fun a b h =>
      EReal.coe_le_coe_iff.2 (Int.cast_le.2 h)
    exact ((hm.map_min (a := 7) (b := max (-8) (Ideal.roundHalfEven r))).trans
      (congrArg (min _) (hm.map_max (a := -8) (b := Ideal.roundHalfEven r)))).symm

/-- A code, read as a number, is the rounded and clipped quotient. -/
theorem cf_toInt (z : EReal) : (((cf z).toInt : ℝ) : EReal) = qf z := by
  obtain ⟨n, h1, h2, h⟩ := qf_int z
  have e : cf z = BitVec.ofInt 8 n := by
    show Ideal.fptosi 8 (qf z) = _
    rw [h, Ideal.fptosi, Ideal.toIntClamped_coe, Int.floor_intCast, Int.ceil_intCast, ite_self]
    congr 1
    norm_num
    omega
  rw [e, h]
  have : (BitVec.ofInt 8 n).toInt = n := by
    interval_cases n <;> decide
  rw [this]

end Cert.K
-- ==== Proof.K.Fin.lean ====
/- What the windows' buffers hold while the region runs, from the argument arrays. -/
module

public import proofs.«01_k».proof.Proof.K.All
public import proofs.«01_k».proof.Proof.K.ArgsOf
public import proofs.«01_k».proof.Proof.K.Launch
public import Idealize.ShloMosaic.Lib.StableHlo.RunRead
public import Idealize.ShloMosaic.Lib.Pipeline.Value

@[expose] public section

noncomputable section

namespace Cert.K

open Idealize.ShloMosaic Idealize.ShloMosaic.TcCoe Idealize.SL.Sem
open Cert.KernelIdeal Cert.KernelIdeal.Gen
open Idealize.ShloMosaic.Pipeline (RDat Dat)

variable (m : (ℓ : Loc nD τ sig) → Buf (Elt Ideal) ℓ) (c : Dev nD)

/-- The arguments of a core's memory. -/
def argsAt : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7))

/-! ## The arrays the region finds -/

theorem cast0 (x : Vec Ideal S24x256x1536 .fp8e4m3) (t : Fin 6144) (i : Fin 1536) :
    shapeCast S6144x1536 x shapeCasts_S24x256x1536_S6144x1536 (ix2 t i) = x (ix3 ⟨t.val / 256, by omega⟩ ⟨t.val % 256, by omega⟩ i) := by
  pointwise []
theorem cast1 (x : Vec Ideal S24x256x48 .f32) (t : Fin 6144) (i : Fin 48) :
    shapeCast S6144x48 x shapeCasts_S24x256x48_S6144x48 (ix2 t i) = x (ix3 ⟨t.val / 256, by omega⟩ ⟨t.val % 256, by omega⟩ i) := by
  pointwise []
theorem cast2 (x : Vec Ideal S4096 .f32) (a : Fin 32) (b : Fin 128) :
    shapeCast S32x128 x shapeCasts_S4096_S32x128 (ix2 a b) = x (ix1 ⟨128 * a.val + b.val, by omega⟩) := by
  pointwise []
  simp only [Nat.mul_comm 128 a.val]
theorem cast4 (x : Vec Ideal S1536 .f32) (a : Fin 1) (b : Fin 1536) :
    shapeCast S1x1536 x shapeCasts_S1536_S1x1536 (ix2 a b) = x (ix1 b) := by
  pointwise []
theorem cast5 (x : Vec Ideal S24x256x4096 .bf16) (t : Fin 6144) (i : Fin 4096) :
    shapeCast S6144x4096 x shapeCasts_S24x256x4096_S6144x4096 (ix2 t i) = x (ix3 ⟨t.val / 256, by omega⟩ ⟨t.val % 256, by omega⟩ i) := by
  pointwise []

theorem V_v0 (t : Fin 6144) (i : Fin 1536) : V m c main_v0 (ix2 t i) = (argsAt m c).X t.val i.val := by
  have e : V m c main_v0 = shapeCast S6144x1536 (m ((c : Thread nD τ).loc main_arg0)) shapeCasts_S24x256x1536_S6144x1536 := by
    unfold V; after_reads_simp; rfl
  rw [e, argsAt, X_of _ _ _ _ _ _ _ _ _ _ t.isLt i.isLt]
  exact cast0 _ _ _

theorem V_v1 (t : Fin 6144) (i : Fin 48) : V m c main_v1 (ix2 t i) = (argsAt m c).XS t.val i.val := by
  have e : V m c main_v1 = shapeCast S6144x48 (m ((c : Thread nD τ).loc main_arg1)) shapeCasts_S24x256x48_S6144x48 := by
    unfold V; after_reads_simp; rfl
  rw [e, argsAt, XS_of _ _ _ _ _ _ _ _ _ _ t.isLt i.isLt]
  exact cast1 _ _ _

theorem V_v2 (a : Fin 32) (b : Fin 128) : V m c main_v2 (ix2 a b) = (argsAt m c).S1 (128 * a.val + b.val) := by
  have e : V m c main_v2 = shapeCast S32x128 (m ((c : Thread nD τ).loc main_arg3)) shapeCasts_S4096_S32x128 := by
    unfold V; after_reads_simp; rfl
  rw [e, argsAt, S1_of _ _ _ _ _ _ _ _ _ (by omega)]
  exact cast2 _ _ _

theorem V_v3 (a : Fin 32) (b : Fin 128) : V m c main_v3 (ix2 a b) = (argsAt m c).R (128 * a.val + b.val) := by
  have e : V m c main_v3 = shapeCast S32x128 (m ((c : Thread nD τ).loc main_arg5)) shapeCasts_S4096_S32x128 := by
    unfold V; after_reads_simp; rfl
  rw [e, argsAt, R_of _ _ _ _ _ _ _ _ _ (by omega)]
  exact cast2 _ _ _

theorem V_v4 (a : Fin 1) (b : Fin 1536) : V m c main_v4 (ix2 a b) = (argsAt m c).C b.val := by
  have e : V m c main_v4 = shapeCast S1x1536 (m ((c : Thread nD τ).loc main_arg6)) shapeCasts_S1536_S1x1536 := by
    unfold V; after_reads_simp; rfl
  rw [e, argsAt, C_of _ _ _ _ _ _ _ _ _ b.isLt]
  exact cast4 _ _ _

theorem V_v5 (t : Fin 6144) (o : Fin 4096) : V m c main_v5 (ix2 t o) = (argsAt m c).YT t.val o.val := by
  have e : V m c main_v5 = shapeCast S6144x4096 (m ((c : Thread nD τ).loc main_arg7)) shapeCasts_S24x256x4096_S6144x4096 := by
    unfold V; after_reads_simp; rfl
  rw [e, argsAt, YT_of _ _ _ _ _ _ _ _ _ _ t.isLt o.isLt]
  exact cast5 _ _ _

theorem V_a2 (o : Fin 4096) (i : Fin 1536) : V m c main_arg2 (ix2 o i) = (argsAt m c).W o.val i.val := by
  rw [V_main_arg2, argsAt, W_of _ _ _ _ _ _ _ _ _ _ o.isLt i.isLt]

theorem V_a4 (o : Fin 4096) (i : Fin 1536) : V m c main_arg4 (ix2 o i) = (argsAt m c).S2 o.val i.val := by
  rw [V_main_arg4, argsAt, S2_of _ _ _ _ _ _ _ _ _ _ o.isLt i.isLt]

/-! ## The windows' blocks -/

theorem idx0 : ∀ t : Fin cfg0.N, win0_0.index t (0 : Fin 2) = min t.val 3 ∧ win0_0.index t (1 : Fin 2) = 0 := (by decide +kernel : ∀ t : Fin grid0.N, _)
theorem idx1 : ∀ t : Fin cfg0.N, win0_1.index t (0 : Fin 2) = min t.val 3 ∧ win0_1.index t (1 : Fin 2) = 0 := (by decide +kernel : ∀ t : Fin grid0.N, _)
theorem idx2 : ∀ t : Fin cfg0.N, win0_2.index t (0 : Fin 2) = min t.val 31 ∧ win0_2.index t (1 : Fin 2) = 0 := (by decide +kernel : ∀ t : Fin grid0.N, _)
theorem idx3 : ∀ t : Fin cfg0.N, win0_3.index t (0 : Fin 2) = min t.val 31 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = min (t.val - 4) 31 % 4 ∧ win0_7.index t (1 : Fin 2) = min (t.val - 4) 31 / 4 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = t.val - 9 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)
theorem idx12 : ∀ t : Fin cfg0.N, win0_12.index t (0 : Fin 2) = 0 ∧ win0_12.index t (1 : Fin 2) = 0 := (by decide +kernel : ∀ t : Fin grid0.N, _)
theorem idx13 : ∀ t : Fin cfg0.N, win0_13.index t (0 : Fin 2) = min t.val 31 ∧ win0_13.index t (1 : Fin 2) = 0 := (by decide +kernel : ∀ t : Fin grid0.N, _)

theorem lt41 (t : Fin cfg0.N) : t.val < 41 := t.isLt

theorem emb0 (t : Fin cfg0.N) (a : Fin 1536) (b : Fin 1536) :
    ((cfg0.win 0).blk t).view.emb (ix2 a b) = ix2 (⟨min t.val 3 * 1536 + a.val, by omega⟩ : Fin 6144) b := by
  obtain ⟨e0, e1⟩ := idx0 t
  funext d; apply Fin.ext
  match d with
  | ⟨0, _⟩ => show win0_0.index t (0 : Fin 2) * 1536 + 1 * a.val = _; rw [e0, Nat.one_mul]; rfl
  | ⟨1, _⟩ => show win0_0.index t (1 : Fin 2) * 1536 + 1 * b.val = b.val; rw [e1]; omega
theorem emb1 (t : Fin cfg0.N) (a : Fin 1536) (b : Fin 48) :
    ((cfg0.win 1).blk t).view.emb (ix2 a b) = ix2 (⟨min t.val 3 * 1536 + a.val, by omega⟩ : Fin 6144) b := by
  obtain ⟨e0, e1⟩ := idx1 t
  funext d; apply Fin.ext
  match d with
  | ⟨0, _⟩ => show win0_1.index t (0 : Fin 2) * 1536 + 1 * a.val = _; rw [e0, Nat.one_mul]; rfl
  | ⟨1, _⟩ => show win0_1.index t (1 : Fin 2) * 48 + 1 * b.val = b.val; rw [e1]; omega
theorem emb2 (t : Fin cfg0.N) (a : Fin 128) (b : Fin 1536) :
    ((cfg0.win 2).blk t).view.emb (ix2 a b) = ix2 (⟨min t.val 31 * 128 + a.val, by omega⟩ : Fin 4096) b := by
  obtain ⟨e0, e1⟩ := idx2 t
  funext d; apply Fin.ext
  match d with
  | ⟨0, _⟩ => show win0_2.index t (0 : Fin 2) * 128 + 1 * a.val = _; rw [e0, Nat.one_mul]; rfl
  | ⟨1, _⟩ => show win0_2.index t (1 : Fin 2) * 1536 + 1 * b.val = b.val; rw [e1]; omega
theorem emb3 (t : Fin cfg0.N) (a : Fin 128) (b : Fin 1536) :
    ((cfg0.win 3).blk t).view.emb (ix2 a b) = ix2 (⟨min t.val 31 * 128 + a.val, by omega⟩ : Fin 4096) b := by
  obtain ⟨e0, e1⟩ := idx3 t
  funext d; apply Fin.ext
  match d with
  | ⟨0, _⟩ => show win0_3.index t (0 : Fin 2) * 128 + 1 * a.val = _; rw [e0, Nat.one_mul]; rfl
  | ⟨1, _⟩ => show win0_3.index t (1 : Fin 2) * 1536 + 1 * b.val = b.val; rw [e1]; omega
theorem emb4 (t : Fin cfg0.N) (a : Fin 32) (b : Fin 128) : ((cfg0.win 4).blk t).view.emb (ix2 a b) = ix2 a b := by
  obtain ⟨e0, e1⟩ := idx4 t
  funext d; apply Fin.ext
  match d with
  | ⟨0, _⟩ => show win0_4.index t (0 : Fin 2) * 32 + 1 * a.val = a.val; rw [e0]; omega
  | ⟨1, _⟩ => show win0_4.index t (1 : Fin 2) * 128 + 1 * b.val = b.val; rw [e1]; omega
theorem emb5 (t : Fin cfg0.N) (a : Fin 32) (b : Fin 128) : ((cfg0.win 5).blk t).view.emb (ix2 a b) = ix2 a b := by
  obtain ⟨e0, e1⟩ := idx5 t
  funext d; apply Fin.ext
  match d with
  | ⟨0, _⟩ => show win0_5.index t (0 : Fin 2) * 32 + 1 * a.val = a.val; rw [e0]; omega
  | ⟨1, _⟩ => show win0_5.index t (1 : Fin 2) * 128 + 1 * b.val = b.val; rw [e1]; omega
theorem emb6 (t : Fin cfg0.N) (a : Fin 1) (b : Fin 1536) : ((cfg0.win 6).blk t).view.emb (ix2 a b) = ix2 a b := by
  obtain ⟨e0, e1⟩ := idx6 t
  funext d; apply Fin.ext
  match d with
  | ⟨0, _⟩ => show win0_6.index t (0 : Fin 2) * 1 + 1 * a.val = a.val; rw [e0]; omega
  | ⟨1, _⟩ => show win0_6.index t (1 : Fin 2) * 1536 + 1 * b.val = b.val; rw [e1]; omega
theorem emb8 (t : Fin cfg0.N) (a : Fin 4) (b : Fin 1536) : ((cfg0.win 8).blk t).view.emb (ix2 a b) = ix2 a b := by
  obtain ⟨e0, e1⟩ := idx8 t
  funext d; apply Fin.ext
  match d with
  | ⟨0, _⟩ => show win0_8.index t (0 : Fin 2) * 4 + 1 * a.val = a.val; rw [e0]; omega
  | ⟨1, _⟩ => show win0_8.index t (1 : Fin 2) * 1536 + 1 * b.val = b.val; rw [e1]; omega
theorem emb10 (t : Fin cfg0.N) (a : Fin 32) (b : Fin 128) : ((cfg0.win 10).blk t).view.emb (ix2 a b) = ix2 a b := by
  obtain ⟨e0, e1⟩ := idx10 t
  funext d; apply Fin.ext
  match d with
  | ⟨0, _⟩ => show win0_10.index t (0 : Fin 2) * 32 + 1 * a.val = a.val; rw [e0]; omega
  | ⟨1, _⟩ => show win0_10.index t (1 : Fin 2) * 128 + 1 * b.val = b.val; rw [e1]; omega
theorem emb11 (t : Fin cfg0.N) (a : Fin 1) (b : Fin 1536) : ((cfg0.win 11).blk t).view.emb (ix2 a b) = ix2 a b := by
  obtain ⟨e0, e1⟩ := idx11 t
  funext d; apply Fin.ext
  match d with
  | ⟨0, _⟩ => show win0_11.index t (0 : Fin 2) * 1 + 1 * a.val = a.val; rw [e0]; omega
  | ⟨1, _⟩ => show win0_11.index t (1 : Fin 2) * 1536 + 1 * b.val = b.val; rw [e1]; omega
theorem emb12 (t : Fin cfg0.N) (a : Fin 32) (b : Fin 128) : ((cfg0.win 12).blk t).view.emb (ix2 a b) = ix2 a b := by
  obtain ⟨e0, e1⟩ := idx12 t
  funext d; apply Fin.ext
  match d with
  | ⟨0, _⟩ => show win0_12.index t (0 : Fin 2) * 32 + 1 * a.val = a.val; rw [e0]; omega
  | ⟨1, _⟩ => show win0_12.index t (1 : Fin 2) * 128 + 1 * b.val = b.val; rw [e1]; omega
theorem emb9 (t : Fin cfg0.N) (a : Fin 128) (b : Fin 1536) :
    ((cfg0.win 9).blk t).view.emb (ix2 a b) = ix2 (⟨(t.val - 9) * 128 + a.val, by have := lt41 t; omega⟩ : Fin 4096) b := by
  obtain ⟨e0, e1⟩ := idx9 t
  funext d; apply Fin.ext
  match d with
  | ⟨0, _⟩ => show win0_9.index t (0 : Fin 2) * 128 + 1 * a.val = _; rw [e0, Nat.one_mul]; rfl
  | ⟨1, _⟩ => show win0_9.index t (1 : Fin 2) * 1536 + 1 * b.val = b.val; rw [e1]; omega
theorem emb13 (t : Fin cfg0.N) (a : Fin 128) (b : Fin 1536) :
    ((cfg0.win 13).blk t).view.emb (ix2 a b) = ix2 (⟨min t.val 31 * 128 + a.val, by have := lt41 t; omega⟩ : Fin 4096) b := by
  obtain ⟨e0, e1⟩ := idx13 t
  funext d; apply Fin.ext
  match d with
  | ⟨0, _⟩ => show win0_13.index t (0 : Fin 2) * 128 + 1 * a.val = _; rw [e0, Nat.one_mul]; rfl
  | ⟨1, _⟩ => show win0_13.index t (1 : Fin 2) * 1536 + 1 * b.val = b.val; rw [e1]; omega
theorem emb7 (t : Fin cfg0.N) (a : Fin 1536) (b : Fin 512) :
    ((cfg0.win 7).blk t).view.emb (ix2 a b)
      = ix2 (⟨min (t.val - 4) 31 % 4 * 1536 + a.val, by omega⟩ : Fin 6144) (⟨min (t.val - 4) 31 / 4 * 512 + b.val, by omega⟩ : Fin 4096) := by
  obtain ⟨e0, e1⟩ := idx7 t
  funext d; apply Fin.ext
  match d with
  | ⟨0, _⟩ => show win0_7.index t (0 : Fin 2) * 1536 + 1 * a.val = _; rw [e0, Nat.one_mul]; rfl
  | ⟨1, _⟩ => show win0_7.index t (1 : Fin 2) * 512 + 1 * b.val = _; rw [e1, Nat.one_mul]; rfl

/-! ## What an input window's buffer holds -/

section
variable (aft : (w : Fin 14) → Fin cfg0.N → ((win0 w).block.Idx → Elt Ideal (win0 w).elt) → ((win0 w).block.Idx → Elt Ideal (win0 w).elt) → Prop)
  (I : ℕ → Scr Ideal → Prop)

theorem fetched0 (t : Fin cfg0.N) (d) (a b : Fin 1536) :
    (rdat m aft I c).fetched 0 t d (ix2 a b) = V m c main_v0 (ix2 (⟨min t.val 3 * 1536 + a.val, by omega⟩ : Fin 6144) b) := by
  rw [← emb0]
  rfl

end

end Cert.K
-- ==== Proof.K.Out.lean ====
/- The kernel's run over the extended reals: what each step leaves in the windows' buffers, and what the
   result arrays end holding. -/
module

public import proofs.«01_k».proof.Proof.K.Fin

@[expose] public section

noncomputable section

namespace Cert.K

open Idealize.ShloMosaic Idealize.ShloMosaic.TcCoe Idealize.SL.Sem
open Cert.KernelIdeal Cert.KernelIdeal.Gen
open Idealize.ShloMosaic.Pipeline (RDat Dat)

/-! ## The results -/

/-- The loss of a token. -/
def rloF (A : Args) (a b : ℕ) : EReal :=
  (∑ k : Fin 8, ∑ m ∈ Finset.range 8, ∑ x ∈ Finset.range 64, A.sq (512 * m + (x * 8 + k.val)) (1536 * a + b)) * Ideal.ofBits .f32 0x39800000#32
/-- The gradient by the column offsets. -/
def dcF (A : Args) (b : ℕ) : EReal :=
  ∑ k : Fin 8, ∑ p ∈ Finset.range 32, ∑ x ∈ Finset.range 16, A.DS2 (128 * p + (x * 8 + k.val)) b
/-- The gradient by the row offsets. -/
def drF (A : Args) (o : ℕ) : EReal := ∑ i ∈ Finset.range 1536, A.DS2 o i
/-- The gradient by the row scales. -/
def ds1F (A : Args) (o : ℕ) : EReal := ∑ i ∈ Finset.range 1536, A.T1 o i

/-- What a step found in a window's buffer and what it leaves there. -/
def aftK (A : Args) : (w : Fin 14) → Fin cfg0.N → ((win0 w).block.Idx → Elt Ideal (win0 w).elt) → ((win0 w).block.Idx → Elt Ideal (win0 w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun _ Y X => X = Y
  | 8 => fun t _ (X : (⟨2, ![4, 1536]⟩ : Shape).Idx → EReal) => t.val = 40 → ∀ (a : Fin 4) (b : Fin 1536), X (ix2 a b) = rloF A a.val b.val
  | 9 => fun t _ (X : (⟨2, ![128, 1536]⟩ : Shape).Idx → EReal) => 9 ≤ t.val → ∀ (a : Fin 128) (b : Fin 1536), X (ix2 a b) = A.DS2 (128 * (t.val - 9) + a.val) b.val
  | 10 => fun t _ (X : (⟨2, ![32, 128]⟩ : Shape).Idx → EReal) => ∀ (a : Fin 32) (b : Fin 128), a.val + 9 ≤ t.val → X (ix2 a b) = drF A (128 * a.val + b.val)
  | 11 => fun t _ (X : (⟨2, ![1, 1536]⟩ : Shape).Idx → EReal) => t.val = 40 → ∀ (a : Fin 1) (b : Fin 1536), X (ix2 a b) = dcF A b.val
  | 12 => fun t _ (X : (⟨2, ![32, 128]⟩ : Shape).Idx → EReal) => ∀ (a : Fin 32) (b : Fin 128), a.val + 9 ≤ t.val → X (ix2 a b) = ds1F A (128 * a.val + b.val)
  | 13 => fun t _ (X : (⟨2, ![128, 1536]⟩ : Shape).Idx → BitVec 8) => ∀ (a : Fin 128) (b : Fin 1536), X (ix2 a b) = cf (A.Z (128 * min t.val 31 + a.val) b.val)

/-- The scratch before step `n`. -/
def IK (A : Args) (n : ℕ) (s : Scr Ideal) : Prop := ∀ Y, InvAt A n (join Y s)

theorem IK.of {A : Args} {n : ℕ} {σ : State Ideal} (h : IK A n σ.scr) : InvAt A n σ := by
  have h := h (wins σ)
  exact ⟨h.xs, h.z, h.cbf, h.s1c, h.e, h.g, h.rl, h.dcp⟩
theorem IK.to {A : Args} {n : ℕ} {σ : State Ideal} (h : InvAt A n σ) : IK A n σ.scr := fun Y => ⟨h.xs, h.z, h.cbf, h.s1c, h.e, h.g, h.rl, h.dcp⟩

theorem coords_val : ∀ t : Fin cfg0.N, (grid0.coords t 0).val = t.val := (by decide +kernel : ∀ t : Fin grid0.N, _)

variable (m : (ℓ : Loc nD τ sig) → Buf (Elt Ideal) ℓ) (c : Dev nD)

/-- The proof's data on one core. -/
abbrev kd : RDat τ (Elt Ideal) Unit ℕ (UR sig nD τ) ℕ cfg0 c := rdat m (aftK (argsAt m c)) (IK (argsAt m c)) c

theorem in0 (t : Fin cfg0.N) (Y : (⟨2, ![1536, 1536]⟩ : Shape).Idx → EReal) (h : (kd m c).Finds 0 t Y) (a : Fin 1536) (b : Fin 1536) :
    Y (ix2 a b) = (argsAt m c).X (min t.val 3 * 1536 + a.val) (b.val) := by
  obtain ⟨d, hd⟩ := RDat.finds_in_eq_fetched (kd m c) 0 rfl (fun _ _ _ => rfl) (fun _ _ _ e => e) t Y h
  have e : Y (ix2 a b) = V m c (Pipeline.arrRef spec0 0) (((cfg0.win 0).blk t).view.emb (ix2 a b)) := congrFun hd (ix2 a b)
  rw [e, emb0]
  exact V_v0 m c _ _
theorem in1 (t : Fin cfg0.N) (Y : (⟨2, ![1536, 48]⟩ : Shape).Idx → EReal) (h : (kd m c).Finds 1 t Y) (a : Fin 1536) (b : Fin 48) :
    Y (ix2 a b) = (argsAt m c).XS (min t.val 3 * 1536 + a.val) (b.val) := by
  obtain ⟨d, hd⟩ := RDat.finds_in_eq_fetched (kd m c) 1 rfl (fun _ _ _ => rfl) (fun _ _ _ e => e) t Y h
  have e : Y (ix2 a b) = V m c (Pipeline.arrRef spec0 1) (((cfg0.win 1).blk t).view.emb (ix2 a b)) := congrFun hd (ix2 a b)
  rw [e, emb1]
  exact V_v1 m c _ _
theorem in2 (t : Fin cfg0.N) (Y : (⟨2, ![128, 1536]⟩ : Shape).Idx → EReal) (h : (kd m c).Finds 2 t Y) (a : Fin 128) (b : Fin 1536) :
    Y (ix2 a b) = (argsAt m c).W (min t.val 31 * 128 + a.val) (b.val) := by
  obtain ⟨d, hd⟩ := RDat.finds_in_eq_fetched (kd m c) 2 rfl (fun _ _ _ => rfl) (fun _ _ _ e => e) t Y h
  have e : Y (ix2 a b) = V m c (Pipeline.arrRef spec0 2) (((cfg0.win 2).blk t).view.emb (ix2 a b)) := congrFun hd (ix2 a b)
  rw [e, emb2]
  exact V_a2 m c _ _
theorem in3 (t : Fin cfg0.N) (Y : (⟨2, ![128, 1536]⟩ : Shape).Idx → EReal) (h : (kd m c).Finds 3 t Y) (a : Fin 128) (b : Fin 1536) :
    Y (ix2 a b) = (argsAt m c).S2 (min t.val 31 * 128 + a.val) (b.val) := by
  obtain ⟨d, hd⟩ := RDat.finds_in_eq_fetched (kd m c) 3 rfl (fun _ _ _ => rfl) (fun _ _ _ e => e) t Y h
  have e : Y (ix2 a b) = V m c (Pipeline.arrRef spec0 3) (((cfg0.win 3).blk t).view.emb (ix2 a b)) := congrFun hd (ix2 a b)
  rw [e, emb3]
  exact V_a4 m c _ _
theorem in4 (t : Fin cfg0.N) (Y : (⟨2, ![32, 128]⟩ : Shape).Idx → EReal) (h : (kd m c).Finds 4 t Y) (a : Fin 32) (b : Fin 128) :
    Y (ix2 a b) = (argsAt m c).S1 (128 * a.val + b.val) := by
  obtain ⟨d, hd⟩ := RDat.finds_in_eq_fetched (kd m c) 4 rfl (fun _ _ _ => rfl) (fun _ _ _ e => e) t Y h
  have e : Y (ix2 a b) = V m c (Pipeline.arrRef spec0 4) (((cfg0.win 4).blk t).view.emb (ix2 a b)) := congrFun hd (ix2 a b)
  rw [e, emb4]
  exact V_v2 m c _ _
theorem in5 (t : Fin cfg0.N) (Y : (⟨2, ![32, 128]⟩ : Shape).Idx → EReal) (h : (kd m c).Finds 5 t Y) (a : Fin 32) (b : Fin 128) :
    Y (ix2 a b) = (argsAt m c).R (128 * a.val + b.val) := by
  obtain ⟨d, hd⟩ := RDat.finds_in_eq_fetched (kd m c) 5 rfl (fun _ _ _ => rfl) (fun _ _ _ e => e) t Y h
  have e : Y (ix2 a b) = V m c (Pipeline.arrRef spec0 5) (((cfg0.win 5).blk t).view.emb (ix2 a b)) := congrFun hd (ix2 a b)
  rw [e, emb5]
  exact V_v3 m c _ _
theorem in6 (t : Fin cfg0.N) (Y : (⟨2, ![1, 1536]⟩ : Shape).Idx → EReal) (h : (kd m c).Finds 6 t Y) (a : Fin 1) (b : Fin 1536) :
    Y (ix2 a b) = (argsAt m c).C b.val := by
  obtain ⟨d, hd⟩ := RDat.finds_in_eq_fetched (kd m c) 6 rfl (fun _ _ _ => rfl) (fun _ _ _ e => e) t Y h
  have e : Y (ix2 a b) = V m c (Pipeline.arrRef spec0 6) (((cfg0.win 6).blk t).view.emb (ix2 a b)) := congrFun hd (ix2 a b)
  rw [e, emb6]
  exact V_v4 m c _ _
theorem in7 (t : Fin cfg0.N) (Y : (⟨2, ![1536, 512]⟩ : Shape).Idx → EReal) (h : (kd m c).Finds 7 t Y) (a : Fin 1536) (b : Fin 512) :
    Y (ix2 a b) = (argsAt m c).YT (min (t.val - 4) 31 % 4 * 1536 + a.val) (min (t.val - 4) 31 / 4 * 512 + b.val) := by
  obtain ⟨d, hd⟩ := RDat.finds_in_eq_fetched (kd m c) 7 rfl (fun _ _ _ => rfl) (fun _ _ _ e => e) t Y h
  have e : Y (ix2 a b) = V m c (Pipeline.arrRef spec0 7) (((cfg0.win 7).blk t).view.emb (ix2 a b)) := congrFun hd (ix2 a b)
  rw [e, emb7]
  exact V_v5 m c _ _

theorem inOk (t : Fin cfg0.N) (σ : State Ideal) (h : ∀ w, (kd m c).Finds w t (wins σ w)) : InOk (argsAt m c) t.val σ where
  xc := fun hs a b => (in0 m c t _ (h 0) a b).trans (by congr 1; omega)
  xsc := fun hs a b => (in1 m c t _ (h 1) a b).trans (by congr 1; omega)
  w := fun a b => (in2 m c t _ (h 2) a b).trans (by rw [Nat.mul_comm])
  s2 := fun a b => (in3 m c t _ (h 3) a b).trans (by rw [Nat.mul_comm])
  s1 := fun a b => in4 m c t _ (h 4) a b
  r := fun a b => in5 m c t _ (h 5) a b
  c := fun a b => in6 m c t _ (h 6) a b
  yt := fun h4 h36 a b => (in7 m c t _ (h 7) a b).trans (by
    rw [Nat.min_eq_left (by omega), Nat.mul_comm 1536, Nat.mul_comm 512])

theorem prev10 (t : Fin cfg0.N) (ht : t.val ≠ 0) (Y : (⟨2, ![32, 128]⟩ : Shape).Idx → EReal) (h : (kd m c).Finds 10 t Y) (a : Fin 32) (b : Fin 128)
    (ha : a.val + 9 ≤ t.val - 1) : Y (ix2 a b) = drF (argsAt m c) (128 * a.val + b.val) := by
  have hlt := lt41 t
  rcases ((kd m c).finds_of_pos (w := 10) rfl ht Y).1 h with hf | ⟨Y', -, h'⟩
  · have := (flush0_10 _).1 hf
    dsimp only at this
    omega
  · exact h' a b ha
theorem prev12 (t : Fin cfg0.N) (ht : t.val ≠ 0) (Y : (⟨2, ![32, 128]⟩ : Shape).Idx → EReal) (h : (kd m c).Finds 12 t Y) (a : Fin 32) (b : Fin 128)
    (ha : a.val + 9 ≤ t.val - 1) : Y (ix2 a b) = ds1F (argsAt m c) (128 * a.val + b.val) := by
  have hlt := lt41 t
  rcases ((kd m c).finds_of_pos (w := 12) rfl ht Y).1 h with hf | ⟨Y', -, h'⟩
  · have := (flush0_12 _).1 hf
    dsimp only at this
    omega
  · exact h' a b ha

theorem flush13 : ∀ t : Fin cfg0.N, 31 ≤ t.val → t.val < 40 → (cfg0.win 13).flush t = false := (by decide +kernel : ∀ t : Fin grid0.N, 31 ≤ t.val → t.val < 40 → (win0_13).flush t = false)

theorem prev13 (t : Fin cfg0.N) (ht : 36 ≤ t.val) (Y : (⟨2, ![128, 1536]⟩ : Shape).Idx → BitVec 8) (h : (kd m c).Finds 13 t Y) (a : Fin 128) (b : Fin 1536) :
    Y (ix2 a b) = cf ((argsAt m c).Z (128 * min t.val 31 + a.val) b.val) := by
  have hlt := lt41 t
  have h0 : t.val ≠ 0 := by omega
  rcases ((kd m c).finds_of_pos (w := 13) rfl h0 Y).1 h with hf | ⟨Y', -, h'⟩
  · exact absurd ((flush13 ⟨t.val - 1, Nat.lt_of_le_of_lt (Nat.sub_le _ _) t.isLt⟩ (show 31 ≤ t.val - 1 by omega) (show t.val - 1 < 40 by omega)).symm.trans hf) Bool.false_ne_true
  · have e : Y (ix2 a b) = cf ((argsAt m c).Z (128 * min (t.val - 1) 31 + a.val) b.val) := h' a b
    rw [Nat.min_eq_right (by omega)] at e
    rw [Nat.min_eq_right (by omega)]
    exact e

/-- A step keeps the invariant and the windows' relations. -/
theorem kept (t : Fin cfg0.N) (σ : State Ideal) (h : ∀ w, (kd m c).Finds w t (wins σ w)) (hI : IK (argsAt m c) t.val σ.scr) :
    IK (argsAt m c) (t.val + 1) (run (body (grid0.coords t 0)) σ).2.scr
      ∧ ∀ w, aftK (argsAt m c) w t (wins σ w) (wins (run (body (grid0.coords t 0)) σ).2 w) := by
  have hs := coords_val t
  have hk := step_all (argsAt m c) (grid0.coords t 0) σ (by rw [hs]; exact inOk m c t σ h) (by rw [hs]; exact hI.of)
  rw [hs] at hk
  generalize (run (body (grid0.coords t 0)) σ).2 = τ' at hk ⊢
  refine ⟨IK.to hk.inv, fun w => ?_⟩
  match w with
  | 0 => exact hk.ins .xc trivial
  | 1 => exact hk.ins .xsc trivial
  | 2 => exact hk.ins .w trivial
  | 3 => exact hk.ins .s2 trivial
  | 4 => exact hk.ins .s1 trivial
  | 5 => exact hk.ins .r trivial
  | 6 => exact hk.ins .c trivial
  | 7 => exact hk.ins .yt trivial
  | 8 => exact hk.rlo
  | 9 => exact hk.ds2
  | 10 =>
    intro a b hab
    refine (hk.dr a b).trans ?_
    by_cases e : a.val + 9 = t.val
    · rw [if_pos e]; rfl
    · rw [if_neg e]; exact prev10 m c t (by omega) _ (h 10) a b (by omega)
  | 11 => exact hk.dc
  | 12 =>
    intro a b hab
    refine (hk.ds1 a b).trans ?_
    by_cases e : a.val + 9 = t.val
    · rw [if_pos e]; rfl
    · rw [if_neg e]; exact prev12 m c t (by omega) _ (h 12) a b (by omega)
  | 13 =>
    by_cases h36 : t.val < 36
    · exact hk.cd h36
    · intro a b
      refine (congrFun (hk.cdk (by omega)) (ix2 a b)).trans ?_
      exact prev13 m c t (by omega) _ (h 13) a b

/-! ## The result arrays -/

theorem flush9 : ∀ t : Fin cfg0.N, (cfg0.win 9).flush t = true → 9 ≤ t.val := (by decide +kernel : ∀ t : Fin grid0.N, (win0_9).flush t = true → 9 ≤ t.val)

section
variable (after : (w : Fin cfg0.W) → Fin cfg0.N → (cfg0.win w).block.Idx → Elt Ideal (cfg0.win w).elt)
  (hL : ∀ (w : Fin cfg0.W) (u : Fin cfg0.N), (cfg0.win w).flush u = true → (kd m c).Leaves w u (after w u))
include hL

theorem out8 (G : (⟨2, ![4, 1536]⟩ : Shape).Idx → EReal) (hG : ∀ (a : Fin 4) (b : Fin 1536), G (ix2 a b) = rloF (argsAt m c) a.val b.val) :
    ((kd m c).withAfter after).arrAt 8 cfg0.N = G := by
  refine ((kd m c).withAfter after).arrAt_eq_of_covers 8 G (by decide +kernel) fun t hf y => ?_
  obtain ⟨Y, -, h'⟩ := hL 8 t hf
  have h40 := (flush0_8 t).1 hf
  have hlt := lt41 t
  have ey : y = (ix2 (y 0) (y 1) : (⟨2, ![4, 1536]⟩ : Shape).Idx) := eq_ix2 y
  rw [ey]
  show after 8 t (ix2 (y 0) (y 1)) = G (((cfg0.win 8).blk t).view.emb (ix2 (y 0) (y 1)))
  rw [emb8 t (y 0) (y 1), hG (y 0) (y 1)]
  exact h' (by omega) (y 0) (y 1)

theorem out10 (G : (⟨2, ![32, 128]⟩ : Shape).Idx → EReal) (hG : ∀ (a : Fin 32) (b : Fin 128), G (ix2 a b) = drF (argsAt m c) (128 * a.val + b.val)) :
    ((kd m c).withAfter after).arrAt 10 cfg0.N = G := by
  refine ((kd m c).withAfter after).arrAt_eq_of_covers 10 G (by decide +kernel) fun t hf y => ?_
  obtain ⟨Y, -, h'⟩ := hL 10 t hf
  have h40 := (flush0_10 t).1 hf
  have hlt := lt41 t
  have ey : y = (ix2 (y 0) (y 1) : (⟨2, ![32, 128]⟩ : Shape).Idx) := eq_ix2 y
  rw [ey]
  show after 10 t (ix2 (y 0) (y 1)) = G (((cfg0.win 10).blk t).view.emb (ix2 (y 0) (y 1)))
  rw [emb10 t (y 0) (y 1), hG (y 0) (y 1)]
  exact h' (y 0) (y 1) (by have : (y 0).val < 32 := (y 0).isLt; omega)

theorem out11 (G : (⟨2, ![1, 1536]⟩ : Shape).Idx → EReal) (hG : ∀ (a : Fin 1) (b : Fin 1536), G (ix2 a b) = dcF (argsAt m c) b.val) :
    ((kd m c).withAfter after).arrAt 11 cfg0.N = G := by
  refine ((kd m c).withAfter after).arrAt_eq_of_covers 11 G (by decide +kernel) fun t hf y => ?_
  obtain ⟨Y, -, h'⟩ := hL 11 t hf
  have h40 := (flush0_11 t).1 hf
  have hlt := lt41 t
  have ey : y = (ix2 (y 0) (y 1) : (⟨2, ![1, 1536]⟩ : Shape).Idx) := eq_ix2 y
  rw [ey]
  show after 11 t (ix2 (y 0) (y 1)) = G (((cfg0.win 11).blk t).view.emb (ix2 (y 0) (y 1)))
  rw [emb11 t (y 0) (y 1), hG (y 0) (y 1)]
  exact h' (by omega) (y 0) (y 1)

theorem out12 (G : (⟨2, ![32, 128]⟩ : Shape).Idx → EReal) (hG : ∀ (a : Fin 32) (b : Fin 128), G (ix2 a b) = ds1F (argsAt m c) (128 * a.val + b.val)) :
    ((kd m c).withAfter after).arrAt 12 cfg0.N = G := by
  refine ((kd m c).withAfter after).arrAt_eq_of_covers 12 G (by decide +kernel) fun t hf y => ?_
  obtain ⟨Y, -, h'⟩ := hL 12 t hf
  have h40 := (flush0_12 t).1 hf
  have hlt := lt41 t
  have ey : y = (ix2 (y 0) (y 1) : (⟨2, ![32, 128]⟩ : Shape).Idx) := eq_ix2 y
  rw [ey]
  show after 12 t (ix2 (y 0) (y 1)) = G (((cfg0.win 12).blk t).view.emb (ix2 (y 0) (y 1)))
  rw [emb12 t (y 0) (y 1), hG (y 0) (y 1)]
  exact h' (y 0) (y 1) (by have : (y 0).val < 32 := (y 0).isLt; omega)

theorem out9 (G : (⟨2, ![4096, 1536]⟩ : Shape).Idx → EReal) (hG : ∀ (o : Fin 4096) (i : Fin 1536), G (ix2 o i) = (argsAt m c).DS2 o.val i.val) :
    ((kd m c).withAfter after).arrAt 9 cfg0.N = G := by
  refine ((kd m c).withAfter after).arrAt_eq_of_covers 9 G (by decide +kernel) fun t hf y => ?_
  obtain ⟨Y, -, h'⟩ := hL 9 t hf
  have hlt := lt41 t
  have ey : y = (ix2 (y 0) (y 1) : (⟨2, ![128, 1536]⟩ : Shape).Idx) := eq_ix2 y
  rw [ey]
  show after 9 t (ix2 (y 0) (y 1)) = G (((cfg0.win 9).blk t).view.emb (ix2 (y 0) (y 1)))
  rw [emb9 t (y 0) (y 1), hG _ (y 1)]
  refine (h' (flush9 t hf) (y 0) (y 1)).trans ?_
  dsimp only
  rw [Nat.mul_comm 128]

theorem out13 (G : (⟨2, ![4096, 1536]⟩ : Shape).Idx → BitVec 8) (hG : ∀ (o : Fin 4096) (i : Fin 1536), G (ix2 o i) = cf ((argsAt m c).Z o.val i.val)) :
    ((kd m c).withAfter after).arrAt 13 cfg0.N = G := by
  refine ((kd m c).withAfter after).arrAt_eq_of_covers 13 G (by decide +kernel) fun t hf y => ?_
  obtain ⟨Y, -, h'⟩ := hL 13 t hf
  have hlt := lt41 t
  have ey : y = (ix2 (y 0) (y 1) : (⟨2, ![128, 1536]⟩ : Shape).Idx) := eq_ix2 y
  rw [ey]
  show after 13 t (ix2 (y 0) (y 1)) = G (((cfg0.win 13).blk t).view.emb (ix2 (y 0) (y 1)))
  rw [emb13 t (y 0) (y 1), hG _ (y 1)]
  refine (h' (y 0) (y 1)).trans ?_
  dsimp only
  rw [Nat.mul_comm 128]

end

end Cert.K
-- ==== Proof.K.RefValue.lean ====
/- The reference's run, read: it has one grid point, every window's block is its whole array, so each output
   array ends holding the body's value of the argument arrays. -/
module

public import proofs.«01_k».proof.Proof.Gen.ReferenceIdeal.Frame
public import Idealize.ShloMosaic.Lib.Pipeline.Value

@[expose] public section

noncomputable section

namespace Cert.K.R

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_2) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_3) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_4) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v0_5) = (dats m 0 c).arrAt 13 cfg0.N :=
  (h c).1 13

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S24x256x1536.Idx) : ((cfg0.win 0).blk t).view.emb j = j := by
  obtain ⟨e0, e1, e2⟩ := idx_zero0 t
  funext a; apply Fin.ext
  match a with
  | ⟨0, _⟩ => show win0_0.index t (0 : Fin 3) * 24 + 1 * (j 0).val = (j 0).val; omega
  | ⟨1, _⟩ => show win0_0.index t (1 : Fin 3) * 256 + 1 * (j 1).val = (j 1).val; omega
  | ⟨2, _⟩ => show win0_0.index t (2 : Fin 3) * 1536 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S24x256x48.Idx) : ((cfg0.win 1).blk t).view.emb j = j := by
  obtain ⟨e0, e1, e2⟩ := idx_zero1 t
  funext a; apply Fin.ext
  match a with
  | ⟨0, _⟩ => show win0_1.index t (0 : Fin 3) * 24 + 1 * (j 0).val = (j 0).val; omega
  | ⟨1, _⟩ => show win0_1.index t (1 : Fin 3) * 256 + 1 * (j 1).val = (j 1).val; omega
  | ⟨2, _⟩ => show win0_1.index t (2 : Fin 3) * 48 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S4096x1536.Idx) : ((cfg0.win 2).blk t).view.emb j = j := by
  obtain ⟨e0, e1⟩ := idx_zero2 t
  funext a; apply Fin.ext
  match a with
  | ⟨0, _⟩ => show win0_2.index t (0 : Fin 2) * 4096 + 1 * (j 0).val = (j 0).val; omega
  | ⟨1, _⟩ => show win0_2.index t (1 : Fin 2) * 1536 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S4096.Idx) : ((cfg0.win 3).blk t).view.emb j = j := by
  have e0 := idx_zero3 t
  funext a; apply Fin.ext
  match a with
  | ⟨0, _⟩ => show win0_3.index t (0 : Fin 1) * 4096 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S4096x1536.Idx) : ((cfg0.win 4).blk t).view.emb j = j := by
  obtain ⟨e0, e1⟩ := idx_zero4 t
  funext a; apply Fin.ext
  match a with
  | ⟨0, _⟩ => show win0_4.index t (0 : Fin 2) * 4096 + 1 * (j 0).val = (j 0).val; omega
  | ⟨1, _⟩ => show win0_4.index t (1 : Fin 2) * 1536 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S4096.Idx) : ((cfg0.win 5).blk t).view.emb j = j := by
  have e0 := idx_zero5 t
  funext a; apply Fin.ext
  match a with
  | ⟨0, _⟩ => show win0_5.index t (0 : Fin 1) * 4096 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0] : Fin 1 → Nat) = fun _ => 0 := funext fun a => by fin_cases a <;> rfl

/-- Window 6's block index at the one point is zero on every axis. -/
theorem idx_zero6 : ∀ t : Fin cfg0.N, win0_6.index t (0 : Fin 1) = 0 :=
  (by decide +kernel : ∀ t : Fin grid0.N, _)

/-- An index of window 6's block is the same index of its array. -/
theorem emb6 (t : Fin cfg0.N) (j : S1536.Idx) : ((cfg0.win 6).blk t).view.emb j = j := by
  have e0 := idx_zero6 t
  funext a; apply Fin.ext
  match a with
  | ⟨0, _⟩ => show win0_6.index t (0 : Fin 1) * 1536 + 1 * (j 0).val = (j 0).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S24x256x4096.Idx) : ((cfg0.win 7).blk t).view.emb j = j := by
  obtain ⟨e0, e1, e2⟩ := idx_zero7 t
  funext a; apply Fin.ext
  match a with
  | ⟨0, _⟩ => show win0_7.index t (0 : Fin 3) * 24 + 1 * (j 0).val = (j 0).val; omega
  | ⟨1, _⟩ => show win0_7.index t (1 : Fin 3) * 256 + 1 * (j 1).val = (j 1).val; omega
  | ⟨2, _⟩ => show win0_7.index t (2 : Fin 3) * 4096 + 1 * (j 2).val = (j 2).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S4x1536.Idx) : ((cfg0.win 8).blk t).view.emb j = j := by
  obtain ⟨e0, e1⟩ := idx_zero8 t
  funext a; apply Fin.ext
  match a with
  | ⟨0, _⟩ => show win0_8.index t (0 : Fin 2) * 4 + 1 * (j 0).val = (j 0).val; omega
  | ⟨1, _⟩ => show win0_8.index t (1 : Fin 2) * 1536 + 1 * (j 1).val = (j 1).val; omega

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S4096x1536.Idx) : ((cfg0.win 9).blk t).view.emb j = j := by
  obtain ⟨e0, e1⟩ := idx_zero9 t
  funext a; apply Fin.ext
  match a with
  | ⟨0, _⟩ => show win0_9.index t (0 : Fin 2) * 4096 + 1 * (j 0).val = (j 0).val; omega
  | ⟨1, _⟩ => show win0_9.index t (1 : Fin 2) * 1536 + 1 * (j 1).val = (j 1).val; omega

theorem hz10 : (![0, 0] : Fin 2 → Nat) = fun _ => 0 := funext fun a => by fin_cases a <;> rfl

/-- Window 10's block index at the one point is zero on every axis. -/
theorem idx_zero10 : ∀ t : Fin cfg0.N, win0_10.index t (0 : Fin 2) = 0 ∧ win0_10.index t (1 : Fin 2) = 0 :=
  (by decide +kernel : ∀ t : Fin grid0.N, _)

/-- An index of window 10's block is the same index of its array. -/
theorem emb10 (t : Fin cfg0.N) (j : S32x128.Idx) : ((cfg0.win 10).blk t).view.emb j = j := by
  obtain ⟨e0, e1⟩ := idx_zero10 t
  funext a; apply Fin.ext
  match a with
  | ⟨0, _⟩ => show win0_10.index t (0 : Fin 2) * 32 + 1 * (j 0).val = (j 0).val; omega
  | ⟨1, _⟩ => show win0_10.index t (1 : Fin 2) * 128 + 1 * (j 1).val = (j 1).val; omega

theorem hz11 : (![0, 0] : Fin 2 → Nat) = fun _ => 0 := funext fun a => by fin_cases a <;> rfl

/-- Window 11's block index at the one point is zero on every axis. -/
theorem idx_zero11 : ∀ t : Fin cfg0.N, win0_11.index t (0 : Fin 2) = 0 ∧ win0_11.index t (1 : Fin 2) = 0 :=
  (by decide +kernel : ∀ t : Fin grid0.N, _)

/-- An index of window 11's block is the same index of its array. -/
theorem emb11 (t : Fin cfg0.N) (j : S1x1536.Idx) : ((cfg0.win 11).blk t).view.emb j = j := by
  obtain ⟨e0, e1⟩ := idx_zero11 t
  funext a; apply Fin.ext
  match a with
  | ⟨0, _⟩ => show win0_11.index t (0 : Fin 2) * 1 + 1 * (j 0).val = (j 0).val; omega
  | ⟨1, _⟩ => show win0_11.index t (1 : Fin 2) * 1536 + 1 * (j 1).val = (j 1).val; omega

theorem hz12 : (![0, 0] : Fin 2 → Nat) = fun _ => 0 := funext fun a => by fin_cases a <;> rfl

/-- Window 12's block index at the one point is zero on every axis. -/
theorem idx_zero12 : ∀ t : Fin cfg0.N, win0_12.index t (0 : Fin 2) = 0 ∧ win0_12.index t (1 : Fin 2) = 0 :=
  (by decide +kernel : ∀ t : Fin grid0.N, _)

/-- An index of window 12's block is the same index of its array. -/
theorem emb12 (t : Fin cfg0.N) (j : S32x128.Idx) : ((cfg0.win 12).blk t).view.emb j = j := by
  obtain ⟨e0, e1⟩ := idx_zero12 t
  funext a; apply Fin.ext
  match a with
  | ⟨0, _⟩ => show win0_12.index t (0 : Fin 2) * 32 + 1 * (j 0).val = (j 0).val; omega
  | ⟨1, _⟩ => show win0_12.index t (1 : Fin 2) * 128 + 1 * (j 1).val = (j 1).val; omega

theorem hz13 : (![0, 0] : Fin 2 → Nat) = fun _ => 0 := funext fun a => by fin_cases a <;> rfl

/-- Window 13's block index at the one point is zero on every axis. -/
theorem idx_zero13 : ∀ t : Fin cfg0.N, win0_13.index t (0 : Fin 2) = 0 ∧ win0_13.index t (1 : Fin 2) = 0 :=
  (by decide +kernel : ∀ t : Fin grid0.N, _)

/-- An index of window 13's block is the same index of its array. -/
theorem emb13 (t : Fin cfg0.N) (j : S4096x1536.Idx) : ((cfg0.win 13).blk t).view.emb j = j := by
  obtain ⟨e0, e1⟩ := idx_zero13 t
  funext a; apply Fin.ext
  match a with
  | ⟨0, _⟩ => show win0_13.index t (0 : Fin 2) * 4096 + 1 * (j 0).val = (j 0).val; omega
  | ⟨1, _⟩ => show win0_13.index t (1 : Fin 2) * 1536 + 1 * (j 1).val = (j 1).val; omega

/-! ### Output window 8: the array after the run -/

/-- What the window's array ends holding: `out0_8` applied to the argument arrays in place of the input blocks (a value that the
    frame states apart, `kK_payN a…`, keeps its loads inside its own definition). -/
abbrev G8 (a0 : Vec F S24x256x1536 .fp8e4m3) (a1 : Vec F S24x256x48 .f32) (a2 : Vec F S4096x1536 .f32) (a3 : Vec F S4096 .f32) (a4 : Vec F S4096x1536 .f32) (a5 : Vec F S4096 .f32) (a6 : Vec F S1536 .f32) (a7 : Vec F S24x256x4096 .bf16) : Vec F S4x1536 .f32 :=
  k0_pay7 a3 (k0_pay14 a0 a1 a2 a3 a4 a5 a6 a7) (k0_pay16 a0 a1 a2 a3 a4 a5 a6 a7) a7

/-- A load of the whole of a block reads the block, and the one store through the whole rectangle leaves its payload. -/
theorem out8_eq (a0 : Vec F S24x256x1536 .fp8e4m3) (a1 : Vec F S24x256x48 .f32) (a2 : Vec F S4096x1536 .f32) (a3 : Vec F S4096 .f32) (a4 : Vec F S4096x1536 .f32) (a5 : Vec F S4096 .f32) (a6 : Vec F S1536 .f32) (a7 : Vec F S24x256x4096 .bf16) : out0_8 (F := F) a0 a1 a2 a3 a4 a5 a6 a7 = G8 a0 a1 a2 a3 a4 a5 a6 a7 := by
  unfold out0_8
  rw [View.canon_unit_zero hz8, View.ld_unit_zero (S := S4096) hz3 _ a3, View.ld_unit_zero (S := S24x256x4096) hz7 _ a7]

/-- Cutting the point's block out of `X` and reading `X` through the block's view give the same. -/
theorem cut8_eq (t : Fin cfg0.N) (X : Vec F S4x1536 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5) (V m c main_arg6) (V m c main_arg7)) := by
  show (cfg0.win 8).cut (grid0.coords t) ((dats m 0 c).after 8 t) = _
  rw [after0_8, out8_eq, iblk0_eq, iblk1_eq, iblk2_eq, iblk3_eq, iblk4_eq, iblk5_eq, iblk6_eq, iblk7_eq]
  exact cut8_eq t _

/-- Every index of the array is in the point's block. -/
theorem covered8 (i : S4x1536.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 8 (G8 (V m c main_arg0) (V m c main_arg1) (V m c main_arg2) (V m c main_arg3) (V m c main_arg4) (V m c main_arg5) (V m c main_arg6) (V m c main_arg7)) (fun t _ => flushed8_eq m c t) covered8).trans (by rw [V_main_arg0, V_main_arg1, V_main_arg2, V_main_arg3, V_main_arg4, V_main_arg5, V_main_arg6, V_main_arg7])

/-! ### Output window 9: the array after the run -/

/-- What the window's array ends holding: `out0_9` applied to the argument arrays in place of the input blocks (a value that the
    frame states apart, `kK_payN a…`, keeps its loads inside its own definition). -/
abbrev G9 (a0 : Vec F S24x256x1536 .fp8e4m3) (a1 : Vec F S24x256x48 .f32) (a2 : Vec F S4096x1536 .f32) (a3 : Vec F S4096 .f32) (a4 : Vec F S4096x1536 .f32) (a5 : Vec F S4096 .f32) (a6 : Vec F S1536 .f32) (a7 : Vec F S24x256x4096 .bf16) : Vec F S4096x1536 .f32 :=
  k0_pay9 a3 (k0_pay13 a0 a1 a2 a3 a4 a5 a6 a7) (k0_pay14 a0 a1 a2 a3 a4 a5 a6 a7) (k0_pay15 a0 a1 a2 a3 a4 a5 a6 a7) (k0_pay16 a0 a1 a2 a3 a4 a5 a6 a7) a7

/-- A load of the whole of a block reads the block, and the one store through the whole rectangle leaves its payload. -/
theorem out9_eq (a0 : Vec F S24x256x1536 .fp8e4m3) (a1 : Vec F S24x256x48 .f32) (a2 : Vec F S4096x1536 .f32) (a3 : Vec F S4096 .f32) (a4 : Vec F S4096x1536 .f32) (a5 : Vec F S4096 .f32) (a6 : Vec F S1536 .f32) (a7 : Vec F S24x256x4096 .bf16) : out0_9 (F := F) a0 a1 a2 a3 a4 a5 a6 a7 = G9 a0 a1 a2 a3 a4 a5 a6 a7 := by
  unfold out0_9
  rw [View.canon_unit_zero hz9, View.ld_unit_zero (S := S4096) hz3 _ a3, View.ld_unit_zero (S := S24x256x4096) hz7 _ a7]

/-- Cutting the point's block out of `X` and reading `X` through the block's view give the same. -/
theorem cut9_eq (t : Fin cfg0.N) (X : Vec F S4096x1536 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6) (V m c main_arg7)) := by
  show (cfg0.win 9).cut (grid0.coords t) ((dats m 0 c).after 9 t) = _
  rw [after0_9, out9_eq, iblk0_eq, iblk1_eq, iblk2_eq, iblk3_eq, iblk4_eq, iblk5_eq, iblk6_eq, iblk7_eq]
  exact cut9_eq t _

/-- Every index of the array is in the point's block. -/
theorem covered9 (i : S4096x1536.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 9 (G9 (V m c main_arg0) (V m c main_arg1) (V m c main_arg2) (V m c main_arg3) (V m c main_arg4) (V m c main_arg5) (V m c main_arg6) (V m c main_arg7)) (fun t _ => flushed9_eq m c t) covered9).trans (by rw [V_main_arg0, V_main_arg1, V_main_arg2, V_main_arg3, V_main_arg4, V_main_arg5, V_main_arg6, V_main_arg7])

/-! ### Output window 10: the array after the run -/

/-- What the window's array ends holding: `out0_10` applied to the argument arrays in place of the input blocks (a value that the
    frame states apart, `kK_payN a…`, keeps its loads inside its own definition). -/
abbrev G10 (a0 : Vec F S24x256x1536 .fp8e4m3) (a1 : Vec F S24x256x48 .f32) (a2 : Vec F S4096x1536 .f32) (a3 : Vec F S4096 .f32) (a4 : Vec F S4096x1536 .f32) (a5 : Vec F S4096 .f32) (a6 : Vec F S1536 .f32) (a7 : Vec F S24x256x4096 .bf16) : Vec F S32x128 .f32 :=
  k0_pay10 a3 (k0_pay13 a0 a1 a2 a3 a4 a5 a6 a7) (k0_pay14 a0 a1 a2 a3 a4 a5 a6 a7) (k0_pay15 a0 a1 a2 a3 a4 a5 a6 a7) (k0_pay16 a0 a1 a2 a3 a4 a5 a6 a7) a7

/-- A load of the whole of a block reads the block, and the one store through the whole rectangle leaves its payload. -/
theorem out10_eq (a0 : Vec F S24x256x1536 .fp8e4m3) (a1 : Vec F S24x256x48 .f32) (a2 : Vec F S4096x1536 .f32) (a3 : Vec F S4096 .f32) (a4 : Vec F S4096x1536 .f32) (a5 : Vec F S4096 .f32) (a6 : Vec F S1536 .f32) (a7 : Vec F S24x256x4096 .bf16) : out0_10 (F := F) a0 a1 a2 a3 a4 a5 a6 a7 = G10 a0 a1 a2 a3 a4 a5 a6 a7 := by
  unfold out0_10
  rw [View.canon_unit_zero hz10, View.ld_unit_zero (S := S4096) hz3 _ a3, View.ld_unit_zero (S := S24x256x4096) hz7 _ a7]

/-- Cutting the point's block out of `X` and reading `X` through the block's view give the same. -/
theorem cut10_eq (t : Fin cfg0.N) (X : Vec F S32x128 .f32) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6) (V m c main_arg7)) := by
  show (cfg0.win 10).cut (grid0.coords t) ((dats m 0 c).after 10 t) = _
  rw [after0_10, out10_eq, iblk0_eq, iblk1_eq, iblk2_eq, iblk3_eq, iblk4_eq, iblk5_eq, iblk6_eq, iblk7_eq]
  exact cut10_eq t _

/-- Every index of the array is in the point's block. -/
theorem covered10 (i : S32x128.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 10 (G10 (V m c main_arg0) (V m c main_arg1) (V m c main_arg2) (V m c main_arg3) (V m c main_arg4) (V m c main_arg5) (V m c main_arg6) (V m c main_arg7)) (fun t _ => flushed10_eq m c t) covered10).trans (by rw [V_main_arg0, V_main_arg1, V_main_arg2, V_main_arg3, V_main_arg4, V_main_arg5, V_main_arg6, V_main_arg7])

/-! ### Output window 11: the array after the run -/

/-- What the window's array ends holding: `out0_11` applied to the argument arrays in place of the input blocks (a value that the
    frame states apart, `kK_payN a…`, keeps its loads inside its own definition). -/
abbrev G11 (a0 : Vec F S24x256x1536 .fp8e4m3) (a1 : Vec F S24x256x48 .f32) (a2 : Vec F S4096x1536 .f32) (a3 : Vec F S4096 .f32) (a4 : Vec F S4096x1536 .f32) (a5 : Vec F S4096 .f32) (a6 : Vec F S1536 .f32) (a7 : Vec F S24x256x4096 .bf16) : Vec F S1x1536 .f32 :=
  k0_pay11 a3 (k0_pay13 a0 a1 a2 a3 a4 a5 a6 a7) (k0_pay14 a0 a1 a2 a3 a4 a5 a6 a7) (k0_pay15 a0 a1 a2 a3 a4 a5 a6 a7) (k0_pay16 a0 a1 a2 a3 a4 a5 a6 a7) a7

/-- A load of the whole of a block reads the block, and the one store through the whole rectangle leaves its payload. -/
theorem out11_eq (a0 : Vec F S24x256x1536 .fp8e4m3) (a1 : Vec F S24x256x48 .f32) (a2 : Vec F S4096x1536 .f32) (a3 : Vec F S4096 .f32) (a4 : Vec F S4096x1536 .f32) (a5 : Vec F S4096 .f32) (a6 : Vec F S1536 .f32) (a7 : Vec F S24x256x4096 .bf16) : out0_11 (F := F) a0 a1 a2 a3 a4 a5 a6 a7 = G11 a0 a1 a2 a3 a4 a5 a6 a7 := by
  unfold out0_11
  rw [View.canon_unit_zero hz11, View.ld_unit_zero (S := S4096) hz3 _ a3, View.ld_unit_zero (S := S24x256x4096) hz7 _ a7]

/-- Cutting the point's block out of `X` and reading `X` through the block's view give the same. -/
theorem cut11_eq (t : Fin cfg0.N) (X : Vec F S1x1536 .f32) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6) (V m c main_arg7)) := by
  show (cfg0.win 11).cut (grid0.coords t) ((dats m 0 c).after 11 t) = _
  rw [after0_11, out11_eq, iblk0_eq, iblk1_eq, iblk2_eq, iblk3_eq, iblk4_eq, iblk5_eq, iblk6_eq, iblk7_eq]
  exact cut11_eq t _

/-- Every index of the array is in the point's block. -/
theorem covered11 (i : S1x1536.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 11 (G11 (V m c main_arg0) (V m c main_arg1) (V m c main_arg2) (V m c main_arg3) (V m c main_arg4) (V m c main_arg5) (V m c main_arg6) (V m c main_arg7)) (fun t _ => flushed11_eq m c t) covered11).trans (by rw [V_main_arg0, V_main_arg1, V_main_arg2, V_main_arg3, V_main_arg4, V_main_arg5, V_main_arg6, V_main_arg7])

/-! ### Output window 12: the array after the run -/

/-- What the window's array ends holding: `out0_12` applied to the argument arrays in place of the input blocks (a value that the
    frame states apart, `kK_payN a…`, keeps its loads inside its own definition). -/
abbrev G12 (a0 : Vec F S24x256x1536 .fp8e4m3) (a1 : Vec F S24x256x48 .f32) (a2 : Vec F S4096x1536 .f32) (a3 : Vec F S4096 .f32) (a4 : Vec F S4096x1536 .f32) (a5 : Vec F S4096 .f32) (a6 : Vec F S1536 .f32) (a7 : Vec F S24x256x4096 .bf16) : Vec F S32x128 .f32 :=
  k0_pay1 (k0_pay12 a3 (k0_pay13 a0 a1 a2 a3 a4 a5 a6 a7) (k0_pay14 a0 a1 a2 a3 a4 a5 a6 a7) (k0_pay15 a0 a1 a2 a3 a4 a5 a6 a7) (k0_pay16 a0 a1 a2 a3 a4 a5 a6 a7) a7)

/-- A load of the whole of a block reads the block, and the one store through the whole rectangle leaves its payload. -/
theorem out12_eq (a0 : Vec F S24x256x1536 .fp8e4m3) (a1 : Vec F S24x256x48 .f32) (a2 : Vec F S4096x1536 .f32) (a3 : Vec F S4096 .f32) (a4 : Vec F S4096x1536 .f32) (a5 : Vec F S4096 .f32) (a6 : Vec F S1536 .f32) (a7 : Vec F S24x256x4096 .bf16) : out0_12 (F := F) a0 a1 a2 a3 a4 a5 a6 a7 = G12 a0 a1 a2 a3 a4 a5 a6 a7 := by
  unfold out0_12
  rw [View.canon_unit_zero hz12, View.ld_unit_zero (S := S4096) hz3 _ a3, View.ld_unit_zero (S := S24x256x4096) hz7 _ a7]

/-- Cutting the point's block out of `X` and reading `X` through the block's view give the same. -/
theorem cut12_eq (t : Fin cfg0.N) (X : Vec F S32x128 .f32) :
    (cfg0.win 12).cut (grid0.coords t) X = ((cfg0.win 12).blk t).view.read (Elt F) X := by
  funext j
  show X j = X (((cfg0.win 12).blk t).view.emb j)
  rw [emb12]

/-- WHAT THE POINT WRITES BACK is its block of `G12` of the argument arrays as the region finds them. -/
theorem flushed12_eq (c : Dev nD) (t : Fin cfg0.N) :
    (dats m 0 c).flushed 12 t = ((cfg0.win 12).blk t).view.read (Elt F) (G12 (V m c main_arg0) (V m c main_arg1) (V m c main_arg2) (V m c main_arg3) (V m c main_arg4) (V m c main_arg5) (V m c main_arg6) (V m c main_arg7)) := by
  show (cfg0.win 12).cut (grid0.coords t) ((dats m 0 c).after 12 t) = _
  rw [after0_12, out12_eq, iblk0_eq, iblk1_eq, iblk2_eq, iblk3_eq, iblk4_eq, iblk5_eq, iblk6_eq, iblk7_eq]
  exact cut12_eq t _

/-- Every index of the array is in the point's block. -/
theorem covered12 (i : S32x128.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

/-- THE ARRAY after the run: `G12` of the argument arrays as launched. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 12 (G12 (V m c main_arg0) (V m c main_arg1) (V m c main_arg2) (V m c main_arg3) (V m c main_arg4) (V m c main_arg5) (V m c main_arg6) (V m c main_arg7)) (fun t _ => flushed12_eq m c t) covered12).trans (by rw [V_main_arg0, V_main_arg1, V_main_arg2, V_main_arg3, V_main_arg4, V_main_arg5, V_main_arg6, V_main_arg7])

/-! ### Output window 13: the array after the run -/

/-- What the window's array ends holding: `out0_13` applied to the argument arrays in place of the input blocks (a value that the
    frame states apart, `kK_payN a…`, keeps its loads inside its own definition). -/
abbrev G13 (a0 : Vec F S24x256x1536 .fp8e4m3) (a1 : Vec F S24x256x48 .f32) (a2 : Vec F S4096x1536 .f32) (a3 : Vec F S4096 .f32) (a4 : Vec F S4096x1536 .f32) (a5 : Vec F S4096 .f32) (a6 : Vec F S1536 .f32) (a7 : Vec F S24x256x4096 .bf16) : Vec F S4096x1536 .i8 :=
  k0_pay14 a0 a1 a2 a3 a4 a5 a6 a7

/-- The one store through the whole rectangle leaves its payload. -/
theorem out13_eq (a0 : Vec F S24x256x1536 .fp8e4m3) (a1 : Vec F S24x256x48 .f32) (a2 : Vec F S4096x1536 .f32) (a3 : Vec F S4096 .f32) (a4 : Vec F S4096x1536 .f32) (a5 : Vec F S4096 .f32) (a6 : Vec F S1536 .f32) (a7 : Vec F S24x256x4096 .bf16) : out0_13 (F := F) a0 a1 a2 a3 a4 a5 a6 a7 = G13 a0 a1 a2 a3 a4 a5 a6 a7 := by
  unfold out0_13
  rw [View.canon_unit_zero hz13]

/-- Cutting the point's block out of `X` and reading `X` through the block's view give the same. -/
theorem cut13_eq (t : Fin cfg0.N) (X : Vec F S4096x1536 .i8) :
    (cfg0.win 13).cut (grid0.coords t) X = ((cfg0.win 13).blk t).view.read (Elt F) X := by
  funext j
  show X j = X (((cfg0.win 13).blk t).view.emb j)
  rw [emb13]

/-- WHAT THE POINT WRITES BACK is its block of `G13` of the argument arrays as the region finds them. -/
theorem flushed13_eq (c : Dev nD) (t : Fin cfg0.N) :
    (dats m 0 c).flushed 13 t = ((cfg0.win 13).blk t).view.read (Elt F) (G13 (V m c main_arg0) (V m c main_arg1) (V m c main_arg2) (V m c main_arg3) (V m c main_arg4) (V m c main_arg5) (V m c main_arg6) (V m c main_arg7)) := by
  show (cfg0.win 13).cut (grid0.coords t) ((dats m 0 c).after 13 t) = _
  rw [after0_13, out13_eq, iblk0_eq, iblk1_eq, iblk2_eq, iblk3_eq, iblk4_eq, iblk5_eq, iblk6_eq, iblk7_eq]
  exact cut13_eq t _

/-- Every index of the array is in the point's block. -/
theorem covered13 (i : S4096x1536.Idx) :
    ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩

/-- THE ARRAY after the run: `G13` of the argument arrays as launched. -/
theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 13 (G13 (V m c main_arg0) (V m c main_arg1) (V m c main_arg2) (V m c main_arg3) (V m c main_arg4) (V m c main_arg5) (V m c main_arg6) (V m c main_arg7)) (fun t _ => flushed13_eq m c t) covered13).trans (by rw [V_main_arg0, V_main_arg1, V_main_arg2, V_main_arg3, V_main_arg4, V_main_arg5, V_main_arg6, V_main_arg7])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_1) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_2) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_3) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_4) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_5) = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post8 m r h c).trans (final8 m c),
      (post9 m r h c).trans (final9 m c),
      (post10 m r h c).trans (final10 m c),
      (post11 m r h c).trans (final11 m c),
      (post12 m r h c).trans (final12 m c),
      (post13 m r h c).trans (final13 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.K.R
-- ==== Proof.K.RefEq.lean ====
/- The reference's results, element by element, over the arguments as functions of natural numbers. -/
module

public import proofs.«01_k».proof.Proof.K.ArgsOf
public import proofs.«01_k».proof.Proof.K.RefValue
public import proofs.«01_k».proof.Proof.K.Inv

@[expose] public section

noncomputable section

namespace Cert.K.R

open Idealize.ShloMosaic Idealize.SL.Sem
open Cert.ReferenceIdeal Cert.ReferenceIdeal.Gen

/-! ## The pieces -/

theorem z_pay (v0 : Vec Ideal S4096x1536 .f32) (v1 : Vec Ideal S4096 .f32) (v2 : Vec Ideal S4096x1536 .f32) (v3 : Vec Ideal S4096 .f32)
    (v7 : Vec Ideal S1536 .f32) (o : Fin 4096) (i : Fin 1536) :
    k0_pay2 v0 v1 v2 v3 v7 (ix2 o i) = zf (v0 (ix2 o i)) (v1 (ix1 o)) (v2 (ix2 o i)) (v3 (ix1 o)) (v7 (ix1 i)) := by
  pointwise [k0_pay2, zf]

theorem code_pay (v0 : Vec Ideal S4096x1536 .f32) (v1 : Vec Ideal S4096 .f32) (v2 : Vec Ideal S4096x1536 .f32) (v3 : Vec Ideal S4096 .f32)
    (v7 : Vec Ideal S1536 .f32) (o : Fin 4096) (i : Fin 1536) :
    k0_pay3 v0 v1 v2 v3 v7 (ix2 o i) = cf (zf (v0 (ix2 o i)) (v1 (ix1 o)) (v2 (ix2 o i)) (v3 (ix1 o)) (v7 (ix1 i))) := by
  rw [← z_pay]
  generalize hz : k0_pay2 v0 v1 v2 v3 v7 = z
  unfold k0_pay3
  rw [hz]
  rfl

/-- The clipping mask. -/
def kf (z : EReal) : EReal :=
  Scalar.select (IntOp.andi (BitVec.ofBool (decide (Ideal.ofBits .f32 0xC1080000#32 ≤ z)))
    (BitVec.ofBool (decide (z < Ideal.ofBits .f32 0x40F00000#32)))) (Ideal.ofBits .f32 0x3F800000#32) 0

theorem kf_mul (z : EReal) : kf z * z = mf z := by
  have e : Ideal.ofBits .f32 0x3F800000#32 = 1 := by
    simp
  unfold kf mf
  rw [e]
  unfold Scalar.select
  split
  · rw [one_mul]
  · rw [zero_mul]

theorem mask_pay (v0 : Vec Ideal S4096x1536 .f32) (v1 : Vec Ideal S4096 .f32) (v2 : Vec Ideal S4096x1536 .f32) (v3 : Vec Ideal S4096 .f32)
    (v7 : Vec Ideal S1536 .f32) (o : Fin 4096) (i : Fin 1536) :
    k0_pay4 v0 v1 v2 v3 v7 (ix2 o i) = kf (zf (v0 (ix2 o i)) (v1 (ix1 o)) (v2 (ix2 o i)) (v3 (ix1 o)) (v7 (ix1 i))) := by
  rw [← z_pay]
  generalize hz : k0_pay2 v0 v1 v2 v3 v7 = z
  pointwise [k0_pay4, hz, kf]

theorem xs_pay (v0 : Vec Ideal S24x256x1536 .fp8e4m3) (v1 : Vec Ideal S24x256x48 .f32) (t : Fin 6144) (i : Fin 1536) :
    k0_pay5 v0 v1 (ix2 t i) = v0 (ix3 ⟨t.val / 256, by omega⟩ ⟨t.val % 256, by omega⟩ i)
      * v1 (ix3 ⟨t.val / 256, by omega⟩ ⟨t.val % 256, by omega⟩ ⟨i.val / 32, by omega⟩) := by
  pointwise [k0_pay5]

theorem res_pay (v1 : Vec Ideal S4096 .f32) (v23 : IVec S4096x1536 8) (v40 : FVec Ideal S6144x1536 .bf16) (v46 : Vec Ideal S24x256x4096 .bf16)
    (t : Fin 6144) (o : Fin 4096) :
    k0_pay6 v1 v23 v40 v46 (ix2 t o) = (∑ k : Fin 1536, v40 (ix2 t k) * (((v23 (ix2 o k)).toInt : ℝ) : EReal)) * v1 (ix1 o)
      - v46 (ix3 ⟨t.val / 256, by omega⟩ ⟨t.val % 256, by omega⟩ o) := by
  pointwise [k0_pay6]
  rfl

theorem loss_pay (v1 : Vec Ideal S4096 .f32) (v23 : IVec S4096x1536 8) (v40 : FVec Ideal S6144x1536 .bf16) (v46 : Vec Ideal S24x256x4096 .bf16)
    (a : Fin 4) (b : Fin 1536) :
    k0_pay7 v1 v23 v40 v46 (ix2 a b) = Ideal.div (∑ o : Fin 4096, k0_pay6 v1 v23 v40 v46 (ix2 ⟨a.val * 1536 + b.val, by omega⟩ o)
      * k0_pay6 v1 v23 v40 v46 (ix2 ⟨a.val * 1536 + b.val, by omega⟩ o)) (Ideal.ofBits .f32 0x45800000#32) := by
  generalize hz : k0_pay6 v1 v23 v40 v46 = z
  pointwise [k0_pay7, hz]

theorem g_pay (v1 : Vec Ideal S4096 .f32) (v23 : IVec S4096x1536 8) (v40 : FVec Ideal S6144x1536 .bf16) (v46 : Vec Ideal S24x256x4096 .bf16)
    (o : Fin 4096) (i : Fin 1536) :
    k0_pay8 v1 v23 v40 v46 (ix2 o i) = ∑ t : Fin 6144, k0_pay6 v1 v23 v40 v46 (ix2 t o) * Ideal.ofBits .f32 0x33AAAAAB#32 * v40 (ix2 t i) := by
  generalize hz : k0_pay6 v1 v23 v40 v46 = z
  pointwise [k0_pay8, hz]

theorem ds2_pay (v1 : Vec Ideal S4096 .f32) (v15 : FVec Ideal S4096x1536 .f32) (v23 : IVec S4096x1536 8) (v31 : FVec Ideal S4096x1536 .f32)
    (v40 : FVec Ideal S6144x1536 .bf16) (v46 : Vec Ideal S24x256x4096 .bf16) (o : Fin 4096) (i : Fin 1536) :
    k0_pay9 v1 v15 v23 v31 v40 v46 (ix2 o i) = (0 - v1 (ix1 o)) * v31 (ix2 o i) * v15 (ix2 o i) * k0_pay8 v1 v23 v40 v46 (ix2 o i) := by
  generalize hz : k0_pay8 v1 v23 v40 v46 = z
  pointwise [k0_pay9, hz]

theorem dr_pay (v1 : Vec Ideal S4096 .f32) (v15 : FVec Ideal S4096x1536 .f32) (v23 : IVec S4096x1536 8) (v31 : FVec Ideal S4096x1536 .f32)
    (v40 : FVec Ideal S6144x1536 .bf16) (v46 : Vec Ideal S24x256x4096 .bf16) (a : Fin 32) (b : Fin 128) :
    k0_pay10 v1 v15 v23 v31 v40 v46 (ix2 a b) = ∑ i : Fin 1536, k0_pay9 v1 v15 v23 v31 v40 v46 (ix2 ⟨a.val * 128 + b.val, by omega⟩ i) := by
  generalize hz : k0_pay9 v1 v15 v23 v31 v40 v46 = z
  pointwise [k0_pay10, hz]

theorem dc_pay (v1 : Vec Ideal S4096 .f32) (v15 : FVec Ideal S4096x1536 .f32) (v23 : IVec S4096x1536 8) (v31 : FVec Ideal S4096x1536 .f32)
    (v40 : FVec Ideal S6144x1536 .bf16) (v46 : Vec Ideal S24x256x4096 .bf16) (a : Fin 1) (b : Fin 1536) :
    k0_pay11 v1 v15 v23 v31 v40 v46 (ix2 a b) = ∑ o : Fin 4096, k0_pay9 v1 v15 v23 v31 v40 v46 (ix2 o b) := by
  generalize hz : k0_pay9 v1 v15 v23 v31 v40 v46 = z
  pointwise [k0_pay11, hz]

theorem t1_pay (v1 : Vec Ideal S4096 .f32) (v15 : FVec Ideal S4096x1536 .f32) (v23 : IVec S4096x1536 8) (v31 : FVec Ideal S4096x1536 .f32)
    (v40 : FVec Ideal S6144x1536 .bf16) (v46 : Vec Ideal S24x256x4096 .bf16) (o : Fin 4096) (i : Fin 1536) :
    k0_pay12 v1 v15 v23 v31 v40 v46 (ix2 o i) = k0_pay8 v1 v23 v40 v46 (ix2 o i)
      * ((((v23 (ix2 o i)).toInt : ℝ) : EReal) - v31 (ix2 o i) * v15 (ix2 o i)) := by
  generalize hz : k0_pay8 v1 v23 v40 v46 = z
  pointwise [k0_pay12, hz]
  rfl

theorem ds1_pay (v77 : FVec Ideal S4096x1536 .f32) (a : Fin 32) (b : Fin 128) :
    k0_pay1 v77 (ix2 a b) = ∑ i : Fin 1536, v77 (ix2 ⟨a.val * 128 + b.val, by omega⟩ i) := by
  pointwise [k0_pay1]

/-! ## The results -/

/-- A sum by blocks of `8 * n`, each walked in steps of 8. -/
theorem reblock (m n : ℕ) (f : ℕ → EReal) :
    ∑ k : Fin 8, ∑ p ∈ Finset.range m, ∑ x ∈ Finset.range n, f (8 * n * p + (x * 8 + k.val)) = ∑ i ∈ Finset.range (8 * n * m), f i := by
  rw [sum_blocks m (8 * n), Finset.sum_comm]
  refine Finset.sum_congr rfl fun p _ => ?_
  rw [Finset.sum_comm, sum_blocks n 8 fun l => f (8 * n * p + l)]
  refine Finset.sum_congr rfl fun x _ => ?_
  rw [Finset.sum_range]
  refine Finset.sum_congr rfl fun k _ => ?_
  rw [Nat.mul_comm x 8]

/-- Dividing by 4096 is multiplying by its reciprocal. -/
theorem div4096 (x : EReal) : Ideal.div x (Ideal.ofBits .f32 0x45800000#32) = x * Ideal.ofBits .f32 0x39800000#32 := by
  have e1 : Ideal.ofBits .f32 0x45800000#32 = ((4096 : ℝ) : EReal) := by
    simp [Idealize.ShloMosaic.Ideal.ofBits, Idealize.ShloMosaic.Ideal.ieee, -EReal.coe_mul]; norm_num
  have e2 : Ideal.ofBits .f32 0x39800000#32 = ((1 / 4096 : ℝ) : EReal) := by
    simp [Idealize.ShloMosaic.Ideal.ofBits, Idealize.ShloMosaic.Ideal.ieee, -EReal.coe_mul]; norm_num
  rw [e1, e2, Ideal.div_coe (by norm_num)]

section
variable (a0 : Vec Ideal S24x256x1536 .fp8e4m3) (a1 : Vec Ideal S24x256x48 .f32) (a2 : Vec Ideal S4096x1536 .f32) (a3 : Vec Ideal S4096 .f32)
  (a4 : Vec Ideal S4096x1536 .f32) (a5 : Vec Ideal S4096 .f32) (a6 : Vec Ideal S1536 .f32) (a7 : Vec Ideal S24x256x4096 .bf16)

theorem zf_eq (o : Fin 4096) (i : Fin 1536) :
    zf (a2 (ix2 o i)) (a3 (ix1 o)) (a4 (ix2 o i)) (a5 (ix1 o)) (a6 (ix1 i)) = (argsOf a0 a1 a2 a3 a4 a5 a6 a7).Z o.val i.val := by
  rw [Args.Z, W_of _ _ _ _ _ _ _ _ _ _ o.isLt i.isLt, S2_of _ _ _ _ _ _ _ _ _ _ o.isLt i.isLt, S1_of _ _ _ _ _ _ _ _ _ o.isLt,
    R_of _ _ _ _ _ _ _ _ _ o.isLt, C_of _ _ _ _ _ _ _ _ _ i.isLt]

theorem z_at (o : Fin 4096) (i : Fin 1536) : k0_pay13 a0 a1 a2 a3 a4 a5 a6 a7 (ix2 o i) = (argsOf a0 a1 a2 a3 a4 a5 a6 a7).Z o.val i.val := by
  rw [← zf_eq, ← z_pay]
  unfold k0_pay13
  rw [View.ld_unit_zero (S := S4096x1536) hz2 _ a2, View.ld_unit_zero (S := S4096) hz3 _ a3, View.ld_unit_zero (S := S4096x1536) hz2 _ a4,
    View.ld_unit_zero (S := S4096) hz3 _ a5, View.ld_unit_zero (S := S1536) hz6 _ a6]

theorem code_at (o : Fin 4096) (i : Fin 1536) : k0_pay14 a0 a1 a2 a3 a4 a5 a6 a7 (ix2 o i) = cf ((argsOf a0 a1 a2 a3 a4 a5 a6 a7).Z o.val i.val) := by
  rw [← zf_eq, ← code_pay]
  unfold k0_pay14
  rw [View.ld_unit_zero (S := S4096x1536) hz2 _ a2, View.ld_unit_zero (S := S4096) hz3 _ a3, View.ld_unit_zero (S := S4096x1536) hz2 _ a4,
    View.ld_unit_zero (S := S4096) hz3 _ a5, View.ld_unit_zero (S := S1536) hz6 _ a6]

theorem mask_at (o : Fin 4096) (i : Fin 1536) : k0_pay15 a0 a1 a2 a3 a4 a5 a6 a7 (ix2 o i) = kf ((argsOf a0 a1 a2 a3 a4 a5 a6 a7).Z o.val i.val) := by
  rw [← zf_eq, ← mask_pay]
  unfold k0_pay15
  rw [View.ld_unit_zero (S := S4096x1536) hz2 _ a2, View.ld_unit_zero (S := S4096) hz3 _ a3, View.ld_unit_zero (S := S4096x1536) hz2 _ a4,
    View.ld_unit_zero (S := S4096) hz3 _ a5, View.ld_unit_zero (S := S1536) hz6 _ a6]

theorem xs_at (t : Fin 6144) (i : Fin 1536) : k0_pay16 a0 a1 a2 a3 a4 a5 a6 a7 (ix2 t i) = (argsOf a0 a1 a2 a3 a4 a5 a6 a7).xs t.val i.val := by
  have hi := i.isLt
  rw [Args.xs, X_of _ _ _ _ _ _ _ _ _ _ t.isLt i.isLt, XS_of _ _ _ _ _ _ _ _ _ _ t.isLt (by omega : i.val / 32 < 48), ← xs_pay a0 a1 t i]
  unfold k0_pay16
  rw [View.ld_unit_zero (S := S24x256x1536) hz0 _ a0, View.ld_unit_zero (S := S24x256x48) hz1 _ a1]

theorem res_at (t : Fin 6144) (o : Fin 4096) :
    k0_pay6 a3 (k0_pay14 a0 a1 a2 a3 a4 a5 a6 a7) (k0_pay16 a0 a1 a2 a3 a4 a5 a6 a7) a7 (ix2 t o) = (argsOf a0 a1 a2 a3 a4 a5 a6 a7).res o.val t.val := by
  rw [res_pay, Args.res, YT_of _ _ _ _ _ _ _ _ _ _ t.isLt o.isLt, S1_of _ _ _ _ _ _ _ _ _ o.isLt, Finset.sum_range]
  congr 2
  refine Finset.sum_congr rfl fun k _ => ?_
  rw [xs_at, code_at, cf_toInt, mul_comm]
  rfl

theorem G13_at (o : Fin 4096) (i : Fin 1536) : G13 a0 a1 a2 a3 a4 a5 a6 a7 (ix2 o i) = cf ((argsOf a0 a1 a2 a3 a4 a5 a6 a7).Z o.val i.val) := code_at a0 a1 a2 a3 a4 a5 a6 a7 o i

theorem G8_at (a : Fin 4) (b : Fin 1536) : G8 a0 a1 a2 a3 a4 a5 a6 a7 (ix2 a b)
    = (∑ k : Fin 8, ∑ m ∈ Finset.range 8, ∑ x ∈ Finset.range 64, (argsOf a0 a1 a2 a3 a4 a5 a6 a7).sq (512 * m + (x * 8 + k.val)) (1536 * a.val + b.val))
      * Ideal.ofBits .f32 0x39800000#32 := by
  unfold G8
  rw [loss_pay, div4096, reblock 8 64 fun o => (argsOf a0 a1 a2 a3 a4 a5 a6 a7).sq o (1536 * a.val + b.val), Finset.sum_range]
  congr 1
  refine Finset.sum_congr rfl fun o _ => ?_
  rw [res_at, Args.sq, Nat.mul_comm 1536 a.val]

theorem g_at (o : Fin 4096) (i : Fin 1536) :
    k0_pay8 a3 (k0_pay14 a0 a1 a2 a3 a4 a5 a6 a7) (k0_pay16 a0 a1 a2 a3 a4 a5 a6 a7) a7 (ix2 o i) = (argsOf a0 a1 a2 a3 a4 a5 a6 a7).G o.val i.val := by
  rw [g_pay, Args.G, Args.Gn, Finset.sum_range]
  refine Finset.sum_congr rfl fun t _ => ?_
  rw [res_at, xs_at, Args.E]

theorem G9_at (o : Fin 4096) (i : Fin 1536) : G9 a0 a1 a2 a3 a4 a5 a6 a7 (ix2 o i) = (argsOf a0 a1 a2 a3 a4 a5 a6 a7).DS2 o.val i.val := by
  unfold G9
  rw [ds2_pay, mask_at, z_at, g_at, mul_assoc (0 - a3 (ix1 o)), kf_mul, Args.DS2, S1_of _ _ _ _ _ _ _ _ _ o.isLt]

theorem G10_at (a : Fin 32) (b : Fin 128) : G10 a0 a1 a2 a3 a4 a5 a6 a7 (ix2 a b)
    = ∑ i ∈ Finset.range 1536, (argsOf a0 a1 a2 a3 a4 a5 a6 a7).DS2 (128 * a.val + b.val) i := by
  unfold G10
  rw [dr_pay, Finset.sum_range]
  refine Finset.sum_congr rfl fun i _ => ?_
  rw [Nat.mul_comm 128 a.val]
  exact G9_at a0 a1 a2 a3 a4 a5 a6 a7 _ i

theorem G11_at (a : Fin 1) (b : Fin 1536) : G11 a0 a1 a2 a3 a4 a5 a6 a7 (ix2 a b)
    = ∑ k : Fin 8, ∑ p ∈ Finset.range 32, ∑ x ∈ Finset.range 16, (argsOf a0 a1 a2 a3 a4 a5 a6 a7).DS2 (128 * p + (x * 8 + k.val)) b.val := by
  unfold G11
  rw [dc_pay, reblock 32 16 fun o => (argsOf a0 a1 a2 a3 a4 a5 a6 a7).DS2 o b.val, Finset.sum_range]
  exact Finset.sum_congr rfl fun o _ => G9_at a0 a1 a2 a3 a4 a5 a6 a7 o b

theorem G12_at (a : Fin 32) (b : Fin 128) : G12 a0 a1 a2 a3 a4 a5 a6 a7 (ix2 a b)
    = ∑ i ∈ Finset.range 1536, (argsOf a0 a1 a2 a3 a4 a5 a6 a7).T1 (128 * a.val + b.val) i := by
  unfold G12
  rw [ds1_pay, Finset.sum_range]
  refine Finset.sum_congr rfl fun i _ => ?_
  rw [Nat.mul_comm 128 a.val, t1_pay, g_at, code_at, cf_toInt, mask_at, z_at, kf_mul]
  rfl

end

end Cert.K.R
-- ==== Proof.K.Alg.lean ====
/- The kernel and the reference end with the same results over the extended reals. -/
module

public import proofs.«01_k».proof.Defs
public import proofs.«01_k».proof.Proof.K.Out
public import proofs.«01_k».proof.Proof.K.RefEq

@[expose] public section

noncomputable section

namespace Cert.K

open Idealize.ShloMosaic Idealize.ShloMosaic.TcCoe Idealize.SL.Sem
open Cert.KernelIdeal Cert.KernelIdeal.Gen
open Idealize.ShloMosaic.Pipeline (RDat Dat)

theorem IK.zero (A : Args) (s : Scr Ideal) : IK A 0 s := fun Y =>
  ⟨fun _ _ h => absurd h (by simp), fun _ h => absurd h (by simp), fun _ h => absurd h (by simp), fun _ h => absurd h (by simp),
    fun _ h => absurd h (by simp), fun _ h => absurd h (by simp), fun _ _ _ h => absurd h (by simp), fun h => absurd h (by simp)⟩

/-- The kernel's run ends with the reference's results of its arguments. -/
theorem runs (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6_0) = R.G8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v6_1) = R.G9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v6_2) = R.G10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v6_3) = R.G11 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v6_4) = R.G12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v6_5) = R.G13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_)
    (launch m ρ (fun c => aftK (argsAt m c)) (fun c => IK (argsAt m c)) (fun c s => IK.zero _ s) (fun c t σ hf hI => kept m c t σ hf hI))
  obtain ⟨after, hL, hA⟩ := RDat.FramePost.exists_exact h.1 c
  exact ⟨(hA 8).trans (out8 m c after hL _ fun a b => R.G8_at _ _ _ _ _ _ _ _ a b),
    (hA 9).trans (out9 m c after hL _ fun a b => R.G9_at _ _ _ _ _ _ _ _ a b),
    (hA 10).trans (out10 m c after hL _ fun a b => R.G10_at _ _ _ _ _ _ _ _ a b),
    (hA 11).trans (out11 m c after hL _ fun a b => R.G11_at _ _ _ _ _ _ _ _ a b),
    (hA 12).trans (out12 m c after hL _ fun a b => R.G12_at _ _ _ _ _ _ _ _ a b),
    (hA 13).trans (out13 m c after hL _ fun a b => R.G13_at _ _ _ _ _ _ _ _ a b),
    args_kept m _ _ r h.1 c⟩

/-- The kernel and the reference, from memories agreeing on the arguments, end with equal results. -/
theorem algebraic : Cert.algebraic_KernelIdeal_ReferenceIdeal := by
  intro m g m' g' _ ha
  refine ⟨fun c => R.G8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    fun c => R.G9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    fun c => R.G10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    fun c => R.G11 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    fun c => R.G12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    fun c => R.G13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)),
    fun c => m ((c.tc : Thread nD τ).loc main_arg3), ?_, ?_⟩
  · refine (θ_run defs _ _).mono (fun r h c => ?_) (runs m g)
    obtain ⟨g8, g9, g10, g11, g12, g13, k0, k1, k2, k3, k4, k5, k6, k7⟩ := h c
    exact ⟨g8, g9, g10, g11, g12, g13, k3, k0, k1, k2, k3, k4, k5, k6, k7⟩
  · refine (θ_run Cert.ReferenceIdeal.defs _ _).mono (fun r h c => ?_) (R.run m' g')
    obtain ⟨g8, g9, g10, g11, g12, g13, k0, k1, k2, k3, k4, k5, k6, k7⟩ := h c
    obtain ⟨a0, a1, a2, a3, a4, a5, a6, a7⟩ := ha c
    rw [a0, a1, a2, a3, a4, a5, a6, a7] at g8 g9 g10 g11 g12 g13
    exact ⟨g8, g9, g10, g11, g12, g13, k3.trans a3, k0, k1, k2, k3, k4, k5, k6, k7⟩

end Cert.K
-- ==== Proof.lean ====
/- The proof of the certificate's claims: each program runs to the end and keeps its arguments, and over the extended reals
the kernel and the reference end with equal results. -/
module

public import proofs.«01_k».proof.Defs
public import proofs.«01_k».proof.Proof.K.LaunchP
public import proofs.«01_k».proof.Proof.K.Alg
public import proofs.«01_k».proof.Proof.Gen.ReferenceIdeal.Frame

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m g _ => Cert.K.P.framed m g,
    fun m g _ => Cert.K.framed m g,
    fun m g _ => Cert.ReferenceIdeal.Gen.frame m g,
    trivial,
    Cert.K.algebraic⟩

end Cert.Proof

end
